-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)) →
    ∃ (v0 : (c : Dev Cert.InKernelIdeal.nD) → Buf (Elt Ideal) ((c.tc : Thread Cert.InKernelIdeal.nD Cert.InKernelIdeal.τ).loc Cert.InKernelIdeal.main_v68)) (v1 : (c : Dev Cert.InKernelIdeal.nD) → Buf (Elt Ideal) ((c.tc : Thread Cert.InKernelIdeal.nD Cert.InKernelIdeal.τ).loc Cert.InKernelIdeal.main_v70)) (v2 : (c : Dev Cert.InKernelIdeal.nD) → Buf (Elt Ideal) ((c.tc : Thread Cert.InKernelIdeal.nD Cert.InKernelIdeal.τ).loc Cert.InKernelIdeal.main_v72)) (v3 : (c : Dev Cert.InKernelIdeal.nD) → Buf (Elt Ideal) ((c.tc : Thread Cert.InKernelIdeal.nD Cert.InKernelIdeal.τ).loc Cert.InKernelIdeal.main_v73)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v68) = v0 c
          ∧ r.2.mem ((c.tc : Thread Cert.InKernelIdeal.nD Cert.InKernelIdeal.τ).loc Cert.InKernelIdeal.main_v70) = v1 c
          ∧ r.2.mem ((c.tc : Thread Cert.InKernelIdeal.nD Cert.InKernelIdeal.τ).loc Cert.InKernelIdeal.main_v72) = v2 c
          ∧ r.2.mem ((c.tc : Thread Cert.InKernelIdeal.nD Cert.InKernelIdeal.τ).loc Cert.InKernelIdeal.main_v73) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v196) = v0 c
          ∧ r.2.mem ((c.tc : Thread Cert.InReferenceIdeal.nD Cert.InReferenceIdeal.τ).loc Cert.InReferenceIdeal.main_v176) = v1 c
          ∧ r.2.mem ((c.tc : Thread Cert.InReferenceIdeal.nD Cert.InReferenceIdeal.τ).loc Cert.InReferenceIdeal.main_v176) = v2 c
          ∧ r.2.mem ((c.tc : Thread Cert.InReferenceIdeal.nD Cert.InReferenceIdeal.τ).loc Cert.InReferenceIdeal.main_v199) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)
      ∧ m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6)) →
    ∃ (v0 : (c : Dev Cert.UpKernelIdeal.nD) → Buf (Elt Ideal) ((c.tc : Thread Cert.UpKernelIdeal.nD Cert.UpKernelIdeal.τ).loc Cert.UpKernelIdeal.main_v9)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v9) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v63) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v10) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v27)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v27) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v29) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hMixKernel : Cert.MixKernel.Facts) (hMixKernelIdeal : Cert.MixKernelIdeal.Facts) (hMixReferenceIdeal : Cert.MixReferenceIdeal.Facts) (hNormKernel : Cert.NormKernel.Facts) (hNormKernelIdeal : Cert.NormKernelIdeal.Facts) (hNormReferenceIdeal : Cert.NormReferenceIdeal.Facts) (hModKernel : Cert.ModKernel.Facts) (hModKernelIdeal : Cert.ModKernelIdeal.Facts) (hModReferenceIdeal : Cert.ModReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_MixKernel_MixKernelIdeal
    ∧ algebraic_MixKernelIdeal_MixReferenceIdeal (hMixKernelIdeal := hMixKernelIdeal) (hMixReferenceIdeal := hMixReferenceIdeal)
    ∧ preserves_NormKernel_NormKernelIdeal
    ∧ algebraic_NormKernelIdeal_NormReferenceIdeal (hNormKernelIdeal := hNormKernelIdeal) (hNormReferenceIdeal := hNormReferenceIdeal)
    ∧ preserves_ModKernel_ModKernelIdeal
    ∧ algebraic_ModKernelIdeal_ModReferenceIdeal (hModKernelIdeal := hModKernelIdeal) (hModReferenceIdeal := hModReferenceIdeal)
-- ==== Pre_finite.lean ====
abbrev S16x2048x8x128 : Shape := ⟨4, ![16, 2048, 8, 128]⟩
abbrev S_ : Shape := ⟨0, ![]⟩

class Facts : Prop where
  bcast_S_S16x2048x8x128 : S_.BroadcastsInDim S16x2048x8x128 (![] : Fin 0 → Fin S16x2048x8x128.rank)
  reducesTo_S16x2048x8x128_S_d0_1_2_3 : S16x2048x8x128.ReducesTo [0, 1, 2, 3] S_
  h_S_ : 0 < S_.numel

variable [Facts]

def fn {F : FTy → Type} [FloatOps F] (main_arg0 : FVec F S16x2048x8x128 .f32) (main_arg1 : FVec F S16x2048x8x128 .f32) (main_arg2 : FVec F S16x2048x8x128 .f32) : IVec S_ 1 :=
  let main_v0 : FVec F S16x2048x8x128 .f32 := Host.absf main_arg0
  let main_cst : FVec F S_ .f32 := constant S_ .f32 0x7F800000#32
  let main_v1 : FVec F S16x2048x8x128 .f32 := broadcastInDim S16x2048x8x128 ![] bcast_S_S16x2048x8x128 main_cst
  let main_v2 : IVec S16x2048x8x128 1 := cmpf .olt main_v0 main_v1
  let main_c : IVec S_ 1 := constantI S_ 1 1#1
  let main_v3 : IVec S_ 1 := (fun x v => Host.reduce IntOp.andi x v reducesTo_S16x2048x8x128_S_d0_1_2_3 h_S_) main_v2 main_c
  let main_v4 : FVec F S16x2048x8x128 .f32 := Host.absf main_arg1
  let main_cst_0 : FVec F S_ .f32 := constant S_ .f32 0x7F800000#32
  let main_v5 : FVec F S16x2048x8x128 .f32 := broadcastInDim S16x2048x8x128 ![] bcast_S_S16x2048x8x128 main_cst_0
  let main_v6 : IVec S16x2048x8x128 1 := cmpf .olt main_v4 main_v5
  let main_c_1 : IVec S_ 1 := constantI S_ 1 1#1
  let main_v7 : IVec S_ 1 := (fun x v => Host.reduce IntOp.andi x v reducesTo_S16x2048x8x128_S_d0_1_2_3 h_S_) main_v6 main_c_1
  let main_v8 : IVec S_ 1 := andi main_v3 main_v7
  let main_v9 : FVec F S16x2048x8x128 .f32 := Host.absf main_arg2
  let main_cst_2 : FVec F S_ .f32 := constant S_ .f32 0x7F800000#32
  let main_v10 : FVec F S16x2048x8x128 .f32 := broadcastInDim S16x2048x8x128 ![] bcast_S_S16x2048x8x128 main_cst_2
  let main_v11 : IVec S16x2048x8x128 1 := cmpf .olt main_v9 main_v10
  let main_c_3 : IVec S_ 1 := constantI S_ 1 1#1
  let main_v12 : IVec S_ 1 := (fun x v => Host.reduce IntOp.andi x v reducesTo_S16x2048x8x128_S_d0_1_2_3 h_S_) main_v11 main_c_3
  let main_v13 : IVec S_ 1 := andi main_v8 main_v12
  main_v13
-- ==== Kernel.lean ====
abbrev S16x2048x8x128 : Shape := ⟨4, ![16, 2048, 8, 128]⟩
abbrev S_ : Shape := ⟨0, ![]⟩
abbrev S8x16x2048x128 : Shape := ⟨4, ![8, 16, 2048, 128]⟩
abbrev S8x32768x128 : Shape := ⟨3, ![8, 32768, 128]⟩
abbrev S24x32768x128 : Shape := ⟨3, ![24, 32768, 128]⟩
abbrev S256x256 : Shape := ⟨2, ![256, 256]⟩
abbrev S32768x1024 : Shape := ⟨2, ![32768, 1024]⟩
abbrev S2x2048x128 : Shape := ⟨3, ![2, 2048, 128]⟩
abbrev S2048x256 : Shape := ⟨2, ![2048, 256]⟩
abbrev S1x256x128 : Shape := ⟨3, ![1, 256, 128]⟩
abbrev S256x128 : Shape := ⟨2, ![256, 128]⟩
abbrev S256x1 : Shape := ⟨2, ![256, 1]⟩

abbrev nBuf : Space → Nat
  | .hbm => 30
  | .vmem => 9
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x128, .f32⟩
  | .hbm, ⟨2, _⟩ => ⟨S16x2048x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x16x2048x128, .f32⟩
  | .hbm, ⟨11, _⟩ => ⟨S8x32768x128, .f32⟩
  | .hbm, ⟨12, _⟩ => ⟨S8x32768x128, .f32⟩
  | .hbm, ⟨13, _⟩ => ⟨S8x32768x128, .f32⟩
  | .hbm, ⟨14, _⟩ => ⟨S8x16x2048x128, .f32⟩
  | .hbm, ⟨15, _⟩ => ⟨S8x32768x128, .f32⟩
  | .hbm, ⟨16, _⟩ => ⟨S8x16x2048x128, .f32⟩
  | .hbm, ⟨17, _⟩ => ⟨S8x32768x128, .f32⟩
  | .hbm, ⟨18, _⟩ => ⟨S24x32768x128, .f32⟩
  | .hbm, ⟨19, _⟩ => ⟨S24x32768x128, .bf16⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S_, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S256x256, .bf16⟩
  | .hbm, ⟨29, _⟩ => ⟨S32768x1024, .bf16⟩
  | .local _ .vmem, ⟨0, _⟩ => ⟨S2x2048x128, .bf16⟩
  | .local _ .vmem, ⟨1, _⟩ => ⟨S2x2048x128, .bf16⟩
  | .local _ .vmem, ⟨2, _⟩ => ⟨S2x2048x128, .bf16⟩
  | .local _ .vmem, ⟨3, _⟩ => ⟨S2x2048x128, .bf16⟩
  | .local _ .vmem, ⟨4, _⟩ => ⟨S2x2048x128, .bf16⟩
  | .local _ .vmem, ⟨5, _⟩ => ⟨S2x2048x128, .bf16⟩
  | .local _ .vmem, ⟨6, _⟩ => ⟨S256x256, .bf16⟩
  | .local _ .vmem, ⟨7, _⟩ => ⟨S2048x256, .bf16⟩
  | .local _ .vmem, ⟨8, _⟩ => ⟨S2048x256, .bf16⟩
  | _, _ => ⟨S16x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.muli arg0 c1_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x8x128 : Shape := ⟨4, ![16, 2048, 8, 128]⟩
abbrev S2048 : Shape := ⟨1, ![2048]⟩
abbrev S16x8x2048x2048 : Shape := ⟨4, ![16, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x128x2048 : Shape := ⟨4, ![16, 8, 128, 2048]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x128, .f32⟩
  | .hbm, ⟨2, _⟩ => ⟨S16x2048x8x128, .f32⟩
  | .hbm, ⟨3, _⟩ => ⟨S2048, .i32⟩
  | .hbm, ⟨4, _⟩ => ⟨S16x8x2048x2048, .f32⟩
  | .hbm, ⟨5, _⟩ => ⟨S_, .f32⟩
  | .hbm, ⟨6, _⟩ => ⟨S_, .f32⟩
  | .hbm, ⟨7, _⟩ => ⟨S16x8x2048x2048, .f32⟩
  | .hbm, ⟨8, _⟩ => ⟨S16x8x2048x2048, .f32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S1x1x2048x2048, .i1⟩
  | .hbm, ⟨15, _⟩ => ⟨S_, .f32⟩
  | .hbm, ⟨16, _⟩ => ⟨S16x8x2048x2048, .f32⟩
  | .hbm, ⟨17, _⟩ => ⟨S16x8x2048x2048, .f32⟩
  | .hbm, ⟨18, _⟩ => ⟨S16x8x2048x2048, .f32⟩
  | .hbm, ⟨19, _⟩ => ⟨S16x8x2048x2048, .f32⟩
  | .hbm, ⟨20, _⟩ => ⟨S16x8x2048x2048, .i1⟩
  | .hbm, ⟨21, _⟩ => ⟨S16x8x2048x2048, .f32⟩
  | .hbm, ⟨22, _⟩ => ⟨S16x8x2048x2048, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S_, .f32⟩
  | .hbm, ⟨31, _⟩ => ⟨S_, .f32⟩
  | .hbm, ⟨32, _⟩ => ⟨S16x8x2048x2048, .i1⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S_, .f32⟩
  | .hbm, ⟨37, _⟩ => ⟨S16x8x2048x2048, .f32⟩
  | .hbm, ⟨38, _⟩ => ⟨S16x8x2048x2048, .f32⟩
  | .hbm, ⟨39, _⟩ => ⟨S16x8x2048x2048, .f32⟩
  | .hbm, ⟨40, _⟩ => ⟨S_, .f32⟩
  | .hbm, ⟨41, _⟩ => ⟨S16x8x2048x2048, .f32⟩
  | .hbm, ⟨42, _⟩ => ⟨S16x8x2048x2048, .f32⟩
  | .hbm, ⟨43, _⟩ => ⟨S16x8x2048x2048, .f32⟩
  | .hbm, ⟨44, _⟩ => ⟨S16x8x2048x2048, .f32⟩
  | .hbm, ⟨45, _⟩ => ⟨S16x8x2048x2048, .i1⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S_, .f32⟩
  | .hbm, ⟨58, _⟩ => ⟨S_, .f32⟩
  | .hbm, ⟨59, _⟩ => ⟨S16x8x2048x2048, .i1⟩
  | .hbm, ⟨60, _⟩ => ⟨S16x8x2048x2048, .f32⟩
  | .hbm, ⟨61, _⟩ => ⟨S16x8x2048x2048, .f32⟩
  | .hbm, ⟨62, _⟩ => ⟨S16x8x128x2048, .f32⟩
  | .hbm, ⟨63, _⟩ => ⟨S16x2048x8x128, .f32⟩
  | .hbm, ⟨64, _⟩ => ⟨S32768x1024, .f32⟩
  | .hbm, ⟨65, _⟩ => ⟨S32768x1024, .bf16⟩
  | _, _ => ⟨S16x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩

abbrev nD : Nat := 1
abbrev τ : Topo := Topo.v7x

variable {F : FTy → Type} [FloatOps F]
-- ==== InKernel.lean ====
abbrev S16x2048x2048 : Shape := ⟨3, ![16, 2048, 2048]⟩
abbrev S4x2048 : Shape := ⟨2, ![4, 2048]⟩
abbrev S16x1x2048 : Shape := ⟨3, ![16, 1, 2048]⟩
abbrev S4x2048x11344 : Shape := ⟨3, ![4, 2048, 11344]⟩
abbrev S16x2048 : Shape := ⟨2, ![16, 2048]⟩
abbrev S4x2048x1024 : Shape := ⟨3, ![4, 2048, 1024]⟩
abbrev S4x2048x64 : Shape := ⟨3, ![4, 2048, 64]⟩
abbrev S4x2048x16 : Shape := ⟨3, ![4, 2048, 16]⟩
abbrev S4x2048x2048 : Shape := ⟨3, ![4, 2048, 2048]⟩
abbrev S_ : Shape := ⟨0, ![]⟩
abbrev S4x2048x112 : Shape := ⟨3, ![4, 2048, 112]⟩
abbrev S4x2048x640 : Shape := ⟨3, ![4, 2048, 640]⟩
abbrev S4x2048x12288 : Shape := ⟨3, ![4, 2048, 12288]⟩
abbrev S32768 : Shape := ⟨1, ![32768]⟩
abbrev S64 : Shape := ⟨1, ![64]⟩
abbrev S32768x1 : Shape := ⟨2, ![32768, 1]⟩
abbrev S1x64 : Shape := ⟨2, ![1, 64]⟩
abbrev S32768x64 : Shape := ⟨2, ![32768, 64]⟩
abbrev S32768x128 : Shape := ⟨2, ![32768, 128]⟩
abbrev S32 : Shape := ⟨1, ![32]⟩
abbrev S1x32 : Shape := ⟨2, ![1, 32]⟩
abbrev S32768x32 : Shape := ⟨2, ![32768, 32]⟩
abbrev S32768x2048 : Shape := ⟨2, ![32768, 2048]⟩
abbrev S4x1x2048 : Shape := ⟨3, ![4, 1, 2048]⟩
abbrev S96x32768x128 : Shape := ⟨3, ![96, 32768, 128]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x128 : Shape := ⟨2, ![1024, 128]⟩
abbrev S8x1024x128 : Shape := ⟨3, ![8, 1024, 128]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩
abbrev S5x1024x128 : Shape := ⟨3, ![5, 1024, 128]⟩
abbrev S88x32768x128 : Shape := ⟨3, ![88, 32768, 128]⟩
abbrev S1x32768x64 : Shape := ⟨3, ![1, 32768, 64]⟩
abbrev S32768x16 : Shape := ⟨2, ![32768, 16]⟩

abbrev nBuf : Space → Nat
  | .hbm => 96
  | .vmem => 24
  | .smem => 0
  | _ => 0

abbrev bufTy : (tb : Table) → Fin (tcTables nBuf tb) → BufTy
  | .hbm, ⟨0, _⟩ => ⟨S16x2048x2048, .f32⟩
  | .hbm, ⟨1, _⟩ => ⟨S4x2048, .f32⟩
  | .hbm, ⟨2, _⟩ => ⟨S16x1x2048, .f32⟩
  | .hbm, ⟨3, _⟩ => ⟨S16x1x2048, .f32⟩
  | .hbm, ⟨4, _⟩ => ⟨S4x2048x11344, .f32⟩
  | .hbm, ⟨5, _⟩ => ⟨S16x2048, .i32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x64, .f32⟩
  | .hbm, ⟨14, _⟩ => ⟨S4x2048x16, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x64, .f32⟩
  | .hbm, ⟨19, _⟩ => ⟨S_, .f32⟩
  | .hbm, ⟨20, _⟩ => ⟨S4x2048x64, .f32⟩
  | .hbm, ⟨21, _⟩ => ⟨S_, .f32⟩
  | .hbm, ⟨22, _⟩ => ⟨S4x2048x112, .f32⟩
  | .hbm, ⟨23, _⟩ => ⟨S_, .f32⟩
  | .hbm, ⟨24, _⟩ => ⟨S4x2048x640, .f32⟩
  | .hbm, ⟨25, _⟩ => ⟨S4x2048x1024, .f32⟩
  | .hbm, ⟨26, _⟩ => ⟨S4x2048x12288, .f32⟩
  | .hbm, ⟨27, _⟩ => ⟨S4x2048x12288, .bf16⟩
  | .hbm, ⟨28, _⟩ => ⟨S32768, .i32⟩
  | .hbm, ⟨29, _⟩ => ⟨S32768, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S32768x1, .f32⟩
  | .hbm, ⟨47, _⟩ => ⟨S1x64, .f32⟩
  | .hbm, ⟨48, _⟩ => ⟨S32768x64, .f32⟩
  | .hbm, ⟨49, _⟩ => ⟨S32768x64, .f32⟩
  | .hbm, ⟨50, _⟩ => ⟨S32768x64, .f32⟩
  | .hbm, ⟨51, _⟩ => ⟨S32768x64, .f32⟩
  | .hbm, ⟨52, _⟩ => ⟨S32768x64, .f32⟩
  | .hbm, ⟨53, _⟩ => ⟨S32768x128, .f32⟩
  | .hbm, ⟨54, _⟩ => ⟨S32768x64, .f32⟩
  | .hbm, ⟨55, _⟩ => ⟨S32768x128, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S32768x1, .f32⟩
  | .hbm, ⟨73, _⟩ => ⟨S1x32, .f32⟩
  | .hbm, ⟨74, _⟩ => ⟨S32768x32, .f32⟩
  | .hbm, ⟨75, _⟩ => ⟨S32768x32, .f32⟩
  | .hbm, ⟨76, _⟩ => ⟨S32768x32, .f32⟩
  | .hbm, ⟨77, _⟩ => ⟨S32768x32, .f32⟩
  | .hbm, ⟨78, _⟩ => ⟨S32768x32, .f32⟩
  | .hbm, ⟨79, _⟩ => ⟨S_, .f32⟩
  | .hbm, ⟨80, _⟩ => ⟨S32768x32, .f32⟩
  | .hbm, ⟨81, _⟩ => ⟨S32768x128, .f32⟩
  | .hbm, ⟨82, _⟩ => ⟨S32768x32, .f32⟩
  | .hbm, ⟨83, _⟩ => ⟨S32768x32, .f32⟩
  | .hbm, ⟨84, _⟩ => ⟨S32768x128, .f32⟩
  | .hbm, ⟨85, _⟩ => ⟨S32768x128, .f32⟩
  | .hbm, ⟨86, _⟩ => ⟨S32768x2048, .f32⟩
  | .hbm, ⟨87, _⟩ => ⟨S4x1x2048, .f32⟩
  | .hbm, ⟨88, _⟩ => ⟨S96x32768x128, .bf16⟩
  | .hbm, ⟨89, _⟩ => ⟨S32768x128, .f32⟩
  | .hbm, ⟨90, _⟩ => ⟨S88x32768x128, .bf16⟩
  | .hbm, ⟨91, _⟩ => ⟨S1x32768x64, .bf16⟩
  | .hbm, ⟨92, _⟩ => ⟨S32768x64, .bf16⟩
  | .hbm, ⟨93, _⟩ => ⟨S1x32768x64, .bf16⟩
  | .hbm, ⟨94, _⟩ => ⟨S32768x64, .bf16⟩
  | .hbm, ⟨95, _⟩ => ⟨S32768x16, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S8x1024x128, .bf16⟩
  | .local _ .vmem, ⟨20, _⟩ => ⟨S8x1024x128, .bf16⟩
  | .local _ .vmem, ⟨21, _⟩ => ⟨S1024x128, .f32⟩
  | .local _ .vmem, ⟨22, _⟩ => ⟨S1024x128, .f32⟩
  | .local _ .vmem, ⟨23, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67_0 : Ref sig .tc := ⟨.hbm, 88, rfl⟩
abbrev main_v67_1 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c4_i32_17 : BitVec 32 := 4#32
  let v48 : BitVec 32 := Scalar.addi c0_i32_16 c4_i32_17
  let c1_i32 : BitVec 32 := 1#32
  ⟨c0_i32_16, v48, c1_i32⟩
def k0_mult1 (k0_t1 : Fin k0_t1_loop.trips) : BitVec 32 :=
  let c0_i32_16 : BitVec 32 := 0#32
  let c1_i32 : BitVec 32 := 1#32
  let arg15 : BitVec 32 := Scf.iv c0_i32_16 c1_i32 k0_t1
  let c256_i32 : BitVec 32 := 256#32
  let v49 : BitVec 32 := Scalar.muli arg15 c256_i32
  v49
def k0_off1 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let c256_i32 : BitVec 32 := 256#32
  let v49 : BitVec 32 := Scalar.muli arg15 c256_i32
  let v50 : BitVec 32 := v49
  let v51 : Index := Scalar.indexCast v50
  let c0 : Index := 0#32
  ![v51.toNat, 0]
def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let c2_i32_2 : BitVec 32 := 2#32
  let v6 : BitVec 1 := Scalar.cmpi .sge arg1 c2_i32_2
  let c4_i32 : BitVec 32 := 4#32
  let v7 : BitVec 1 := Scalar.cmpi .slt arg1 c4_i32
  let v8 : BitVec 1 := Scalar.andi v6 v7
  let v9 : BitVec 1 := Scalar.ori v5 v8
  let v10 : BitVec 32 := Scalar.extui v9
  let c0_i32_3 : BitVec 32 := 0#32
  let v11 : BitVec 1 := Scalar.cmpi .ne v10 c0_i32_3
  v11

def k0_cond3 (i : grid0.Coords) : BitVec 1 :=
  let arg1 : BitVec 32 := BitVec.ofNat 32 (i 1).val
  let c4_i32_4 : BitVec 32 := 4#32
  let v12 : BitVec 1 := Scalar.cmpi .sge arg1 c4_i32_4
  let c5_i32 : BitVec 32 := 5#32
  let v13 : BitVec 1 := Scalar.cmpi .slt arg1 c5_i32
  let v14 : BitVec 1 := Scalar.andi v12 v13
  let c5_i32_5 : BitVec 32 := 5#32
  let v15 : BitVec 1 := Scalar.cmpi .sge arg1 c5_i32_5
  let c6_i32 : BitVec 32 := 6#32
  let v16 : BitVec 1 := Scalar.cmpi .slt arg1 c6_i32
  let v17 : BitVec 1 := Scalar.andi v15 v16
  let v18 : BitVec 1 := Scalar.ori v14 v17
  let c6_i32_6 : BitVec 32 := 6#32
  let v19 : BitVec 1 := Scalar.cmpi .sge arg1 c6_i32_6
  let c7_i32 : BitVec 32 := 7#32
  let v20 : BitVec 1 := Scalar.cmpi .slt arg1 c7_i32
  let v21 : BitVec 1 := Scalar.andi v19 v20
  let v22 : BitVec 1 := Scalar.ori v18 v21
  let c9_i32 : BitVec 32 := 9#32
  let v23 : BitVec 1 := Scalar.cmpi .sge arg1 c9_i32
  let c10_i32 : BitVec 32 := 10#32
  let v24 : BitVec 1 := Scalar.cmpi .slt arg1 c10_i32
  let v25 : BitVec 1 := Scalar.andi v23 v24
  let v26 : BitVec 1 := Scalar.ori v22 v25
  let v27 : BitVec 32 := Scalar.extui v26
  let c0_i32_7 : BitVec 32 := 0#32
  let v28 : BitVec 1 := Scalar.cmpi .ne v27 c0_i32_7
  v28

def k0_cond4 (i : grid0.Coords) : BitVec 1 :=
  let arg1 : BitVec 32 := BitVec.ofNat 32 (i 1).val
  let c7_i32_8 : BitVec 32 := 7#32
  let v29 : BitVec 1 := Scalar.cmpi .sge arg1 c7_i32_8
  let c8_i32 : BitVec 32 := 8#32
  let v30 : BitVec 1 := Scalar.cmpi .slt arg1 c8_i32
  let v31 : BitVec 1 := Scalar.andi v29 v30
  let c8_i32_9 : BitVec 32 := 8#32
  let v32 : BitVec 1 := Scalar.cmpi .sge arg1 c8_i32_9
  let c9_i32_10 : BitVec 32 := 9#32
  let v33 : BitVec 1 := Scalar.cmpi .slt arg1 c9_i32_10
  let v34 : BitVec 1 := Scalar.andi v32 v33
  let v35 : BitVec 1 := Scalar.ori v31 v34
  let v36 : BitVec 32 := Scalar.extui v35
  let c0_i32_11 : BitVec 32 := 0#32
  let v37 : BitVec 1 := Scalar.cmpi .ne v36 c0_i32_11
  v37

def k0_cond5 (i : grid0.Coords) : BitVec 1 :=
  let arg1 : BitVec 32 := BitVec.ofNat 32 (i 1).val
  let c10_i32_12 : BitVec 32 := 10#32
  let v38 : BitVec 1 := Scalar.cmpi .sge arg1 c10_i32_12
  let c11_i32 : BitVec 32 := 11#32
  let v39 : BitVec 1 := Scalar.cmpi .slt arg1 c11_i32
  let v40 : BitVec 1 := Scalar.andi v38 v39
  let v41 : BitVec 32 := Scalar.extui v40
  let c0_i32_13 : BitVec 32 := 0#32
  let v42 : BitVec 1 := Scalar.cmpi .ne v41 c0_i32_13
  v42

def k0_cond6 (i : grid0.Coords) : BitVec 1 :=
  let arg1 : BitVec 32 := BitVec.ofNat 32 (i 1).val
  let c11_i32_14 : BitVec 32 := 11#32
  let v43 : BitVec 1 := Scalar.cmpi .sge arg1 c11_i32_14
  let c12_i32 : BitVec 32 := 12#32
  let v44 : BitVec 1 := Scalar.cmpi .slt arg1 c12_i32
  let v45 : BitVec 1 := Scalar.andi v43 v44
  let v46 : BitVec 32 := Scalar.extui v45
  let c0_i32_15 : BitVec 32 := 0#32
  let v47 : BitVec 1 := Scalar.cmpi .ne v46 c0_i32_15
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== InReferenceIdeal.lean ====
abbrev S16x2048x2048 : Shape := ⟨3, ![16, 2048, 2048]⟩
abbrev S4x2048 : Shape := ⟨2, ![4, 2048]⟩
abbrev S16x1x2048 : Shape := ⟨3, ![16, 1, 2048]⟩
abbrev S4x2048x11344 : Shape := ⟨3, ![4, 2048, 11344]⟩
abbrev S16x2048 : Shape := ⟨2, ![16, 2048]⟩
abbrev S1x2048 : Shape := ⟨2, ![1, 2048]⟩
abbrev S2048 : Shape := ⟨1, ![2048]⟩
abbrev S_ : Shape := ⟨0, ![]⟩
abbrev S16x2048x1 : Shape := ⟨3, ![16, 2048, 1]⟩
abbrev S1x1x2048 : Shape := ⟨3, ![1, 1, 2048]⟩
abbrev S1x2048x11344 : Shape := ⟨3, ![1, 2048, 11344]⟩
abbrev S2048x11344 : Shape := ⟨2, ![2048, 11344]⟩
abbrev S16x2048x11344 : Shape := ⟨3, ![16, 2048, 11344]⟩
abbrev S16x2048x1024 : Shape := ⟨3, ![16, 2048, 1024]⟩
abbrev S16x2048x64 : Shape := ⟨3, ![16, 2048, 64]⟩
abbrev S16x2048x16 : Shape := ⟨3, ![16, 2048, 16]⟩
abbrev S16x2048x8x128 : Shape := ⟨4, ![16, 2048, 8, 128]⟩
abbrev S64 : Shape := ⟨1, ![64]⟩
abbrev S1x1x64 : Shape := ⟨3, ![1, 1, 64]⟩
abbrev S16x2048x1x64 : Shape := ⟨4, ![16, 2048, 1, 64]⟩
abbrev S16x2048x8x64 : Shape := ⟨4, ![16, 2048, 8, 64]⟩
abbrev S16x2048x16x64 : Shape := ⟨4, ![16, 2048, 16, 64]⟩
abbrev S32 : Shape := ⟨1, ![32]⟩
abbrev S1x1x32 : Shape := ⟨3, ![1, 1, 32]⟩
abbrev S16x2048x32 : Shape := ⟨3, ![16, 2048, 32]⟩
abbrev S16x2048x1x32 : Shape := ⟨4, ![16, 2048, 1, 32]⟩
abbrev S16x2048x16x32 : Shape := ⟨4, ![16, 2048, 16, 32]⟩
abbrev S32768x64 : Shape := ⟨2, ![32768, 64]⟩
abbrev S16x2048x11264 : Shape := ⟨3, ![16, 2048, 11264]⟩
abbrev S32768x88x128 : Shape := ⟨3, ![32768, 88, 128]⟩
abbrev S88x32768x128 : Shape := ⟨3, ![88, 32768, 128]⟩
abbrev S32768x16 : Shape := ⟨2, ![32768, 16]⟩

abbrev nBuf : Space → Nat
  | .hbm => 237
  | .vmem => 0
  | .smem => 0
  | _ => 0

abbrev hbmTy0_0 (i : Nat) : BufTy := match i % 128 with
  | 0 => ⟨S16x2048x2048, .f32⟩
  | 1 => ⟨S4x2048, .f32⟩
  | 2 => ⟨S16x1x2048, .f32⟩
  | 3 => ⟨S16x1x2048, .f32⟩
  | 4 => ⟨S4x2048x11344, .f32⟩
  | 5 => ⟨S16x2048, .i32⟩
  | 6 => ⟨S1x2048, .f32⟩
  | 7 => ⟨S2048, .f32⟩
  | 8 => ⟨S16x2048x2048, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x2048, .f32⟩
  | 20 => ⟨S16x2048x2048, .f32⟩
  | 21 => ⟨S1x1x2048, .f32⟩
  | 22 => ⟨S16x2048x2048, .f32⟩
  | 23 => ⟨S16x2048x2048, .f32⟩
  | 24 => ⟨S_, .f32⟩
  | 25 => ⟨S16x1x2048, .f32⟩
  | 26 => ⟨S16x1x2048, .f32⟩
  | 27 => ⟨S16x2048x2048, .f32⟩
  | 28 => ⟨S16x2048x2048, .f32⟩
  | 29 => ⟨S16x2048x2048, .f32⟩
  | 30 => ⟨S16x2048x2048, .f32⟩
  | 31 => ⟨S1x2048x11344, .f32⟩
  | 32 => ⟨S2048x11344, .f32⟩
  | 33 => ⟨S16x2048x11344, .f32⟩
  | 34 => ⟨S16x2048x1024, .f32⟩
  | 35 => ⟨S16x2048x1024, .f32⟩
  | 36 => ⟨S16x2048x1024, .f32⟩
  | 37 => ⟨S16x2048x1024, .f32⟩
  | 38 => ⟨S16x2048x1024, .f32⟩
  | 39 => ⟨S16x2048x1024, .f32⟩
  | 40 => ⟨S16x2048x1024, .f32⟩
  | 41 => ⟨S16x2048x64, .f32⟩
  | 42 => ⟨S16x2048x16, .f32⟩
  | 43 => ⟨S16x2048x2048, .f32⟩
  | 44 => ⟨S16x2048x2048, .f32⟩
  | 45 => ⟨S16x2048x8x128, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S16x2048, .f32⟩
  | 63 => ⟨S16x2048x1, .f32⟩
  | 64 => ⟨S1x1x64, .f32⟩
  | 65 => ⟨S16x2048x64, .f32⟩
  | 66 => ⟨S16x2048x64, .f32⟩
  | 67 => ⟨S16x2048x64, .f32⟩
  | 68 => ⟨S16x2048x64, .f32⟩
  | 69 => ⟨S16x2048x1x64, .f32⟩
  | 70 => ⟨S16x2048x64, .f32⟩
  | 71 => ⟨S16x2048x1x64, .f32⟩
  | 72 => ⟨S16x2048x8x64, .f32⟩
  | 73 => ⟨S16x2048x8x64, .f32⟩
  | 74 => ⟨S16x2048x8x64, .f32⟩
  | 75 => ⟨S16x2048x8x64, .f32⟩
  | 76 => ⟨S16x2048x8x64, .f32⟩
  | 77 => ⟨S16x2048x8x64, .f32⟩
  | 78 => ⟨S16x2048x8x64, .f32⟩
  | 79 => ⟨S16x2048x8x64, .f32⟩
  | 80 => ⟨S16x2048x8x64, .f32⟩
  | 81 => ⟨S16x2048x8x64, .f32⟩
  | 82 => ⟨S16x2048x8x64, .f32⟩
  | 83 => ⟨S16x2048x8x64, .f32⟩
  | 84 => ⟨S16x2048x8x128, .f32⟩
  | 85 => ⟨S16x2048x1024, .f32⟩
  | 86 => ⟨S16x2048x8x128, .f32⟩
  | 87 => ⟨S64, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S16x2048, .f32⟩
  | 104 => ⟨S16x2048x1, .f32⟩
  | 105 => ⟨S1x1x64, .f32⟩
  | 106 => ⟨S16x2048x64, .f32⟩
  | 107 => ⟨S16x2048x64, .f32⟩
  | 108 => ⟨S16x2048x64, .f32⟩
  | 109 => ⟨S16x2048x64, .f32⟩
  | 110 => ⟨S16x2048x1x64, .f32⟩
  | 111 => ⟨S16x2048x64, .f32⟩
  | 112 => ⟨S16x2048x1x64, .f32⟩
  | 113 => ⟨S16x2048x8x64, .f32⟩
  | 114 => ⟨S16x2048x8x64, .f32⟩
  | 115 => ⟨S16x2048x8x64, .f32⟩
  | 116 => ⟨S16x2048x8x64, .f32⟩
  | 117 => ⟨S16x2048x8x64, .f32⟩
  | 118 => ⟨S16x2048x8x64, .f32⟩
  | 119 => ⟨S16x2048x8x64, .f32⟩
  | 120 => ⟨S16x2048x8x64, .f32⟩
  | 121 => ⟨S16x2048x8x64, .f32⟩
  | 122 => ⟨S16x2048x8x64, .f32⟩
  | 123 => ⟨S16x2048x8x64, .f32⟩
  | 124 => ⟨S16x2048x8x64, .f32⟩
  | 125 => ⟨S16x2048x8x128, .f32⟩
  | 126 => ⟨S16x2048x1024, .f32⟩
  | 127 => ⟨S16x2048x16x64, .f32⟩
  | _ => ⟨S16x2048x2048, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S16x2048, .f32⟩
  | 17 => ⟨S16x2048x1, .f32⟩
  | 18 => ⟨S1x1x32, .f32⟩
  | 19 => ⟨S16x2048x32, .f32⟩
  | 20 => ⟨S16x2048x32, .f32⟩
  | 21 => ⟨S16x2048x32, .f32⟩
  | 22 => ⟨S16x2048x32, .f32⟩
  | 23 => ⟨S16x2048x1x32, .f32⟩
  | 24 => ⟨S16x2048x32, .f32⟩
  | 25 => ⟨S16x2048x1x32, .f32⟩
  | 26 => ⟨S16x2048x16x32, .f32⟩
  | 27 => ⟨S16x2048x16x32, .f32⟩
  | 28 => ⟨S16x2048x16x32, .f32⟩
  | 29 => ⟨S16x2048x16x32, .f32⟩
  | 30 => ⟨S16x2048x16x32, .f32⟩
  | 31 => ⟨S16x2048x16x32, .f32⟩
  | 32 => ⟨S16x2048x16x32, .f32⟩
  | 33 => ⟨S16x2048x16x32, .f32⟩
  | 34 => ⟨S16x2048x16x32, .f32⟩
  | 35 => ⟨S16x2048x16x32, .f32⟩
  | 36 => ⟨S16x2048x16x32, .f32⟩
  | 37 => ⟨S16x2048x16x32, .f32⟩
  | 38 => ⟨S16x2048x16x64, .f32⟩
  | 39 => ⟨S16x2048x1024, .f32⟩
  | 40 => ⟨S16x2048x1x64, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S16x2048, .f32⟩
  | 58 => ⟨S16x2048x1, .f32⟩
  | 59 => ⟨S1x1x32, .f32⟩
  | 60 => ⟨S16x2048x32, .f32⟩
  | 61 => ⟨S16x2048x32, .f32⟩
  | 62 => ⟨S16x2048x32, .f32⟩
  | 63 => ⟨S16x2048x32, .f32⟩
  | 64 => ⟨S16x2048x1x32, .f32⟩
  | 65 => ⟨S16x2048x32, .f32⟩
  | 66 => ⟨S16x2048x1x32, .f32⟩
  | 67 => ⟨S16x2048x1x32, .f32⟩
  | 68 => ⟨S16x2048x1x32, .f32⟩
  | 69 => ⟨S16x2048x1x32, .f32⟩
  | 70 => ⟨S16x2048x1x32, .f32⟩
  | 71 => ⟨S16x2048x1x32, .f32⟩
  | 72 => ⟨S16x2048x1x32, .f32⟩
  | 73 => ⟨S16x2048x1x32, .f32⟩
  | 74 => ⟨S16x2048x1x32, .f32⟩
  | 75 => ⟨S16x2048x1x64, .f32⟩
  | 76 => ⟨S16x2048x64, .f32⟩
  | 77 => ⟨S32768x64, .f32⟩
  | 78 => ⟨S32768x64, .bf16⟩
  | 79 => ⟨S16x2048x2048, .f32⟩
  | 80 => ⟨S16x2048x2048, .f32⟩
  | 81 => ⟨S_, .f32⟩
  | 82 => ⟨S16x2048x2048, .f32⟩
  | 83 => ⟨S16x2048x2048, .f32⟩
  | 84 => ⟨S_, .f32⟩
  | 85 => ⟨S16x2048x2048, .f32⟩
  | 86 => ⟨S16x2048x2048, .f32⟩
  | 87 => ⟨S16x2048x2048, .f32⟩
  | 88 => ⟨S16x2048x2048, .f32⟩
  | 89 => ⟨S_, .f32⟩
  | 90 => ⟨S16x2048x2048, .f32⟩
  | 91 => ⟨S16x2048x2048, .f32⟩
  | 92 => ⟨S_, .f32⟩
  | 93 => ⟨S16x2048x2048, .f32⟩
  | 94 => ⟨S16x2048x2048, .f32⟩
  | 95 => ⟨S_, .f32⟩
  | 96 => ⟨S16x2048x1024, .f32⟩
  | 97 => ⟨S16x2048x1024, .f32⟩
  | 98 => ⟨S_, .f32⟩
  | 99 => ⟨S16x2048x1024, .f32⟩
  | 100 => ⟨S16x2048x1024, .f32⟩
  | 101 => ⟨S16x2048x11264, .f32⟩
  | 102 => ⟨S32768x88x128, .f32⟩
  | 103 => ⟨S88x32768x128, .f32⟩
  | 104 => ⟨S88x32768x128, .bf16⟩
  | 105 => ⟨S32768x16, .f32⟩
  | 106 => ⟨S_, .f32⟩
  | 107 => ⟨S32768x16, .f32⟩
  | 108 => ⟨S32768x16, .f32⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_13 : Ref sig .tc := ⟨.hbm, 129, rfl⟩
abbrev main_v109 : Ref sig .tc := ⟨.hbm, 130, rfl⟩
abbrev main_v110 : Ref sig .tc := ⟨.hbm, 131, rfl⟩
abbrev main_cst_14 : Ref sig .tc := ⟨.hbm, 132, rfl⟩
abbrev main_v111 : Ref sig .tc := ⟨.hbm, 133, rfl⟩
abbrev main_v112 : Ref sig .tc := ⟨.hbm, 134, rfl⟩
abbrev main_cst_15 : Ref sig .tc := ⟨.hbm, 135, rfl⟩
abbrev main_v113 : Ref sig .tc := ⟨.hbm, 136, rfl⟩
abbrev main_v114 : Ref sig .tc := ⟨.hbm, 137, rfl⟩
abbrev main_cst_16 : Ref sig .tc := ⟨.hbm, 138, rfl⟩
abbrev main_v115 : Ref sig .tc := ⟨.hbm, 139, rfl⟩
abbrev main_v116 : Ref sig .tc := ⟨.hbm, 140, rfl⟩
abbrev main_cst_17 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_cst_18 : Ref sig .tc := ⟨.hbm, 170, rfl⟩
abbrev main_v145 : Ref sig .tc := ⟨.hbm, 171, rfl⟩
abbrev main_v146 : Ref sig .tc := ⟨.hbm, 172, rfl⟩
abbrev main_cst_19 : Ref sig .tc := ⟨.hbm, 173, rfl⟩
abbrev main_v147 : Ref sig .tc := ⟨.hbm, 174, rfl⟩
abbrev main_v148 : Ref sig .tc := ⟨.hbm, 175, rfl⟩
abbrev main_cst_20 : Ref sig .tc := ⟨.hbm, 176, rfl⟩
abbrev main_v149 : Ref sig .tc := ⟨.hbm, 177, rfl⟩
abbrev main_v150 : Ref sig .tc := ⟨.hbm, 178, rfl⟩
abbrev main_cst_21 : Ref sig .tc := ⟨.hbm, 179, rfl⟩
abbrev main_v151 : Ref sig .tc := ⟨.hbm, 180, rfl⟩
abbrev main_v152 : Ref sig .tc := ⟨.hbm, 181, rfl⟩
abbrev main_cst_22 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_cst_23 : Ref sig .tc := ⟨.hbm, 209, rfl⟩
abbrev main_v179 : Ref sig .tc := ⟨.hbm, 210, rfl⟩
abbrev main_v180 : Ref sig .tc := ⟨.hbm, 211, rfl⟩
abbrev main_cst_24 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_cst_25 : Ref sig .tc := ⟨.hbm, 217, rfl⟩
abbrev main_v185 : Ref sig .tc := ⟨.hbm, 218, rfl⟩
abbrev main_v186 : Ref sig .tc := ⟨.hbm, 219, rfl⟩
abbrev main_cst_26 : Ref sig .tc := ⟨.hbm, 220, rfl⟩
abbrev main_v187 : Ref sig .tc := ⟨.hbm, 221, rfl⟩
abbrev main_v188 : Ref sig .tc := ⟨.hbm, 222, rfl⟩
abbrev main_cst_27 : Ref sig .tc := ⟨.hbm, 223, rfl⟩
abbrev main_v189 : Ref sig .tc := ⟨.hbm, 224, rfl⟩
abbrev main_v190 : Ref sig .tc := ⟨.hbm, 225, rfl⟩
abbrev main_cst_28 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_29 : Ref sig .tc := ⟨.hbm, 234, rfl⟩
abbrev main_v198 : Ref sig .tc := ⟨.hbm, 235, rfl⟩
abbrev main_v199 : Ref sig .tc := ⟨.hbm, 236, rfl⟩

abbrev nD : Nat := 1
abbrev τ : Topo := Topo.v7x

variable {F : FTy → Type} [FloatOps F]
-- ==== UpKernel.lean ====
abbrev S16x2048x2048 : Shape := ⟨3, ![16, 2048, 2048]⟩
abbrev S4x2048 : Shape := ⟨2, ![4, 2048]⟩
abbrev S16x1x2048 : Shape := ⟨3, ![16, 1, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S32768x2048 : Shape := ⟨2, ![32768, 2048]⟩
abbrev S4x1x2048 : Shape := ⟨3, ![4, 1, 2048]⟩
abbrev S4x1x11264 : Shape := ⟨3, ![4, 1, 11264]⟩
abbrev S_ : Shape := ⟨0, ![]⟩
abbrev S4x4x11264 : Shape := ⟨3, ![4, 4, 11264]⟩
abbrev S4x8x11264 : Shape := ⟨3, ![4, 8, 11264]⟩
abbrev S4x8x2x11x512 : Shape := ⟨5, ![4, 8, 2, 11, 512]⟩
abbrev S4x11x8x2x512 : Shape := ⟨5, ![4, 11, 8, 2, 512]⟩
abbrev S4x11x8x1024 : Shape := ⟨4, ![4, 11, 8, 1024]⟩
abbrev S32768x5632 : Shape := ⟨2, ![32768, 5632]⟩
abbrev S1024x2048 : Shape := ⟨2, ![1024, 2048]⟩
abbrev S1x1x2048 : Shape := ⟨3, ![1, 1, 2048]⟩
abbrev S1x2048x512 : Shape := ⟨3, ![1, 2048, 512]⟩
abbrev S1x11x8x1024 : Shape := ⟨4, ![1, 11, 8, 1024]⟩
abbrev S1024x1024 : Shape := ⟨2, ![1024, 1024]⟩
abbrev S8x1024 : Shape := ⟨2, ![8, 1024]⟩
abbrev S11x8x1024 : Shape := ⟨3, ![11, 8, 1024]⟩
abbrev S1x2048 : Shape := ⟨2, ![1, 2048]⟩
abbrev S1024 : Shape := ⟨1, ![1024]⟩
abbrev S1024x1 : Shape := ⟨2, ![1024, 1]⟩
abbrev S1x8x1024 : Shape := ⟨3, ![1, 8, 1024]⟩
abbrev S1x1x8x1024 : Shape := ⟨4, ![1, 1, 8, 1024]⟩
abbrev S8x512 : Shape := ⟨2, ![8, 512]⟩
abbrev S128x2048 : Shape := ⟨2, ![128, 2048]⟩
abbrev S2048x512 : Shape := ⟨2, ![2048, 512]⟩
abbrev S128x512 : Shape := ⟨2, ![128, 512]⟩
abbrev S120x512 : Shape := ⟨2, ![120, 512]⟩
abbrev S1x512 : Shape := ⟨2, ![1, 512]⟩

abbrev nBuf : Space → Nat
  | .hbm => 18
  | .vmem => 21
  | .smem => 0
  | _ => 0

abbrev bufTy : (tb : Table) → Fin (tcTables nBuf tb) → BufTy
  | .hbm, ⟨0, _⟩ => ⟨S16x2048x2048, .f32⟩
  | .hbm, ⟨1, _⟩ => ⟨S4x2048, .f32⟩
  | .hbm, ⟨2, _⟩ => ⟨S16x1x2048, .f32⟩
  | .hbm, ⟨3, _⟩ => ⟨S16x1x2048, .f32⟩
  | .hbm, ⟨4, _⟩ => ⟨S4x2048x11264, .f32⟩
  | .hbm, ⟨5, _⟩ => ⟨S4x3x11264, .f32⟩
  | .hbm, ⟨6, _⟩ => ⟨S4x11264, .f32⟩
  | .hbm, ⟨7, _⟩ => ⟨S32768x2048, .f32⟩
  | .hbm, ⟨8, _⟩ => ⟨S4x1x2048, .f32⟩
  | .hbm, ⟨9, _⟩ => ⟨S4x2048x11264, .bf16⟩
  | .hbm, ⟨10, _⟩ => ⟨S4x1x11264, .f32⟩
  | .hbm, ⟨11, _⟩ => ⟨S_, .f32⟩
  | .hbm, ⟨12, _⟩ => ⟨S4x4x11264, .f32⟩
  | .hbm, ⟨13, _⟩ => ⟨S4x8x11264, .f32⟩
  | .hbm, ⟨14, _⟩ => ⟨S4x8x2x11x512, .f32⟩
  | .hbm, ⟨15, _⟩ => ⟨S4x11x8x2x512, .f32⟩
  | .hbm, ⟨16, _⟩ => ⟨S4x11x8x1024, .f32⟩
  | .hbm, ⟨17, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x11x8x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S8x1024, .f32⟩
  | .local _ .vmem, ⟨20, _⟩ => ⟨S11x8x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 6], ![false, false]⟩

def k0_cond3 (i : grid0.Coords) : BitVec 1 :=
  let arg0 : BitVec 32 := BitVec.ofNat 32 (i 0).val
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi arg0 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c0_i32_15 : BitVec 32 := 0#32
  let v28 : BitVec 1 := Scalar.cmpi .ne v27 c0_i32_15
  let v29 : BitVec 32 := Scalar.extui v28
  let c0_i32_16 : BitVec 32 := 0#32
  let v30 : BitVec 1 := Scalar.cmpi .ne v29 c0_i32_16
  v30

def k0_off1 (i : grid0.Coords) : Fin 3 → Nat :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let v670 : Index := Scalar.indexCast v4
  let c0_212 : Index := 0#32
  let c0_213 : Index := 0#32
  ![v670.toNat, 0, 0]
def k0_off2 (i : grid0.Coords) : Fin 4 → Nat :=
  let c0 : Index := 0#32
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let v31 : Index := Scalar.indexCast v4
  let c0_17 : Index := 0#32
  let c0_18 : Index := 0#32
  ![0, v31.toNat, 0, 0]
def k0_off3 (i : grid0.Coords) : Fin 3 → Nat :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let v661 : Index := Scalar.indexCast v4
  let c0_207 : Index := 0#32
  let c0_208 : Index := 0#32
  ![v661.toNat, 0, 0]
def k0_cond4 (i : grid0.Coords) : BitVec 1 :=
  let arg1 : BitVec 32 := BitVec.ofNat 32 (i 1).val
  let c2_i32_209 : BitVec 32 := 2#32
  let v665 : BitVec 32 := Scalar.muli arg1 c2_i32_209
  let c1_i32_210 : BitVec 32 := 1#32
  let v666 : BitVec 32 := Scalar.addi v665 c1_i32_210
  let c11_i32 : BitVec 32 := 11#32
  let v667 : BitVec 1 := Scalar.cmpi .slt v666 c11_i32
  let v668 : BitVec 32 := Scalar.extui v667
  let c0_i32_211 : BitVec 32 := 0#32
  let v669 : BitVec 1 := Scalar.cmpi .ne v668 c0_i32_211
  v669

def k0_cond6 (i : grid0.Coords) : BitVec 1 :=
  let arg0 : BitVec 32 := BitVec.ofNat 32 (i 0).val
  let c2_i32_222 : BitVec 32 := 2#32
  let c0_i32_223 : BitVec 32 := 0#32
  let v685 : BitVec 1 := Scalar.cmpi .eq c2_i32_222 c0_i32_223
  let c1_i32_224 : BitVec 32 := 1#32
  let v686 : BitVec 32 := Scalar.select v685 c1_i32_224 c2_i32_222
  let v687 : BitVec 32 := Scalar.remsi arg0 v686
  let c0_i32_226 : BitVec 32 := 0#32
  let v689 : BitVec 1 := Scalar.cmpi .slt v687 c0_i32_226
  let c0_i32_227 : BitVec 32 := 0#32
  let v690 : BitVec 1 := Scalar.cmpi .slt v686 c0_i32_227
  let v691 : BitVec 1 := Scalar.xori v689 v690
  let c0_i32_225 : BitVec 32 := 0#32
  let v688 : BitVec 1 := Scalar.cmpi .ne v687 c0_i32_225
  let v692 : BitVec 1 := Scalar.andi v691 v688
  let v693 : BitVec 32 := Scalar.addi v687 v686
  let v694 : BitVec 32 := Scalar.select v692 v693 v687
  let c0_i32_228 : BitVec 32 := 0#32
  let v695 : BitVec 1 := Scalar.cmpi .ne v694 c0_i32_228
  let v696 : BitVec 32 := Scalar.extui v695
  let c0_i32_229 : BitVec 32 := 0#32
  let v697 : BitVec 1 := Scalar.cmpi .ne v696 c0_i32_229
  v697

def k0_off4 (i : grid0.Coords) : Fin 3 → Nat :=
  let arg1 : BitVec 32 := BitVec.ofNat 32 (i 1).val
  let c2_i32_212 : BitVec 32 := 2#32
  let v670 : BitVec 32 := Scalar.muli arg1 c2_i32_212
  let c1_i32_213 : BitVec 32 := 1#32
  let v671 : BitVec 32 := Scalar.addi v670 c1_i32_213
  let v1332 : Index := Scalar.indexCast v671
  let c0_431 : Index := 0#32
  let c0_432 : Index := 0#32
  ![v1332.toNat, 0, 0]
def k0_off5 (i : grid0.Coords) : Fin 4 → Nat :=
  let c0_230 : Index := 0#32
  let arg1 : BitVec 32 := BitVec.ofNat 32 (i 1).val
  let c2_i32_212 : BitVec 32 := 2#32
  let v670 : BitVec 32 := Scalar.muli arg1 c2_i32_212
  let c1_i32_213 : BitVec 32 := 1#32
  let v671 : BitVec 32 := Scalar.addi v670 c1_i32_213
  let v698 : Index := Scalar.indexCast v671
  let c0_231 : Index := 0#32
  let c0_232 : Index := 0#32
  ![0, v698.toNat, 0, 0]
def k0_off6 (i : grid0.Coords) : Fin 3 → Nat :=
  let arg1 : BitVec 32 := BitVec.ofNat 32 (i 1).val
  let c2_i32_212 : BitVec 32 := 2#32
  let v670 : BitVec 32 := Scalar.muli arg1 c2_i32_212
  let c1_i32_213 : BitVec 32 := 1#32
  let v671 : BitVec 32 := Scalar.addi v670 c1_i32_213
  let v1328 : Index := Scalar.indexCast v671
  let c0_429 : Index := 0#32
  let c0_430 : Index := 0#32
  ![v1328.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, c0_i32_1.toNat, v2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c11_i32 : BitVec 32 := 11#32
  let v3 : BitVec 32 := Scalar.addi c11_i32 v2
  let c0_i32_0 : BitVec 32 := 0#32
  let c0_i32_1 : BitVec 32 := 0#32
  let c0_i32_2 : BitVec 32 := 0#32
  ![c0_i32_0.toNat, c0_i32_1.toNat, v3.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, c0_i32_0.toNat, v2.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c11_i32 : BitVec 32 := 11#32
  let v3 : BitVec 32 := Scalar.addi c11_i32 v2
  let c0_i32 : BitVec 32 := 0#32
  let c0_i32_0 : BitVec 32 := 0#32
  let c0_i32_1 : BitVec 32 := 0#32
  ![c0_i32.toNat, c0_i32_0.toNat, v3.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x11x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpReferenceIdeal.lean ====
abbrev S16x2048x2048 : Shape := ⟨3, ![16, 2048, 2048]⟩
abbrev S4x2048 : Shape := ⟨2, ![4, 2048]⟩
abbrev S16x1x2048 : Shape := ⟨3, ![16, 1, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S16x2048x11264 : Shape := ⟨3, ![16, 2048, 11264]⟩
abbrev S16x2050x11264 : Shape := ⟨3, ![16, 2050, 11264]⟩
abbrev S1x11264 : Shape := ⟨2, ![1, 11264]⟩
abbrev S11264 : Shape := ⟨1, ![11264]⟩
abbrev S1x3x11264 : Shape := ⟨3, ![1, 3, 11264]⟩
abbrev S3x11264 : Shape := ⟨2, ![3, 11264]⟩
abbrev S1x1x11264 : Shape := ⟨3, ![1, 1, 11264]⟩
abbrev S16x2048x5632 : Shape := ⟨3, ![16, 2048, 5632]⟩
abbrev S32768x5632 : Shape := ⟨2, ![32768, 5632]⟩

abbrev nBuf : Space → Nat
  | .hbm => 86
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S4x2048, .f32⟩
  | .hbm, ⟨2, _⟩ => ⟨S16x1x2048, .f32⟩
  | .hbm, ⟨3, _⟩ => ⟨S16x1x2048, .f32⟩
  | .hbm, ⟨4, _⟩ => ⟨S4x2048x11264, .f32⟩
  | .hbm, ⟨5, _⟩ => ⟨S4x3x11264, .f32⟩
  | .hbm, ⟨6, _⟩ => ⟨S4x11264, .f32⟩
  | .hbm, ⟨7, _⟩ => ⟨S1x2048, .f32⟩
  | .hbm, ⟨8, _⟩ => ⟨S2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S1x1x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x1x2048, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S1x2048x11264, .f32⟩
  | .hbm, ⟨33, _⟩ => ⟨S2048x11264, .f32⟩
  | .hbm, ⟨34, _⟩ => ⟨S16x2048x11264, .f32⟩
  | .hbm, ⟨35, _⟩ => ⟨S_, .i32⟩
  | .hbm, ⟨36, _⟩ => ⟨S_, .f32⟩
  | .hbm, ⟨37, _⟩ => ⟨S16x2050x11264, .f32⟩
  | .hbm, ⟨38, _⟩ => ⟨S1x11264, .f32⟩
  | .hbm, ⟨39, _⟩ => ⟨S11264, .f32⟩
  | .hbm, ⟨40, _⟩ => ⟨S1x3x11264, .f32⟩
  | .hbm, ⟨41, _⟩ => ⟨S3x11264, .f32⟩
  | .hbm, ⟨42, _⟩ => ⟨S1x11264, .f32⟩
  | .hbm, ⟨43, _⟩ => ⟨S11264, .f32⟩
  | .hbm, ⟨44, _⟩ => ⟨S16x2048x11264, .f32⟩
  | .hbm, ⟨45, _⟩ => ⟨S1x1x11264, .f32⟩
  | .hbm, ⟨46, _⟩ => ⟨S16x2048x11264, .f32⟩
  | .hbm, ⟨47, _⟩ => ⟨S16x2048x11264, .f32⟩
  | .hbm, ⟨48, _⟩ => ⟨S_, .f32⟩
  | .hbm, ⟨49, _⟩ => ⟨S16x2048x11264, .f32⟩
  | .hbm, ⟨50, _⟩ => ⟨S16x2048x11264, .f32⟩
  | .hbm, ⟨51, _⟩ => ⟨S1x3x11264, .f32⟩
  | .hbm, ⟨52, _⟩ => ⟨S3x11264, .f32⟩
  | .hbm, ⟨53, _⟩ => ⟨S1x11264, .f32⟩
  | .hbm, ⟨54, _⟩ => ⟨S11264, .f32⟩
  | .hbm, ⟨55, _⟩ => ⟨S16x2048x11264, .f32⟩
  | .hbm, ⟨56, _⟩ => ⟨S1x1x11264, .f32⟩
  | .hbm, ⟨57, _⟩ => ⟨S16x2048x11264, .f32⟩
  | .hbm, ⟨58, _⟩ => ⟨S16x2048x11264, .f32⟩
  | .hbm, ⟨59, _⟩ => ⟨S16x2048x11264, .f32⟩
  | .hbm, ⟨60, _⟩ => ⟨S1x3x11264, .f32⟩
  | .hbm, ⟨61, _⟩ => ⟨S3x11264, .f32⟩
  | .hbm, ⟨62, _⟩ => ⟨S1x11264, .f32⟩
  | .hbm, ⟨63, _⟩ => ⟨S11264, .f32⟩
  | .hbm, ⟨64, _⟩ => ⟨S16x2048x11264, .f32⟩
  | .hbm, ⟨65, _⟩ => ⟨S1x1x11264, .f32⟩
  | .hbm, ⟨66, _⟩ => ⟨S16x2048x11264, .f32⟩
  | .hbm, ⟨67, _⟩ => ⟨S16x2048x11264, .f32⟩
  | .hbm, ⟨68, _⟩ => ⟨S16x2048x11264, .f32⟩
  | .hbm, ⟨69, _⟩ => ⟨S1x1x11264, .f32⟩
  | .hbm, ⟨70, _⟩ => ⟨S16x2048x11264, .f32⟩
  | .hbm, ⟨71, _⟩ => ⟨S16x2048x11264, .f32⟩
  | .hbm, ⟨72, _⟩ => ⟨S16x2048x5632, .f32⟩
  | .hbm, ⟨73, _⟩ => ⟨S16x2048x5632, .f32⟩
  | .hbm, ⟨74, _⟩ => ⟨S16x2048x5632, .f32⟩
  | .hbm, ⟨75, _⟩ => ⟨S16x2048x5632, .f32⟩
  | .hbm, ⟨76, _⟩ => ⟨S_, .f32⟩
  | .hbm, ⟨77, _⟩ => ⟨S16x2048x5632, .f32⟩
  | .hbm, ⟨78, _⟩ => ⟨S16x2048x5632, .f32⟩
  | .hbm, ⟨79, _⟩ => ⟨S_, .f32⟩
  | .hbm, ⟨80, _⟩ => ⟨S16x2048x5632, .f32⟩
  | .hbm, ⟨81, _⟩ => ⟨S16x2048x5632, .f32⟩
  | .hbm, ⟨82, _⟩ => ⟨S16x2048x5632, .f32⟩
  | .hbm, ⟨83, _⟩ => ⟨S16x2048x5632, .f32⟩
  | .hbm, ⟨84, _⟩ => ⟨S32768x5632, .f32⟩
  | .hbm, ⟨85, _⟩ => ⟨S32768x5632, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== DownKernel.lean ====
abbrev S32768x5632 : Shape := ⟨2, ![32768, 5632]⟩
abbrev S4x5632x2048 : Shape := ⟨3, ![4, 5632, 2048]⟩
abbrev S16x2048x2048 : Shape := ⟨3, ![16, 2048, 2048]⟩
abbrev S16x1x2048 : Shape := ⟨3, ![16, 1, 2048]⟩
abbrev S32768x2048 : Shape := ⟨2, ![32768, 2048]⟩
abbrev S512x5632 : Shape := ⟨2, ![512, 5632]⟩
abbrev S1x5632x2048 : Shape := ⟨3, ![1, 5632, 2048]⟩
abbrev S512x2048 : Shape := ⟨2, ![512, 2048]⟩
abbrev S1x1x2048 : Shape := ⟨3, ![1, 1, 2048]⟩
abbrev S5632x2048 : Shape := ⟨2, ![5632, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S32768x5632, .bf16⟩
  | .hbm, ⟨1, _⟩ => ⟨S4x5632x2048, .f32⟩
  | .hbm, ⟨2, _⟩ => ⟨S16x2048x2048, .f32⟩
  | .hbm, ⟨3, _⟩ => ⟨S16x1x2048, .f32⟩
  | .hbm, ⟨4, _⟩ => ⟨S4x5632x2048, .bf16⟩
  | .hbm, ⟨5, _⟩ => ⟨S32768x2048, .f32⟩
  | .hbm, ⟨6, _⟩ => ⟨S32768x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S32768x5632 : Shape := ⟨2, ![32768, 5632]⟩
abbrev S4x5632x2048 : Shape := ⟨3, ![4, 5632, 2048]⟩
abbrev S16x2048x2048 : Shape := ⟨3, ![16, 2048, 2048]⟩
abbrev S16x1x2048 : Shape := ⟨3, ![16, 1, 2048]⟩
abbrev S16x2048x5632 : Shape := ⟨3, ![16, 2048, 5632]⟩
abbrev S1x5632x2048 : Shape := ⟨3, ![1, 5632, 2048]⟩
abbrev S5632x2048 : Shape := ⟨2, ![5632, 2048]⟩
abbrev S_ : Shape := ⟨0, ![]⟩
abbrev S32768x2048 : Shape := ⟨2, ![32768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S4x5632x2048, .f32⟩
  | .hbm, ⟨2, _⟩ => ⟨S16x2048x2048, .f32⟩
  | .hbm, ⟨3, _⟩ => ⟨S16x1x2048, .f32⟩
  | .hbm, ⟨4, _⟩ => ⟨S32768x5632, .f32⟩
  | .hbm, ⟨5, _⟩ => ⟨S16x2048x5632, .f32⟩
  | .hbm, ⟨6, _⟩ => ⟨S1x5632x2048, .f32⟩
  | .hbm, ⟨7, _⟩ => ⟨S5632x2048, .f32⟩
  | .hbm, ⟨8, _⟩ => ⟨S16x2048x2048, .f32⟩
  | .hbm, ⟨9, _⟩ => ⟨S_, .f32⟩
  | .hbm, ⟨10, _⟩ => ⟨S16x1x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== MixKernel.lean ====
abbrev S16x2048x1024 : Shape := ⟨3, ![16, 2048, 1024]⟩
abbrev S4x1024x2048 : Shape := ⟨3, ![4, 1024, 2048]⟩
abbrev S4x2048x2048 : Shape := ⟨3, ![4, 2048, 2048]⟩
abbrev S16x2048x2048 : Shape := ⟨3, ![16, 2048, 2048]⟩
abbrev S16x1x2048 : Shape := ⟨3, ![16, 1, 2048]⟩
abbrev S_ : Shape := ⟨0, ![]⟩
abbrev S32768x16x128 : Shape := ⟨3, ![32768, 16, 128]⟩
abbrev S16x32768x128 : Shape := ⟨3, ![16, 32768, 128]⟩
abbrev S32x32768x128 : Shape := ⟨3, ![32, 32768, 128]⟩
abbrev S32768x8x128 : Shape := ⟨3, ![32768, 8, 128]⟩
abbrev S8x32768x128 : Shape := ⟨3, ![8, 32768, 128]⟩
abbrev S32768x1024 : Shape := ⟨2, ![32768, 1024]⟩
abbrev S32768x2048 : Shape := ⟨2, ![32768, 2048]⟩
abbrev S512x1024 : Shape := ⟨2, ![512, 1024]⟩
abbrev S8x512x128 : Shape := ⟨3, ![8, 512, 128]⟩
abbrev S1x1024x2048 : Shape := ⟨3, ![1, 1024, 2048]⟩
abbrev S16x512x128 : Shape := ⟨3, ![16, 512, 128]⟩
abbrev S1x2048x2048 : Shape := ⟨3, ![1, 2048, 2048]⟩
abbrev S512x2048 : Shape := ⟨2, ![512, 2048]⟩
abbrev S1x1x2048 : Shape := ⟨3, ![1, 1, 2048]⟩
abbrev S1x256x128 : Shape := ⟨3, ![1, 256, 128]⟩
abbrev S256x128 : Shape := ⟨2, ![256, 128]⟩
abbrev S256x1024 : Shape := ⟨2, ![256, 1024]⟩
abbrev S1024x2048 : Shape := ⟨2, ![1024, 2048]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 41
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S4x1024x2048, .f32⟩
  | .hbm, ⟨3, _⟩ => ⟨S4x1024x2048, .f32⟩
  | .hbm, ⟨4, _⟩ => ⟨S4x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S32768x16x128, .f32⟩
  | .hbm, ⟨18, _⟩ => ⟨S16x32768x128, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048x2048, .f32⟩
  | .hbm, ⟨26, _⟩ => ⟨S16x2048x2048, .f32⟩
  | .hbm, ⟨27, _⟩ => ⟨S32768x16x128, .f32⟩
  | .hbm, ⟨28, _⟩ => ⟨S16x32768x128, .f32⟩
  | .hbm, ⟨29, _⟩ => ⟨S32x32768x128, .f32⟩
  | .hbm, ⟨30, _⟩ => ⟨S32x32768x128, .bf16⟩
  | .hbm, ⟨31, _⟩ => ⟨S32768x8x128, .f32⟩
  | .hbm, ⟨32, _⟩ => ⟨S8x32768x128, .f32⟩
  | .hbm, ⟨33, _⟩ => ⟨S8x32768x128, .bf16⟩
  | .hbm, ⟨34, _⟩ => ⟨S32768x1024, .f32⟩
  | .hbm, ⟨35, _⟩ => ⟨S32768x1024, .bf16⟩
  | .hbm, ⟨36, _⟩ => ⟨S4x1024x2048, .bf16⟩
  | .hbm, ⟨37, _⟩ => ⟨S4x1024x2048, .bf16⟩
  | .hbm, ⟨38, _⟩ => ⟨S4x2048x2048, .bf16⟩
  | .hbm, ⟨39, _⟩ => ⟨S32768x2048, .f32⟩
  | .hbm, ⟨40, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S8x512x128, .bf16⟩
  | .local _ .vmem, ⟨3, _⟩ => ⟨S8x512x128, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S16x512x128, .bf16⟩
  | .local _ .vmem, ⟨7, _⟩ => ⟨S16x512x128, .bf16⟩
  | .local _ .vmem, ⟨8, _⟩ => ⟨S16x512x128, .bf16⟩
  | .local _ .vmem, ⟨9, _⟩ => ⟨S16x512x128, .bf16⟩
  | .local _ .vmem, ⟨10, _⟩ => ⟨S1x2048x2048, .bf16⟩
  | .local _ .vmem, ⟨11, _⟩ => ⟨S512x2048, .f32⟩
  | .local _ .vmem, ⟨12, _⟩ => ⟨S512x2048, .f32⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S16x2048x1024 : Shape := ⟨3, ![16, 2048, 1024]⟩
abbrev S4x1024x2048 : Shape := ⟨3, ![4, 1024, 2048]⟩
abbrev S4x2048x2048 : Shape := ⟨3, ![4, 2048, 2048]⟩
abbrev S16x2048x2048 : Shape := ⟨3, ![16, 2048, 2048]⟩
abbrev S16x1x2048 : Shape := ⟨3, ![16, 1, 2048]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S32768x2048 : Shape := ⟨2, ![32768, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S4x1024x2048, .f32⟩
  | .hbm, ⟨3, _⟩ => ⟨S4x1024x2048, .f32⟩
  | .hbm, ⟨4, _⟩ => ⟨S4x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S1x1024x2048, .f32⟩
  | .hbm, ⟨18, _⟩ => ⟨S1024x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048x2048, .f32⟩
  | .hbm, ⟨28, _⟩ => ⟨S16x2048x2048, .f32⟩
  | .hbm, ⟨29, _⟩ => ⟨S1x1024x2048, .f32⟩
  | .hbm, ⟨30, _⟩ => ⟨S1024x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S_, .f32⟩
  | .hbm, ⟨35, _⟩ => ⟨S16x1x2048, .f32⟩
  | .hbm, ⟨36, _⟩ => ⟨S16x1x2048, .f32⟩
  | .hbm, ⟨37, _⟩ => ⟨S1x2048x2048, .f32⟩
  | .hbm, ⟨38, _⟩ => ⟨S2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S32768x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== NormKernel.lean ====
abbrev S16x2048x2048 : Shape := ⟨3, ![16, 2048, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16x2048x2048 : Shape := ⟨3, ![16, 2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S_, .f32⟩
  | .hbm, ⟨7, _⟩ => ⟨S16x2048x1, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S1x1x2048, .f32⟩
  | .hbm, ⟨16, _⟩ => ⟨S16x2048x2048, .f32⟩
  | .hbm, ⟨17, _⟩ => ⟨S16x2048x2048, .f32⟩
  | .hbm, ⟨18, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ModKernel.lean ====
abbrev S16x2048 : Shape := ⟨2, ![16, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S16x2048 : Shape := ⟨2, ![16, 2048]⟩
abbrev S4x2048x12288 : Shape := ⟨3, ![4, 2048, 12288]⟩
abbrev S4x12288 : Shape := ⟨2, ![4, 12288]⟩
abbrev S_ : Shape := ⟨0, ![]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x12288x16, .f32⟩
  | .hbm, ⟨13, _⟩ => ⟨S4x16x12288, .f32⟩
  | .hbm, ⟨14, _⟩ => ⟨S4x1x12288, .f32⟩
  | .hbm, ⟨15, _⟩ => ⟨S4x16x12288, .f32⟩
  | .hbm, ⟨16, _⟩ => ⟨S4x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.SbBlock.lean ====
/-
  The attention's arithmetic on one block of keys, as the kernel writes it: the scores, their softplus in units of the
  base-two logarithm, the sums over later keys, the weights, and the fold of the blocks from the diagonal one down to the
  first.  The stored tiles are this fold.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

/-- Key position before query position, within the diagonal block. -/
def past : IVec S256x256 1 :=
  cmpi .slt (iota .tc S256x256 32 [1] iota_S256x256_d1_w32) (iota .tc S256x256 32 [0] iota_S256x256_d0_w32)

/-- Queries times keys. -/
def scores (q k : FVec Ideal S1x256x128 .bf16) : FVec Ideal S256x256 .f32 :=
  matmul dot_S256x128_S256x128_S256x256_1_1_0_0_n_n none (shapeCast S256x128 q shapeCasts_S1x256x128_S256x128 : FVec Ideal S256x128 .bf16)
    (shapeCast S256x128 k shapeCasts_S1x256x128_S256x128 : FVec Ideal S256x128 .bf16) (constant S256x256 .f32 0x00000000#32)

/-- The softplus of the scores, in units of the base-two logarithm. -/
def soft (z : FVec Ideal S256x256 .f32) : FVec Ideal S256x256 .f32 :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2e" 0x3FB8AA3B#32)))

/-- A block, zero where the diagonal block's key is not before its query. -/
def masked (w : FVec Ideal S256x256 .f32) : FVec Ideal S256x256 .f32 :=
  select past w (broadcast S256x256 (Scalar.ofBits .f32 0x00000000#32))

/-- Minus the sums over the block's later keys. -/
def later (tri : FVec Ideal S256x256 .bf16) (p : FVec Ideal S256x256 .f32) : FVec Ideal S256x256 .f32 :=
  matmul dot_S256x256_S256x256_S256x256_1_0_0_1_n_n none (truncf .bf16 p bitsLt_bf16_f32 : FVec Ideal S256x256 .bf16)
    (shapeCast S256x256 tri shapeCasts_S256x256_S256x256 : FVec Ideal S256x256 .bf16) (constant S256x256 .f32 0x00000000#32)

/-- Minus the sum over the whole block, in every lane. -/
def whole (tri : FVec Ideal S256x256 .bf16) (p : FVec Ideal S256x256 .f32) : FVec Ideal S256x128 .f32 :=
  broadcastTo S256x128 (shapeCast S256x1
    (subf (extractStridedSlice S256x1 ![0, 0] (later tri p) slices_S256x256_o0_0_S256x1)
      (extf .f32 (extractStridedSlice S256x1 ![0, 0] (truncf .bf16 p bitsLt_bf16_f32 : FVec Ideal S256x256 .bf16) slices_S256x256_o0_0_S256x1) bitsLt_bf16_f32 : FVec Ideal S256x1 .f32))
    shapeCasts_S256x1_S256x1) broadcasts_S256x1_S256x128

/-- A block plus a column repeated over its lanes. -/
def plusLanes (x : FVec Ideal S256x256 .f32) (r : FVec Ideal S256x128 .f32) : FVec Ideal S256x256 .f32 :=
  concatenate S256x256 1
    [⟨S256x128, addf (extractStridedSlice S256x128 ![0, 0] x slices_S256x256_o0_0_S256x128) r⟩,
     ⟨S256x128, addf (extractStridedSlice S256x128 ![0, 128] x slices_S256x256_o0_128_S256x128) r⟩]
    concatenates_S256x128_S256x128_S256x256_d1

/-- The weights of a block. -/
def weights (tri : FVec Ideal S256x256 .bf16) (z p : FVec Ideal S256x256 .f32) (carry : FVec Ideal S256x128 .f32) :
    FVec Ideal S256x256 .f32 :=
  exp2 (addf (subf z (soft z)) (plusLanes (later tri p) carry))

/-- Weights times values. -/
def weighed (w : FVec Ideal S256x256 .f32) (v : FVec Ideal S1x256x128 .bf16) : FVec Ideal S256x128 .f32 :=
  matmul dot_S256x256_S256x128_S256x128_1_0_0_1_n_n none (truncf .bf16 w bitsLt_bf16_f32 : FVec Ideal S256x256 .bf16)
    (shapeCast S256x128 v shapeCasts_S1x256x128_S256x128 : FVec Ideal S256x128 .bf16) (constant S256x128 .f32 0x00000000#32)

/-- The output so far and minus the sum over the keys so far. -/
abbrev St := FVec Ideal S256x128 .f32 × FVec Ideal S256x128 .f32

/-- Zero everywhere. -/
def zeros : FVec Ideal S256x128 .f32 := broadcast S256x128 (Scalar.ofBits .f32 0x00000000#32)

/-- The diagonal block. -/
def diag (tri : FVec Ideal S256x256 .bf16) (q k v : FVec Ideal S1x256x128 .bf16) : St :=
  (addf zeros (weighed (masked (weights tri (scores q k) (masked (soft (scores q k))) zeros)) v),
   addf zeros (whole tri (masked (soft (scores q k)))))

/-- A block below the diagonal one. -/
def below (tri : FVec Ideal S256x256 .bf16) (q k v : FVec Ideal S1x256x128 .bf16) (s : St) : St :=
  (addf s.1 (weighed (weights tri (scores q k) (soft (scores q k)) s.2) v),
   addf s.2 (whole tri (soft (scores q k))))

/-! Each of these names read from right to left: the operations, folded into the name. -/

theorem fold_scores (q k : FVec Ideal S1x256x128 .bf16) :
    matmul (F := Ideal) dot_S256x128_S256x128_S256x256_1_1_0_0_n_n none (shapeCast S256x128 q shapeCasts_S1x256x128_S256x128 : FVec Ideal S256x128 .bf16)
      (shapeCast S256x128 k shapeCasts_S1x256x128_S256x128 : FVec Ideal S256x128 .bf16) (constant S256x256 .f32 0x00000000#32) = scores q k := rfl

theorem fold_soft (z : FVec Ideal S256x256 .f32) :
    addf (F := Ideal) (maximumf z (broadcast S256x256 (Scalar.ofBits .f32 0x00000000#32)))
      (mulf (log (addf (broadcast S256x256 (Scalar.ofBits .f32 0x3F800000#32))
          (exp2 (subf (broadcast S256x256 (Scalar.ofBits .f32 0x00000000#32)) (absf z)))))
        (broadcast S256x256 (Named.named κ "log2e" 0x3FB8AA3B#32))) = soft z := rfl

theorem fold_later (tri : FVec Ideal S256x256 .bf16) (p : FVec Ideal S256x256 .f32) :
    matmul (F := Ideal) dot_S256x256_S256x256_S256x256_1_0_0_1_n_n none (truncf .bf16 p bitsLt_bf16_f32 : FVec Ideal S256x256 .bf16)
      (shapeCast S256x256 tri shapeCasts_S256x256_S256x256 : FVec Ideal S256x256 .bf16) (constant S256x256 .f32 0x00000000#32) = later tri p := rfl

theorem fold_whole (tri : FVec Ideal S256x256 .bf16) (p : FVec Ideal S256x256 .f32) :
    broadcastTo S256x128 (shapeCast S256x1
      (subf (F := Ideal) (extractStridedSlice S256x1 ![0, 0] (later tri p) slices_S256x256_o0_0_S256x1)
        (extf .f32 (extractStridedSlice S256x1 ![0, 0] (truncf .bf16 p bitsLt_bf16_f32 : FVec Ideal S256x256 .bf16) slices_S256x256_o0_0_S256x1) bitsLt_bf16_f32 : FVec Ideal S256x1 .f32))
      shapeCasts_S256x1_S256x1) broadcasts_S256x1_S256x128 = whole tri p := rfl

theorem fold_plusLanes (x : FVec Ideal S256x256 .f32) (r : FVec Ideal S256x128 .f32) :
    concatenate S256x256 1
      [⟨S256x128, addf (F := Ideal) (extractStridedSlice S256x128 ![0, 0] x slices_S256x256_o0_0_S256x128) r⟩,
       ⟨S256x128, addf (F := Ideal) (extractStridedSlice S256x128 ![0, 128] x slices_S256x256_o0_128_S256x128) r⟩]
      concatenates_S256x128_S256x128_S256x256_d1 = plusLanes x r := rfl

theorem fold_weights (tri : FVec Ideal S256x256 .bf16) (z p : FVec Ideal S256x256 .f32) (carry : FVec Ideal S256x128 .f32) :
    exp2 (F := Ideal) (addf (subf z (soft z)) (plusLanes (later tri p) carry)) = weights tri z p carry := rfl

theorem fold_weighed (w : FVec Ideal S256x256 .f32) (v : FVec Ideal S1x256x128 .bf16) :
    matmul (F := Ideal) dot_S256x256_S256x128_S256x128_1_0_0_1_n_n none (truncf .bf16 w bitsLt_bf16_f32 : FVec Ideal S256x256 .bf16)
      (shapeCast S256x128 v shapeCasts_S1x256x128_S256x128 : FVec Ideal S256x128 .bf16) (constant S256x128 .f32 0x00000000#32) = weighed w v := rfl

theorem fold_zeros : broadcast S256x128 (Scalar.ofBits (F := Ideal) .f32 0x00000000#32) = zeros := rfl

theorem tile_inb (h b : ℕ) : ∀ a : Fin S2x2048x128.rank, (![h % 2, 256 * (b % 8), 0] : Fin 3 → ℕ) a + (![1, 256, 128] : Fin 3 → ℕ) a ≤ S2x2048x128.size a := by
  intro a
  match a with
  | 0 => show h % 2 + 1 ≤ 2; omega
  | 1 => show 256 * (b % 8) + 256 ≤ 2048; omega
  | 2 => show 0 + 128 ≤ 128; omega

/-- Head `h`'s block `b` of 256 rows. -/
def tile (X : FVec Ideal S2x2048x128 .bf16) (h b : ℕ) : FVec Ideal S1x256x128 .bf16 :=
  View.ld (Val := Elt Ideal) (show Vec Ideal S2x2048x128 .bf16 from X) (Rect.unit ![h % 2, 256 * (b % 8), 0] ![1, 256, 128] (tile_inb h b))

/-- The blocks below `b`, from the highest down to the first. -/
def down (Q K V : FVec Ideal S2x2048x128 .bf16) (tri : FVec Ideal S256x256 .bf16) (h n : ℕ) : ℕ → St → St
  | 0, s => s
  | b + 1, s => down Q K V tri h n b (below tri (tile Q h n) (tile K h b) (tile V h b) s)

/-- What head `h` stores for its query block `n`. -/
def stored (Q K V : FVec Ideal S2x2048x128 .bf16) (tri : FVec Ideal S256x256 .bf16) (h n : ℕ) : FVec Ideal S256x128 .bf16 :=
  truncf .bf16 (down Q K V tri h n n (diag tri (tile Q h n) (tile K h n) (tile V h n))).1 bitsLt_bf16_f32

end Cert.KernelIdeal.Value

end
-- ==== Proof.SbTiles.lean ====
/-
  The attention's output block at a grid point: sixteen tiles, two heads by eight query blocks, each the fold of its key
  blocks.
-/
module

public import proofs.«01_k».proof.Proof.SbBlock

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The tile holding a position of the output block, at the position's place within it. -/
def block (Q K V : FVec Ideal S2x2048x128 .bf16) (tri : FVec Ideal S256x256 .bf16) (y : S2048x256.Idx) : EReal :=
  stored Q K V tri ((y 1 : ℕ) / 128) ((y 0 : ℕ) / 256)
    (ix2 (⟨(y 0 : ℕ) % 256, Nat.mod_lt _ (by decide)⟩ : Fin 256) (⟨(y 1 : ℕ) % 128, Nat.mod_lt _ (by decide)⟩ : Fin 128))

theorem stored_eq (Q K V : FVec Ideal S2x2048x128 .bf16) (tri : FVec Ideal S256x256 .bf16) (y : S2048x256.Idx) (x : S256x128.Idx)
    (r l : ℕ) (hr : r % 256 = 0) (hl : l % 128 = 0) (h0 : (y 0 : ℕ) = r + x 0) (h1 : (y 1 : ℕ) = l + x 1) :
    stored Q K V tri (l / 128) (r / 256) x = block Q K V tri y := by
  have x0 : (x 0 : ℕ) < 256 := (x 0).isLt
  have x1 : (x 1 : ℕ) < 128 := (x 1).isLt
  have e0 : (y 0 : ℕ) / 256 = r / 256 := by omega
  have e1 : (y 1 : ℕ) / 128 = l / 128 := by omega
  unfold block
  rw [e0, e1]
  congr 1
  funext a
  match a with
  | 0 => exact Fin.ext (show (x 0 : ℕ) = (y 0 : ℕ) % 256 by omega)
  | 1 => exact Fin.ext (show (x 1 : ℕ) = (y 1 : ℕ) % 128 by omega)

set_option maxHeartbeats 4000000 in
/-- What a grid point leaves in the output block. -/
theorem outs_eq (c : Dev nD) (t : Fin cfg0.N) (y : S2048x256.Idx) :
    outsAt0 m c t y = block (iblk m c 0 t) (iblk m c 1 t) (iblk m c 2 t) (iblk m c 3 t) y := by
  unfold outsAt0
  frame_out
  canon_tiles x h
  all_goals
    refine Eq.trans ?_ (stored_eq _ _ _ _ y x _ _ ?_ ?_ (by first | exact h0 | exact h0.trans (Nat.zero_add _).symm)
      (by first | exact h1 | exact h1.trans (Nat.zero_add _).symm))
    · refine congrFun ?_ x
      simp (disch := decide) only [View.ld_unit_lit', View.readAt_eq_ld, Memref.IsWhole.read_unread,
        fold_scores, fold_soft, fold_later, fold_whole, fold_plusLanes, fold_weights, fold_weighed, fold_zeros,
        k0_pay1, k0_pay2, k0_pay3, k0_pay4, k0_pay5, k0_pay6, k0_pay7, k0_pay8, k0_pay9, k0_pay10, k0_pay11,
        k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51,
        k0_pay52, k0_pay53, k0_pay54, k0_pay55, k0_pay56, k0_pay57, k0_pay58, k0_pay59, k0_pay60, k0_pay61,
        k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81,
        k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128,
        k0_pay129, k0_pay130, k0_pay131, k0_pay132, k0_pay133, k0_pay134, k0_pay135, k0_pay136, k0_pay137,
        k0_pay138, k0_pay139, k0_pay140, k0_pay141, k0_pay142, k0_pay143, k0_pay144, k0_pay145, k0_pay146,
        k0_pay147, k0_pay148, k0_pay149, k0_pay150, k0_pay151, k0_pay152, k0_pay153, k0_pay154, k0_pay155,
        k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173,
        k0_pay174, k0_pay175, k0_pay176, k0_pay177, k0_pay178, k0_pay179, k0_pay180, k0_pay181, k0_pay182,
        k0_pay183, k0_pay184, k0_pay185, k0_pay186, k0_pay187, k0_pay188, k0_pay189, k0_pay190, k0_pay191,
        k0_pay192, k0_pay193, k0_pay194, k0_pay195, k0_pay196, k0_pay197, k0_pay198, k0_pay199, k0_pay200,
        k0_pay201, k0_pay202, k0_pay203, k0_pay204, k0_pay205, k0_pay206, k0_pay207, k0_pay208, k0_pay209,
        k0_pay210, k0_pay211, k0_pay212, k0_pay213, k0_pay214, k0_pay215, k0_pay216, k0_pay217, k0_pay218,
        k0_pay219, k0_pay220, k0_pay221, k0_pay222, k0_pay223, k0_pay224, k0_pay225, k0_pay226, k0_pay227,
        k0_pay228, k0_pay229, k0_pay230, k0_pay231, k0_pay232, k0_pay233, k0_pay234, k0_pay235, k0_pay236,
        k0_pay237, k0_pay238, k0_pay239, k0_pay240, k0_pay241, k0_pay242, k0_pay243, k0_pay244, k0_pay245,
        k0_pay246, k0_pay247, k0_pay248, k0_pay249, k0_pay250, k0_pay251, k0_pay252, k0_pay253, k0_pay254,
        k0_pay255, k0_pay256, k0_pay257, k0_pay258, k0_pay259, k0_pay260, k0_pay261, k0_pay262, k0_pay263,
        k0_pay264, k0_pay265, k0_pay266, k0_pay267, k0_pay268, k0_pay269, k0_pay270, k0_pay271, k0_pay272,
        k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290,
        k0_pay291, k0_pay292, k0_pay293, k0_pay294, k0_pay295, k0_pay296, k0_pay297, k0_pay298, k0_pay299,
        k0_pay300, k0_pay301, k0_pay302, k0_pay303, k0_pay304, k0_pay305, k0_pay306, k0_pay307, k0_pay308,
        k0_pay309, k0_pay310, k0_pay311, k0_pay312, k0_pay313, k0_pay314, k0_pay315, k0_pay316, k0_pay317,
        k0_pay318, k0_pay319, k0_pay320, k0_pay321, k0_pay322, k0_pay323, k0_pay324, k0_pay325, k0_pay326,
        k0_pay327, k0_pay328, k0_pay329, k0_pay330, k0_pay331, k0_pay332, k0_pay333, k0_pay334, k0_pay335,
        k0_pay336, k0_pay337, k0_pay338, k0_pay339, k0_pay340, k0_pay341, k0_pay342, k0_pay343, k0_pay344,
        k0_pay345, k0_pay346, k0_pay347, k0_pay348, k0_pay349, k0_pay350, k0_pay351, k0_pay352, k0_pay353,
        k0_pay354, k0_pay355, k0_pay356, k0_pay357, k0_pay358, k0_pay359, k0_pay360, k0_pay361, k0_pay362,
        k0_pay363, k0_pay364, k0_pay365, k0_pay366, k0_pay367, k0_pay368, k0_pay369, k0_pay370, k0_pay371,
        k0_pay372, k0_pay373, k0_pay374, k0_pay375, k0_pay376, k0_pay377, k0_pay378, k0_pay379, k0_pay380,
        k0_pay381, k0_pay382, k0_pay383, k0_pay384, k0_pay385, k0_pay386, k0_pay387, k0_pay388, k0_pay389,
        k0_pay390, k0_pay391, k0_pay392, k0_pay393, k0_pay394, k0_pay395, k0_pay396, k0_pay397, k0_pay398,
        k0_pay399, k0_pay400, k0_pay401, k0_pay402, k0_pay403, k0_pay404, k0_pay405, k0_pay406, k0_pay407,
        k0_pay408, k0_pay409, k0_pay410, k0_pay411, k0_pay412, k0_pay413, k0_pay414, k0_pay415, k0_pay416,
        k0_pay417, k0_pay418, k0_pay419, k0_pay420, k0_pay421, k0_pay422, k0_pay423, k0_pay424, k0_pay425,
        k0_pay426, k0_pay427, k0_pay428, k0_pay429, k0_pay430, k0_pay431, k0_pay432, k0_pay433, k0_pay434,
        k0_pay435, k0_pay436, k0_pay437, k0_pay438, k0_pay439, k0_pay440, k0_pay441, k0_pay442, k0_pay443,
        k0_pay444, k0_pay445, k0_pay446, k0_pay447, k0_pay448, k0_pay449, k0_pay450, k0_pay451, k0_pay452,
        k0_pay453, k0_pay454, k0_pay455, k0_pay456, k0_pay457, k0_pay458, k0_pay459, k0_pay460, k0_pay461,
        k0_pay462, k0_pay463, k0_pay464, k0_pay465, k0_pay466, k0_pay467, k0_pay468, k0_pay469, k0_pay470,
        k0_pay471, k0_pay472, k0_pay473, k0_pay474, k0_pay475, k0_pay476, k0_pay477, k0_pay478, k0_pay479,
        k0_pay480, k0_pay481, k0_pay482, k0_pay483, k0_pay484, k0_pay485, k0_pay486, k0_pay487, k0_pay488,
        k0_pay489, k0_pay490, k0_pay491, k0_pay492, k0_pay493, k0_pay494, k0_pay495, k0_pay496, k0_pay497,
        k0_pay498, k0_pay499, k0_pay500, k0_pay501, k0_pay502, k0_pay503, k0_pay504, k0_pay505, k0_pay506,
        k0_pay507, k0_pay508, k0_pay509, k0_pay510, k0_pay511, k0_pay512, k0_pay513, k0_pay514, k0_pay515,
        k0_pay516, k0_pay517, k0_pay518, k0_pay519, k0_pay520, k0_pay521, k0_pay522, k0_pay523, k0_pay524,
        k0_pay525, k0_pay526, k0_pay527, k0_pay528, k0_pay529, k0_pay530, k0_pay531, k0_pay532, k0_pay533,
        k0_pay534, k0_pay535, k0_pay536, k0_pay537, k0_pay538, k0_pay539, k0_pay540, k0_pay541, k0_pay542,
        k0_pay543, k0_pay544, k0_pay545, k0_pay546, k0_pay547, k0_pay548, k0_pay549, k0_pay550, k0_pay551,
        k0_pay552, k0_pay553, k0_pay554, k0_pay555, k0_pay556, k0_pay557, k0_pay558, k0_pay559, k0_pay560,
        k0_pay561, k0_pay562, k0_pay563, k0_pay564, k0_pay565, k0_pay566, k0_pay567, k0_pay568, k0_pay569,
        k0_pay570, k0_pay571, k0_pay572, k0_pay573, k0_pay574, k0_pay575, k0_pay576, k0_pay577, k0_pay578,
        k0_pay579, k0_pay580, k0_pay581, k0_pay582, k0_pay583, k0_pay584, k0_pay585, k0_pay586, k0_pay587,
        k0_pay588, k0_pay589, k0_pay590, k0_pay591, k0_pay592, k0_pay593, k0_pay594, k0_pay595, k0_pay596,
        k0_pay597, k0_pay598, k0_pay599, k0_pay600, k0_pay601, k0_pay602, k0_pay603, k0_pay604, k0_pay605, k0_pay606]
      rfl
    · decide
    · decide

end Cert.KernelIdeal.Value

end
-- ==== Proof.SbConsts.lean ====
/-
  The attention's constants, at the reals.
-/
module

public import Idealize.ShloMosaic.Lib.Pipeline.ValueKit

@[expose] public section

noncomputable section

open Idealize.ShloMosaic

namespace Cert.KernelIdeal.Value

theorem c128 : Ideal.ofBits .f32 0x43000000#32 = ((128 : ℝ) : EReal) := by
  simp [Ideal.ofBits, Ideal.ieee, -EReal.coe_mul]; norm_num

theorem c2 : Ideal.ofBits .f32 0x40000000#32 = ((2 : ℝ) : EReal) := by
  simp [Ideal.ofBits, Ideal.ieee, -EReal.coe_mul]; norm_num

theorem cm1 : Ideal.ofBits .f32 0xBF800000#32 = (-1 : EReal) := by
  rw [← EReal.coe_one, ← EReal.coe_neg]
  simp [Ideal.ofBits, Ideal.ieee, -EReal.coe_mul]; norm_num

/-- The root of 128. -/
theorem root128 : Ideal.sqrt (Ideal.ofBits .f32 0x43000000#32) = ((Real.sqrt 128 : ℝ) : EReal) := by
  rw [c128, Ideal.sqrt_coe, if_neg (by norm_num)]

theorem root128_pos : 0 < Real.sqrt 128 := Real.sqrt_pos.mpr (by norm_num)

/-- The scale the kernel gives the queries. -/
theorem scale_eq : Ideal.div 1
      (Ideal.sqrt (Ideal.ofBits .f32 0x43000000#32) * Ideal.log (Ideal.ofBits .f32 0x40000000#32))
    = (((Real.sqrt 128)⁻¹ * (Real.log 2)⁻¹ : ℝ) : EReal) := by
  have h2 : 0 < Real.log 2 := Real.log_pos (by norm_num)
  rw [root128, c2, Ideal.log_coe, if_neg (by norm_num), ← EReal.coe_mul, Ideal.div_coe (by have := root128_pos; positivity),
    one_mul]
  congr 1
  rw [one_div, mul_inv]

end Cert.KernelIdeal.Value

end
-- ==== Proof.SbReads.lean ====
/-
  The attention's blocks, read off the arguments: where each window's block sits, and what its entries are.
-/
module

public import proofs.«01_k».proof.Proof.Gen.KernelIdeal.Frame
public import proofs.«01_k».proof.Proof.SbConsts
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- Where each window's block sits at grid point `t`, for all points at once. -/
theorem idx : ∀ t : Fin cfg0.N, win0_0.index t = ![t.val % 4, t.val / 4, 0] ∧ win0_1.index t = ![t.val % 4 + 4, t.val / 4, 0]
    ∧ win0_2.index t = ![t.val % 4 + 8, t.val / 4, 0] ∧ win0_3.index t = ![0, 0] ∧ win0_4.index t = ![t.val / 4, t.val % 4] :=
  (by decide +kernel : ∀ t : Fin grid0.N, _)

/-- The scale of the queries. -/
abbrev scale : EReal :=
  Ideal.div 1
    (Ideal.sqrt (Ideal.ofBits .f32 0x43000000#32) * Ideal.log (Ideal.ofBits .f32 0x40000000#32))

/-- An argument with its heads in front. -/
def heads (X : FVec Ideal S16x2048x8x128 .f32) : FVec Ideal S8x32768x128 .f32 :=
  shapeCast _ (transpose S8x16x2048x128 [2, 0, 1, 3] X transposes_S16x2048x8x128_S8x16x2048x128_2_0_1_3)
    shapeCasts_S8x16x2048x128_S8x32768x128

/-- The queries, scaled, the keys and the values, one array. -/
def qkv (Q K V : FVec Ideal S16x2048x8x128 .f32) : FVec Ideal S24x32768x128 .bf16 :=
  truncf .bf16 (concatenate S24x32768x128 0
    [⟨S8x32768x128, mulf (heads Q) (broadcastInDim S8x32768x128 ![] bcast_S_S8x32768x128
        (Host.divf (constant S_ .f32 0x3F800000#32)
          (mulf (Host.sqrt (constant S_ .f32 0x43000000#32)) (Host.log (constant S_ .f32 0x40000000#32)))))⟩,
     ⟨S8x32768x128, heads K⟩, ⟨S8x32768x128, heads V⟩]
    concatenates_S8x32768x128_S8x32768x128_S8x32768x128_S24x32768x128_d0) bitsLt_bf16_f32

/-- Minus one below the diagonal. -/
def lower : FVec Ideal S256x256 .bf16 :=
  truncf .bf16 (select (cmpi .sgt (iotaInDim S256x256 32 0) (iotaInDim S256x256 32 1))
    (broadcastInDim S256x256 ![] bcast_S_S256x256 (constant S_ .f32 0xBF800000#32))
    (broadcastInDim S256x256 ![] bcast_S_S256x256 (constant S_ .f32 0x00000000#32))) bitsLt_bf16_f32

theorem V_qkv (c : Dev nD) : V m c main_v13 = qkv (m ((c : Thread nD τ).loc main_arg0)) (m ((c : Thread nD τ).loc main_arg1))
    (m ((c : Thread nD τ).loc main_arg2)) := by
  simp only [V, hostOps0, hostOps0_1, hostOps0_2, List.flatten_cons, List.flatten_nil, List.append_nil, List.cons_append,
    List.nil_append]
  after_results
  rfl

theorem V_lower (c : Dev nD) : V m c main_v18 = lower := by
  simp only [V, hostOps0, hostOps0_1, hostOps0_2, List.flatten_cons, List.flatten_nil, List.append_nil, List.cons_append,
    List.nil_append]
  after_results
  rfl

theorem heads_at (X : FVec Ideal S16x2048x8x128 .f32) (h : Fin 8) (R : Fin 32768) (d : Fin 128) :
    heads X (ix3 h R d) = X (ix4 ⟨R.val / 2048, by omega⟩ ⟨R.val % 2048, by omega⟩ h d) := by
  pointwise [heads]

theorem qkv_at0 (Q K V : FVec Ideal S16x2048x8x128 .f32) (h : Fin 24) (R : Fin 32768) (d : Fin 128) (hh : h.val < 8) :
    qkv Q K V (ix3 h R d) = heads Q (ix3 ⟨h.val, hh⟩ R d) * scale := by
  pointwise [qkv]
  rw [dif_pos hh]

theorem qkv_at1 (Q K V : FVec Ideal S16x2048x8x128 .f32) (h : Fin 24) (R : Fin 32768) (d : Fin 128) (h0 : 8 ≤ h.val) (hh : h.val < 16) :
    qkv Q K V (ix3 h R d) = heads K (ix3 ⟨h.val - 8, by omega⟩ R d) := by
  pointwise [qkv]
  rw [dif_neg (by omega), dif_pos (by omega)]

theorem qkv_at2 (Q K V : FVec Ideal S16x2048x8x128 .f32) (h : Fin 24) (R : Fin 32768) (d : Fin 128) (h0 : 16 ≤ h.val) :
    qkv Q K V (ix3 h R d) = heads V (ix3 ⟨h.val - 16, by omega⟩ R d) := by
  pointwise [qkv]
  rw [dif_neg (by omega), dif_neg (by omega)]
  rfl

theorem lower_at (i j : Fin 256) : lower (ix2 i j)
    = Scalar.select (IntOp.cmpi .sgt (BitVec.ofNat 32 i) (BitVec.ofNat 32 j)) (Ideal.ofBits .f32 0xBF800000#32) (0 : EReal) := by
  pointwise [lower]

/-- The queries, the keys and the values as launched. -/
abbrev A0 (c : Dev nD) : FVec Ideal S16x2048x8x128 .f32 := m ((c : Thread nD τ).loc main_arg0)
abbrev A1 (c : Dev nD) : FVec Ideal S16x2048x8x128 .f32 := m ((c : Thread nD τ).loc main_arg1)
abbrev A2 (c : Dev nD) : FVec Ideal S16x2048x8x128 .f32 := m ((c : Thread nD τ).loc main_arg2)

/-- A grid point's block of queries. -/
theorem in0 (c : Dev nD) (t : Fin cfg0.N) (ht : t.val < 64) (a : Fin 2) (r : Fin 2048) (d : Fin 128) :
    iblk m c 0 t (ix3 a r d) = A0 m c (ix4 (⟨t.val / 4, by omega⟩ : Fin 16) r (⟨2 * (t.val % 4) + a, by omega⟩ : Fin 8) d) * scale := by
  have e : iblk m c 0 t (ix3 a r d) = V m c main_v13 (ix3 (⟨2 * (t.val % 4) + a, by omega⟩ : Fin 24)
      (⟨2048 * (t.val / 4) + r, by omega⟩ : Fin 32768) d) := by
    blk_point [iblk, idx t]
  rw [e, V_qkv, qkv_at0 _ _ _ _ _ _ (by show 2 * (t.val % 4) + (a : ℕ) < 8; omega), heads_at]
  congr 2
  blk_ext []

/-- A grid point's block of keys. -/
theorem in1 (c : Dev nD) (t : Fin cfg0.N) (ht : t.val < 64) (a : Fin 2) (r : Fin 2048) (d : Fin 128) :
    iblk m c 1 t (ix3 a r d) = A1 m c (ix4 (⟨t.val / 4, by omega⟩ : Fin 16) r (⟨2 * (t.val % 4) + a, by omega⟩ : Fin 8) d) := by
  have e : iblk m c 1 t (ix3 a r d) = V m c main_v13 (ix3 (⟨2 * (t.val % 4) + a + 8, by omega⟩ : Fin 24)
      (⟨2048 * (t.val / 4) + r, by omega⟩ : Fin 32768) d) := by
    blk_point [iblk, idx t]
  rw [e, V_qkv, qkv_at1 _ _ _ _ _ _ (by show 8 ≤ 2 * (t.val % 4) + (a : ℕ) + 8; omega)
    (by show 2 * (t.val % 4) + (a : ℕ) + 8 < 16; omega), heads_at]
  congr 1
  blk_ext []

/-- A grid point's block of values. -/
theorem in2 (c : Dev nD) (t : Fin cfg0.N) (ht : t.val < 64) (a : Fin 2) (r : Fin 2048) (d : Fin 128) :
    iblk m c 2 t (ix3 a r d) = A2 m c (ix4 (⟨t.val / 4, by omega⟩ : Fin 16) r (⟨2 * (t.val % 4) + a, by omega⟩ : Fin 8) d) := by
  have e : iblk m c 2 t (ix3 a r d) = V m c main_v13 (ix3 (⟨2 * (t.val % 4) + a + 16, by omega⟩ : Fin 24)
      (⟨2048 * (t.val / 4) + r, by omega⟩ : Fin 32768) d) := by
    blk_point [iblk, idx t]
  rw [e, V_qkv, qkv_at2 _ _ _ _ _ _ (by show 16 ≤ 2 * (t.val % 4) + (a : ℕ) + 16; omega), heads_at]
  congr 1
  blk_ext []

/-- The triangle, at every grid point. -/
theorem in3 (c : Dev nD) (t : Fin cfg0.N) (i j : Fin 256) :
    iblk m c 3 t (ix2 i j) = if j < i then (-1 : EReal) else 0 := by
  have e : iblk m c 3 t (ix2 i j) = V m c main_v18 (ix2 i j) := by
    blk_point [iblk, idx t]
  rw [e, V_lower, lower_at, cm1]
  have h := WordCmp.cmpi_slt_ofNat (w := 32) (show (j : ℕ) < 2 ^ 31 by omega) (show (i : ℕ) < 2 ^ 31 by omega)
  have hs : IntOp.cmpi .sgt (BitVec.ofNat 32 i) (BitVec.ofNat 32 j) = IntOp.cmpi .slt (BitVec.ofNat 32 j) (BitVec.ofNat 32 i) := rfl
  rw [hs]
  by_cases hij : j < i
  · have hij' : (j : ℕ) < i := hij
    simp [h, hij, hij', Scalar.select]
  · have hij' : ¬ (j : ℕ) < i := hij
    simp [h, hij, hij', Scalar.select]

end Cert.KernelIdeal.Value

end
-- ==== Proof.SbAt.lean ====
/-
  The attention's block arithmetic, read at a position.
-/
module

public import proofs.«01_k».proof.Proof.SbBlock
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen

theorem scores_at (q k : FVec Ideal S1x256x128 .bf16) (r j : Fin 256) :
    scores q k (ix2 r j) = ∑ d : Fin 128, q (ix3 0 r d) * k (ix3 0 j d) := by
  pointwise [scores]

/-- The named constant denotes the base-two logarithm of `e`. -/
theorem log2e_ideal : Named.named (F := Ideal) κ "log2e" (φ := .f32) 0x3FB8AA3B#32 = (((Real.log 2)⁻¹ : ℝ) : EReal) :=
  IdealRules.named_const.ideal_named_scalar _ _ _ _ rfl

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  have h := WordCmp.cmpi_slt_ofNat (w := 32) ha hb
  by_cases hab : a < b <;> simp [h, hab, Scalar.select]

theorem soft_at (z : FVec Ideal S256x256 .f32) (r j : Fin 256) :
    soft z (ix2 r j) = max (z (ix2 r j)) 0
      + Ideal.log (1 + Ideal.exp2 (0 - FloatOps.absf (F := Ideal) (φ := .f32) (z (ix2 r j)))) * (((Real.log 2)⁻¹ : ℝ) : EReal) := by
  rw [← log2e_ideal]
  pointwise [soft]
  rfl

theorem masked_at (w : FVec Ideal S256x256 .f32) (r j : Fin 256) :
    masked w (ix2 r j) = if j < r then w (ix2 r j) else 0 := by
  pointwise [masked, past]
  exact select_slt _ _ (by omega) (by omega) _ _

theorem later_at (tri : FVec Ideal S256x256 .bf16) (p : FVec Ideal S256x256 .f32) (r j : Fin 256) :
    later tri p (ix2 r j) = ∑ i : Fin 256, p (ix2 r i) * tri (ix2 i j) := by
  pointwise [later]

theorem whole_at (tri : FVec Ideal S256x256 .bf16) (p : FVec Ideal S256x256 .f32) (r : Fin 256) (l : Fin 128) :
    whole tri p (ix2 r l) = later tri p (ix2 r 0) - p (ix2 r 0) := by
  pointwise [whole]

theorem plusLanes_at (x : FVec Ideal S256x256 .f32) (s : FVec Ideal S256x128 .f32) (r j : Fin 256) :
    plusLanes x s (ix2 r j) = x (ix2 r j) + s (ix2 r ⟨j.val % 128, Nat.mod_lt _ (by decide)⟩) := by
  pointwise [plusLanes]
  blk_point []

theorem weights_at (tri : FVec Ideal S256x256 .bf16) (z p : FVec Ideal S256x256 .f32) (s : FVec Ideal S256x128 .f32) (r j : Fin 256) :
    weights tri z p s (ix2 r j)
    = Ideal.exp2 (z (ix2 r j) - soft z (ix2 r j) + (later tri p (ix2 r j) + s (ix2 r ⟨j.val % 128, Nat.mod_lt _ (by decide)⟩))) := by
  rw [← plusLanes_at]
  pointwise [weights]
  rfl

theorem weighed_at (w : FVec Ideal S256x256 .f32) (v : FVec Ideal S1x256x128 .bf16) (r : Fin 256) (d : Fin 128) :
    weighed w v (ix2 r d) = ∑ j : Fin 256, w (ix2 r j) * v (ix3 0 j d) := by
  pointwise [weighed]

theorem zeros_at (r : Fin 256) (l : Fin 128) : zeros (ix2 r l) = 0 := by
  pointwise [zeros]

theorem tile_at (X : FVec Ideal S2x2048x128 .bf16) (h b : ℕ) (r : Fin 256) (d : Fin 128) :
    tile X h b (ix3 0 r d) = X (ix3 ⟨h % 2, by omega⟩ ⟨256 * (b % 8) + r.val, by omega⟩ d) := by
  pointwise [tile]

end Cert.KernelIdeal.Value

end
-- ==== Proof.SbFold.lean ====
/-
  The fold over key blocks on finite numbers: after the blocks down to `b`, the carry is minus the sum of the softplus over
  the keys from block `b` on that lie before the query, and the output the weighted sum of the values of those keys.
-/
module

public import proofs.«01_k».proof.Proof.SbAt

@[expose] public section

set_option maxRecDepth 16384

noncomputable section

open Idealize.ShloMosaic Idealize.ShloMosaic.TcCoe Idealize.SL.Sem
open Finset (Ico range)

namespace Cert.KernelIdeal.Value

open Cert.KernelIdeal Cert.KernelIdeal.Gen

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (a b : ℝ) : ((max a b : ℝ) : EReal) = max (a : EReal) b := EReal.coe_strictMono.monotone.map_max

/-- A sum over the positions of a block, as a sum over the keys it holds. -/
theorem sum_block (f : ℕ → ℝ) (b : ℕ) : ∑ i : Fin 256, f (256 * b + i) = ∑ s ∈ Ico (256 * b) (256 * (b + 1)), f s := by
  rw [Finset.sum_Ico_eq_sum_range, Fin.sum_univ_eq_sum_range (fun i => f (256 * b + i)),
    show 256 * (b + 1) - 256 * b = 256 by omega]

/-- The softplus in units of the base-two logarithm. -/
def sp (z : ℝ) : ℝ := max z 0 + Real.log (1 + (2 : ℝ) ^ (-|z|)) * (Real.log 2)⁻¹

theorem soft_coe (z : ℝ) :
    max (z : EReal) 0 + Ideal.log (1 + Ideal.exp2 (0 - FloatOps.absf (F := Ideal) (φ := .f32) (z : EReal)))
      * (((Real.log 2)⁻¹ : ℝ) : EReal) = ((sp z : ℝ) : EReal) := by
  have ha : FloatOps.absf (F := Ideal) (φ := .f32) (z : EReal) = ((|z| : ℝ) : EReal) := by
    show max (z : EReal) (-(z : EReal)) = _
    rw [← EReal.coe_neg, ← coe_max]; rfl
  have hp : (0 : ℝ) < 1 + (2 : ℝ) ^ (-|z|) := by positivity
  rw [ha, ← EReal.coe_zero, ← EReal.coe_sub, Ideal.exp2_coe, ← EReal.coe_one, ← EReal.coe_add, Ideal.log_coe]
  rw [if_neg (not_le.mpr (by simpa using hp)), ← EReal.coe_mul, ← coe_max, ← EReal.coe_add,
    zero_sub, Real.rpow_eq_pow]
  rfl

section
variable (n : ℕ) (x : Fin 256 → ℕ → ℝ) (y : ℕ → Fin 128 → ℝ)

/-- The softplus at a key before the query, zero at the others. -/
def mass (r : Fin 256) (s : ℕ) : ℝ := if s < 256 * n + r then sp (x r s) else 0

/-- The weight of a key before the query, zero at the others. -/
def weight (r : Fin 256) (s : ℕ) : ℝ :=
  if s < 256 * n + r then (2 : ℝ) ^ (x r s - sp (x r s) - ∑ u ∈ Ico (s + 1) 2048, mass n x r u) else 0

/-- The state after the blocks down to `b`. -/
def Inv (b : ℕ) (s : St) : Prop :=
  (∀ r d, s.1 (ix2 r d) = ((∑ u ∈ Ico (256 * b) 2048, weight n x r u * y u d : ℝ) : EReal))
    ∧ ∀ r l, s.2 (ix2 r l) = ((-∑ u ∈ Ico (256 * b) 2048, mass n x r u : ℝ) : EReal)

variable {n x y} {tri : FVec Ideal S256x256 .bf16} (htri : ∀ i j : Fin 256, tri (ix2 i j) = if j < i then -1 else 0)
include htri

theorem later_coe {p : FVec Ideal S256x256 .f32} {f : ℕ → ℝ} {b : ℕ} {r : Fin 256}
    (hp : ∀ j : Fin 256, p (ix2 r j) = ((f (256 * b + j) : ℝ) : EReal)) (j : Fin 256) :
    later tri p (ix2 r j) = ((-∑ u ∈ Ico (256 * b + j + 1) (256 * (b + 1)), f u : ℝ) : EReal) := by
  rw [later_at]
  have e : ∀ i : Fin 256, p (ix2 r i) * tri (ix2 i j)
      = (((fun u => if 256 * b + j < u then -f u else 0) (256 * b + i) : ℝ) : EReal) := fun i => by
    rw [hp, htri]
    by_cases h : j < i
    · have h' : 256 * b + (j : ℕ) < 256 * b + i := by have : (j : ℕ) < i := h; omega
      simp only [if_pos h, if_pos h']
      rw [mul_neg_one, EReal.coe_neg]
    · have h' : ¬ 256 * b + (j : ℕ) < 256 * b + i := by have : ¬ (j : ℕ) < i := h; omega
      simp only [if_neg h, if_neg h', mul_zero, EReal.coe_zero]
  rw [Finset.sum_congr rfl fun i _ => e i, ← coe_sum,
    sum_block (fun u => if 256 * b + (j : ℕ) < u then -f u else 0) b, ← Finset.sum_filter, Finset.sum_neg_distrib]
  have : (Ico (256 * b) (256 * (b + 1))).filter (fun u => 256 * b + (j : ℕ) < u) = Ico (256 * b + j + 1) (256 * (b + 1)) := by
    ext u; simp only [Finset.mem_filter, Finset.mem_Ico]; omega
  rw [this]

theorem whole_coe {p : FVec Ideal S256x256 .f32} {f : ℕ → ℝ} {b : ℕ} {r : Fin 256}
    (hp : ∀ j : Fin 256, p (ix2 r j) = ((f (256 * b + j) : ℝ) : EReal)) (l : Fin 128) :
    whole tri p (ix2 r l) = ((-∑ u ∈ Ico (256 * b) (256 * (b + 1)), f u : ℝ) : EReal) := by
  rw [whole_at, later_coe htri hp, hp, ← EReal.coe_sub, Finset.sum_eq_sum_Ico_succ_bot (by omega : 256 * b < 256 * (b + 1))]
  congr 1
  show -(∑ u ∈ Ico (256 * b + 0 + 1) (256 * (b + 1)), f u) - f (256 * b + 0) = _
  simp only [Nat.add_zero]; ring

/-- One block: from the state down to `b + 1` to the state down to `b`, given the block's softplus and its weights. -/
theorem step {b : ℕ} (hb : b < 8) {z p w : FVec Ideal S256x256 .f32} {v : FVec Ideal S1x256x128 .bf16} {s : St}
    (hz : ∀ r j : Fin 256, z (ix2 r j) = ((x r (256 * b + j) : ℝ) : EReal))
    (hv : ∀ (j : Fin 256) d, v (ix3 0 j d) = ((y (256 * b + j) d : ℝ) : EReal))
    (hp : ∀ r j : Fin 256, p (ix2 r j) = ((mass n x r (256 * b + j) : ℝ) : EReal))
    (hw : ∀ r j : Fin 256, w (ix2 r j) = if 256 * b + j < 256 * n + (r : ℕ) then weights tri z p s.2 (ix2 r j) else 0)
    (hs : Inv n x y (b + 1) s) :
    Inv n x y b (addf s.1 (weighed w v), addf s.2 (whole tri p)) := by
  have split : ∀ f : ℕ → ℝ, ∑ u ∈ Ico (256 * b) 2048, f u
      = ∑ u ∈ Ico (256 * b) (256 * (b + 1)), f u + ∑ u ∈ Ico (256 * (b + 1)) 2048, f u := fun f =>
    (Finset.sum_Ico_consecutive f (by omega) (by omega)).symm
  constructor
  · intro r d
    show s.1 (ix2 r d) + weighed w v (ix2 r d) = _
    have e : ∀ j : Fin 256, w (ix2 r j) * v (ix3 0 j d)
        = (((fun u => weight n x r u * y u d) (256 * b + j) : ℝ) : EReal) := fun j => by
      show _ = ((weight n x r (256 * b + j) * y (256 * b + j) d : ℝ) : EReal)
      rw [EReal.coe_mul, hw, hv]
      congr 1
      by_cases h : 256 * b + (j : ℕ) < 256 * n + r
      · rw [if_pos h, weight, if_pos h, weights_at, hz, later_coe htri (hp r), hs.2, soft_at, hz, soft_coe,
          ← EReal.coe_sub, ← EReal.coe_add, ← EReal.coe_add, Ideal.exp2_coe]
        rw [Real.rpow_eq_pow]
        congr 2
        rw [← Finset.sum_Ico_consecutive (mass n x r) (by omega : 256 * b + (j : ℕ) + 1 ≤ 256 * (b + 1)) (by omega : 256 * (b + 1) ≤ 2048)]
        ring
      · rw [if_neg h, weight, if_neg h, EReal.coe_zero]
    rw [hs.1, weighed_at, Finset.sum_congr rfl fun j _ => e j, ← coe_sum,
      sum_block (fun u => weight n x r u * y u d) b, ← EReal.coe_add, split, add_comm]
  · intro r l
    show s.2 (ix2 r l) + whole tri p (ix2 r l) = _
    rw [hs.2, whole_coe htri (hp r), ← EReal.coe_add, split]
    congr 1
    ring

theorem soft_mass {b : ℕ} (hb : b < n) {z : FVec Ideal S256x256 .f32}
    (hz : ∀ r j : Fin 256, z (ix2 r j) = ((x r (256 * b + j) : ℝ) : EReal)) (r j : Fin 256) :
    soft z (ix2 r j) = ((mass n x r (256 * b + j) : ℝ) : EReal) := by
  rw [soft_at, hz, soft_coe, mass, if_pos (by omega)]

theorem diag_inv (hn : n < 8) {q k v : FVec Ideal S1x256x128 .bf16}
    (hz : ∀ r j : Fin 256, scores q k (ix2 r j) = ((x r (256 * n + j) : ℝ) : EReal))
    (hv : ∀ (j : Fin 256) d, v (ix3 0 j d) = ((y (256 * n + j) d : ℝ) : EReal)) :
    Inv n x y n (diag tri q k v) := by
  have hlt : ∀ r j : Fin 256, 256 * n + (j : ℕ) < 256 * n + r ↔ j < r := fun r j => by
    rw [Fin.lt_def]; omega
  refine step htri (s := (zeros, zeros)) hn hz hv (fun r j => ?_) (fun r j => ?_) ⟨fun r d => ?_, fun r l => ?_⟩
  · rw [masked_at, soft_at, hz, soft_coe, mass]
    by_cases h : j < r
    · rw [if_pos h, if_pos ((hlt r j).mpr h)]
    · rw [if_neg h, if_neg (mt (hlt r j).mp h), EReal.coe_zero]
  · rw [masked_at]
    by_cases h : j < r
    · rw [if_pos h, if_pos ((hlt r j).mpr h)]
    · rw [if_neg h, if_neg (mt (hlt r j).mp h)]
  · show zeros (ix2 r d) = _
    rw [zeros_at, Finset.sum_eq_zero, EReal.coe_zero]
    intro u hu
    have := (Finset.mem_Ico.mp hu).1
    rw [weight, if_neg (by omega), zero_mul]
  · show zeros (ix2 r l) = _
    rw [zeros_at, Finset.sum_eq_zero, neg_zero, EReal.coe_zero]
    intro u hu
    have := (Finset.mem_Ico.mp hu).1
    rw [mass, if_neg (by omega)]

theorem below_inv {b : ℕ} (hb : b < n) (hn : n < 8) {q k v : FVec Ideal S1x256x128 .bf16} {s : St}
    (hz : ∀ r j : Fin 256, scores q k (ix2 r j) = ((x r (256 * b + j) : ℝ) : EReal))
    (hv : ∀ (j : Fin 256) d, v (ix3 0 j d) = ((y (256 * b + j) d : ℝ) : EReal))
    (hs : Inv n x y (b + 1) s) : Inv n x y b (below tri q k v s) :=
  step htri (by omega) hz hv (soft_mass htri hb hz) (fun r j => by rw [if_pos (by omega)]) hs

theorem down_inv (hn : n < 8) {Q K V : FVec Ideal S2x2048x128 .bf16} {h : ℕ}
    (hz : ∀ b ≤ n, ∀ r j : Fin 256, scores (tile Q h n) (tile K h b) (ix2 r j) = ((x r (256 * b + j) : ℝ) : EReal))
    (hv : ∀ b ≤ n, ∀ (j : Fin 256) d, tile V h b (ix3 0 j d) = ((y (256 * b + j) d : ℝ) : EReal)) :
    ∀ b ≤ n, ∀ s, Inv n x y b s → Inv n x y 0 (down Q K V tri h n b s)
  | 0, _, _, hs => hs
  | b + 1, hb, s, hs =>
    down_inv hn hz hv b (by omega) _ (below_inv htri (by omega) hn (hz b (by omega)) (hv b (by omega)) hs)

/-- What is stored: over the keys before the query, the sum of the values by their weights. -/
theorem stored_coe (hn : n < 8) {Q K V : FVec Ideal S2x2048x128 .bf16} {h : ℕ}
    (hz : ∀ b ≤ n, ∀ r j : Fin 256, scores (tile Q h n) (tile K h b) (ix2 r j) = ((x r (256 * b + j) : ℝ) : EReal))
    (hv : ∀ b ≤ n, ∀ (j : Fin 256) d, tile V h b (ix3 0 j d) = ((y (256 * b + j) d : ℝ) : EReal)) (r : Fin 256) (d : Fin 128) :
    stored Q K V tri h n (ix2 r d) = ((∑ u ∈ Ico 0 2048, weight n x r u * y u d : ℝ) : EReal) :=
  (down_inv htri hn hz hv n le_rfl _ (diag_inv htri hn (hz n le_rfl) (hv n le_rfl))).1 r d

end

end Cert.KernelIdeal.Value

end
-- ==== Proof.SbRef.lean ====
/-
  The attention's reference, read at a position: the logits, the mass of a key, the mass of the keys after it, the
  weights and the weighted values.
-/
module

public import proofs.«01_k».proof.Proof.Gen.ReferenceIdeal.Run
public import proofs.«01_k».proof.Proof.SbAt
public import proofs.«01_k».proof.Proof.SbFold

@[expose] public section

set_option maxRecDepth 16384

noncomputable section

open Idealize.ShloMosaic Idealize.ShloMosaic.TcCoe Idealize.SL.Sem
open Finset (Ico)

namespace Cert.ReferenceIdeal.Value

open Cert.ReferenceIdeal Cert.ReferenceIdeal.Gen

abbrev In := FVec Ideal S16x2048x8x128 .f32
abbrev Sq := FVec Ideal S16x8x2048x2048 .f32

def zeros : Sq := broadcastInDim S16x8x2048x2048 ![] bcast_S_S16x8x2048x2048 (constant S_ .f32 0x00000000#32)

/-- The logits, scaled. -/
def logits (Q K : In) : Sq :=
  Host.divf (Host.dotGeneral dot_S16x2048x8x128_S16x2048x8x128_S16x8x2048x2048_3_3_1_1_02_02 none Q K)
    (broadcastInDim S16x8x2048x2048 ![] bcast_S_S16x8x2048x2048 (Host.sqrt (constant S_ .f32 0x43000000#32)))

/-- The softplus. -/
def splus (x : Sq) : Sq :=
  select (cmpf .une (subf x zeros) (subf x zeros)) (addf x zeros)
    (addf (maximumf x zeros) (Host.log1p (Host.exp (Host.negf (Host.absf (subf x zeros))))))

/-- Whether the key comes before the query. -/
def before : IVec S16x8x2048x2048 1 :=
  broadcastInDim S16x8x2048x2048 ![0, 1, 2, 3] bcast_S1x1x2048x2048_S16x8x2048x2048_0_1_2_3
    (broadcastInDim S1x1x2048x2048 ![2, 3] bcast_S2048x2048_S1x1x2048x2048_2_3
      (cmpi .slt (broadcastInDim S2048x2048 ![0, 1] bcast_S1x2048_S2048x2048_0_1
          (broadcastInDim S1x2048 ![1] bcast_S2048_S1x2048_1 (iotaInDim S2048 32 0)))
        (broadcastInDim S2048x2048 ![0, 1] bcast_S2048x1_S2048x2048_0_1
          (broadcastInDim S2048x1 ![0] bcast_S2048_S2048x1_0 (iotaInDim S2048 32 0)))))

/-- The logarithm of the chance to pass a key by. -/
def lp (z : Sq) : Sq := select before (Host.negf (splus z)) zeros

/-- The sums over a key and those after it. -/
def cum (x : Sq) : Sq :=
  Host.reduceWindowAdd ![1, 1, 1, 2048] ![1, 1, 1, 1] ![0, 0, 0, 0] ![0, 0, 0, 2047] x
    (broadcastInDim S_ ![] bcast_S_S_ (constant S_ .f32 0x00000000#32))
    reduceWindows_S16x8x2048x2048_S16x8x2048x2048_w1s1p0_0_w1s1p0_0_w1s1p0_0_w2048s1p0_2047 h_S_

/-- The weights. -/
def wts (z : Sq) : Sq :=
  select before (Host.exp (addf (Host.negf (splus (Host.negf z))) (subf (cum (lp z)) (lp z)))) zeros

/-- The reference's result as a term of its three arguments. -/
def REF (Q K V : In) : FVec Ideal S32768x1024 .bf16 :=
  truncf .bf16 (shapeCast _ (transpose S16x2048x8x128 [0, 3, 1, 2]
    (Host.dotGeneral dot_S16x2048x8x128_S16x8x2048x2048_S16x8x128x2048_1_3_3_2_02_01 none V (wts (logits Q K)))
    transposes_S16x8x128x2048_S16x2048x8x128_0_3_1_2) shapeCasts_S16x2048x8x128_S32768x1024) bitsLt_bf16_f32

theorem res_eq (m : (ℓ : Loc nD τ sig) → Buf (Elt Ideal) ℓ) (c : Dev nD) :
    res_out0 m c = REF (m ((c.tc : Thread nD τ).loc main_arg0)) (m ((c.tc : Thread nD τ).loc main_arg1))
      (m ((c.tc : Thread nD τ).loc main_arg2)) := rfl

theorem zeros_at (b : Fin 16) (h : Fin 8) (i s : Fin 2048) : zeros (ix4 b h i s) = 0 := by
  pointwise [zeros]

theorem logits_at (Q K : In) (b : Fin 16) (h : Fin 8) (i s : Fin 2048) :
    logits Q K (ix4 b h i s)
    = Ideal.div (∑ d : Fin 128, Q (ix4 b i h d) * K (ix4 b s h d)) (Ideal.sqrt (Ideal.ofBits .f32 0x43000000#32)) := by
  pointwise [logits]

theorem before_at (b : Fin 16) (h : Fin 8) (i s : Fin 2048) (x y : Sq) :
    select before x y (ix4 b h i s) = if (s : ℕ) < i then x (ix4 b h i s) else y (ix4 b h i s) := by
  pointwise [before]
  exact Cert.KernelIdeal.Value.select_slt _ _ (by omega) (by omega) _ _

theorem REF_at (Q K V : In) (R : Fin 32768) (l : Fin 1024) :
    REF Q K V (ix2 R l)
    = ∑ s : Fin 2048, V (ix4 ⟨R.val / 2048, by omega⟩ s ⟨l.val / 128, by omega⟩ ⟨l.val % 128, by omega⟩)
        * wts (logits Q K) (ix4 ⟨R.val / 2048, by omega⟩ ⟨l.val / 128, by omega⟩ ⟨R.val % 2048, by omega⟩ s) := by
  pointwise [REF]

/-- The softplus, of a real. -/
def sft (x : ℝ) : ℝ := max x 0 + Real.log (1 + Real.exp (-|x|))

theorem splus_at (x : Sq) (b : Fin 16) (h : Fin 8) (i s : Fin 2048) (r : ℝ) (hx : x (ix4 b h i s) = (r : EReal)) :
    splus x (ix4 b h i s) = ((sft r : ℝ) : EReal) := by
  have e : splus x (ix4 b h i s) = max (x (ix4 b h i s)) (zeros (ix4 b h i s))
      + Ideal.log (1 + Ideal.exp (-(max (x (ix4 b h i s) - zeros (ix4 b h i s)) (-(x (ix4 b h i s) - zeros (ix4 b h i s)))))) := by
    have hne : cmpf .une (subf x zeros) (subf x zeros) (ix4 b h i s) = 0#1 := by
      show BitVec.ofBool (decide _) = 0#1
      simp
    show Scalar.select (cmpf .une (subf x zeros) (subf x zeros) (ix4 b h i s)) _ _ = _
    rw [hne]; rfl
  have hp : (0 : ℝ) < 1 + Real.exp (-|r|) := by positivity
  have ha : max (r : EReal) (-(r : EReal)) = ((|r| : ℝ) : EReal) := by
    rw [← EReal.coe_neg, ← Cert.KernelIdeal.Value.coe_max]; rfl
  rw [e, hx, zeros_at, sub_zero, ha, ← EReal.coe_neg, Ideal.exp_coe, ← EReal.coe_one, ← EReal.coe_add, Ideal.log_coe,
    if_neg (not_le.mpr hp), ← EReal.coe_zero, ← Cert.KernelIdeal.Value.coe_max, ← EReal.coe_add, sft]

theorem foldl_coe {ι : Type} (g : ι → EReal) (f : ι → ℝ) (hg : ∀ n, g n = (f n : EReal)) : ∀ (L : List ι) (a : ℝ),
    L.foldl (fun r n => r + g n) (a : EReal) = ((a + (L.map f).sum : ℝ) : EReal)
  | [], a => by simp
  | n :: L, a => by
    rw [List.foldl_cons, hg, ← EReal.coe_add, foldl_coe g f hg L, List.map_cons, List.sum_cons, add_assoc]

/-- The positions of the window are its positions along the last axis. -/
def last : (⟨4, ![1, 1, 1, 2048]⟩ : Shape).Idx ≃ Fin 2048 where
  toFun i := i 3
  invFun n := ix4 (0 : Fin 1) (0 : Fin 1) (0 : Fin 1) n
  left_inv i := by
    funext a
    match a with
    | 0 => exact Subsingleton.elim (α := Fin 1) _ _
    | 1 => exact Subsingleton.elim (α := Fin 1) _ _
    | 2 => exact Subsingleton.elim (α := Fin 1) _ _
    | 3 => rfl
  right_inv _ := rfl

/-- What position `w` of the window at `j` holds: the array's entry there, or the initial value past its end. -/
def win (x : Sq) (v : EReal) (j : S16x8x2048x2048.Idx) (w : (⟨4, ![1, 1, 1, 2048]⟩ : Shape).Idx) : EReal :=
  let p : Fin 4 → ℕ := fun a => (j a).val * (![1, 1, 1, 1] : Fin 4 → ℕ) a + (w a).val
  if hin : ∀ a : Fin 4, (![0, 0, 0, 0] : Fin 4 → ℕ) a ≤ p a ∧ p a - (![0, 0, 0, 0] : Fin 4 → ℕ) a < S16x8x2048x2048.size a then
    x (fun a => ⟨p a - (![0, 0, 0, 0] : Fin 4 → ℕ) a, (hin a).2⟩) else v

theorem cum_eq (x : Sq) (j : S16x8x2048x2048.Idx) :
    cum x j = (List.finRange (⟨4, ![1, 1, 1, 2048]⟩ : Shape).numel).foldl
      (fun r n => r + win x 0 j ((⟨4, ![1, 1, 1, 2048]⟩ : Shape).rowMajor.symm n)) 0 := by
  have h0 : broadcastInDim S_ ![] bcast_S_S_ (constant (F := Ideal) S_ .f32 0x00000000#32) (Shape.Idx.first h_S_) = (0 : EReal) := by
    pointwise []
  unfold cum Host.reduceWindowAdd
  rw [Ideal.hostReduceWindowAdd_def, h0]
  unfold Ideal.hostReduceWindowAdd Host.reduceWindow
  refine List.foldl_ext _ _ _ fun r n _ => congrArg (r + ·) ?_
  unfold win
  simp only [Fin.cast_eq_self]

theorem win_at (x : Sq) (v : EReal) (b : Fin 16) (h : Fin 8) (i s u : Fin 2048) :
    win x v (ix4 b h i s) (last.symm u) = if hu : (s : ℕ) + u < 2048 then x (ix4 b h i ⟨s + u, hu⟩) else v := by
  have hb := b.isLt; have hh := h.isLt; have hi := i.isLt
  unfold win
  by_cases hu : (s : ℕ) + u < 2048
  · rw [dif_pos hu, dif_pos]
    · congr 1
      funext a
      match a with
      | 0 => exact Fin.ext (show (b : ℕ) * 1 + 0 - 0 = b by omega)
      | 1 => exact Fin.ext (show (h : ℕ) * 1 + 0 - 0 = h by omega)
      | 2 => exact Fin.ext (show (i : ℕ) * 1 + 0 - 0 = i by omega)
      | 3 => exact Fin.ext (show (s : ℕ) * 1 + u - 0 = s + u by omega)
    · intro a
      match a with
      | 0 => exact (show 0 ≤ (b : ℕ) * 1 + 0 ∧ (b : ℕ) * 1 + 0 - 0 < 16 by omega)
      | 1 => exact (show 0 ≤ (h : ℕ) * 1 + 0 ∧ (h : ℕ) * 1 + 0 - 0 < 8 by omega)
      | 2 => exact (show 0 ≤ (i : ℕ) * 1 + 0 ∧ (i : ℕ) * 1 + 0 - 0 < 2048 by omega)
      | 3 => exact (show 0 ≤ (s : ℕ) * 1 + u ∧ (s : ℕ) * 1 + u - 0 < 2048 by omega)
  · rw [dif_neg hu, dif_neg]
    intro hin
    have h3 : 0 ≤ (s : ℕ) * 1 + u ∧ (s : ℕ) * 1 + u - 0 < 2048 := hin 3
    omega

theorem cum_at (x : Sq) (b : Fin 16) (h : Fin 8) (i s : Fin 2048) (f : ℕ → ℝ)
    (hx : ∀ u : Fin 2048, x (ix4 b h i u) = ((f u : ℝ) : EReal)) :
    cum x (ix4 b h i s) = ((∑ u ∈ Ico (s : ℕ) 2048, f u : ℝ) : EReal) := by
  have step : ∀ w, win x ((0 : ℝ) : EReal) (ix4 b h i s) w
      = (((fun u : Fin 2048 => if (s : ℕ) + u < 2048 then f (s + u) else 0) (last w) : ℝ) : EReal) := fun w => by
    obtain ⟨u, rfl⟩ := last.symm.surjective w
    rw [win_at, Equiv.apply_symm_apply]
    by_cases hu : (s : ℕ) + u < 2048
    · rw [dif_pos hu, hx]; simp only [if_pos hu]
    · rw [dif_neg hu]; simp only [if_neg hu]
  rw [cum_eq, ← EReal.coe_zero]
  rw [foldl_coe _ _ (fun n => step _) _ 0]
  rw [zero_add, ← Fin.sum_univ_def, Equiv.sum_comp (Shape.rowMajor _).symm (fun w => (fun u : Fin 2048 => if (s : ℕ) + u < 2048 then f (s + u) else 0) (last w)),
    Equiv.sum_comp last (fun u : Fin 2048 => if (s : ℕ) + u < 2048 then f (s + u) else 0),
    Fin.sum_univ_eq_sum_range (fun u => if (s : ℕ) + u < 2048 then f (s + u) else 0), ← Finset.sum_filter, Finset.sum_Ico_eq_sum_range]
  congr 2
  ext u
  simp only [Finset.mem_filter, Finset.mem_range]
  omega

/-- The mass of key `s` for query `i`: the negated softplus, of the keys before the query. -/
def pass (X : ℕ → ℝ) (i s : ℕ) : ℝ := if s < i then -sft (X s) else 0

/-- The weight of key `s` for query `i`. -/
def wt (X : ℕ → ℝ) (i s : ℕ) : ℝ :=
  if s < i then Real.exp (-sft (-X s) + (∑ u ∈ Ico s 2048, pass X i u - pass X i s)) else 0

theorem lp_at (z : Sq) (b : Fin 16) (h : Fin 8) (i : Fin 2048) (X : ℕ → ℝ)
    (hz : ∀ u : Fin 2048, z (ix4 b h i u) = ((X u : ℝ) : EReal)) (s : Fin 2048) :
    lp z (ix4 b h i s) = ((pass X i s : ℝ) : EReal) := by
  rw [lp, before_at, pass]
  by_cases hs : (s : ℕ) < i
  · rw [if_pos hs, if_pos hs, EReal.coe_neg, ← splus_at z b h i s _ (hz s)]; rfl
  · rw [if_neg hs, if_neg hs, zeros_at]; rfl

theorem wts_at (z : Sq) (b : Fin 16) (h : Fin 8) (i : Fin 2048) (X : ℕ → ℝ)
    (hz : ∀ u : Fin 2048, z (ix4 b h i u) = ((X u : ℝ) : EReal)) (s : Fin 2048) :
    wts z (ix4 b h i s) = ((wt X i s : ℝ) : EReal) := by
  rw [wts, before_at, wt]
  by_cases hs : (s : ℕ) < i
  · rw [if_pos hs, if_pos hs]
    have hn : Host.negf z (ix4 b h i s) = ((-X s : ℝ) : EReal) := by
      show -(z (ix4 b h i s)) = _
      rw [hz, EReal.coe_neg]
    show Ideal.exp (-(splus (Host.negf z) (ix4 b h i s)) + (cum (lp z) (ix4 b h i s) - lp z (ix4 b h i s))) = _
    rw [splus_at _ b h i s _ hn, cum_at _ b h i s _ (lp_at z b h i X hz), lp_at z b h i X hz, ← EReal.coe_neg, ← EReal.coe_sub,
      ← EReal.coe_add, Ideal.exp_coe]
  · rw [if_neg hs, if_neg hs, zeros_at]; rfl

end Cert.ReferenceIdeal.Value

end
-- ==== Proof.SbReal.lean ====
/-
  The attention, over the reals: the kernel's weight, in powers of two of logits taken in units of the base-two
  logarithm, is the reference's.
-/
module

public import proofs.«01_k».proof.Proof.SbRef

@[expose] public section

noncomputable section

open Finset (Ico)

namespace Cert.KernelIdeal.Value

open Cert.ReferenceIdeal.Value (sft pass wt)

theorem log2_pos : 0 < Real.log 2 := Real.log_pos (by norm_num)

theorem two_pow (y : ℝ) : (2 : ℝ) ^ (y * (Real.log 2)⁻¹) = Real.exp y := by
  rw [Real.rpow_def_of_pos (by norm_num), mul_comm y, mul_inv_cancel_left₀ log2_pos.ne']

theorem sp_eq (X : ℝ) : sp (X * (Real.log 2)⁻¹) = sft X * (Real.log 2)⁻¹ := by
  have hL : 0 < (Real.log 2)⁻¹ := inv_pos.mpr log2_pos
  have hm : max (X * (Real.log 2)⁻¹) 0 = max X 0 * (Real.log 2)⁻¹ := by
    rw [max_mul_of_nonneg _ _ hL.le, zero_mul]
  rw [sp, sft, abs_mul, abs_of_pos hL, ← neg_mul, two_pow, hm, add_mul]

theorem sub_sft (X : ℝ) : X - sft X = -sft (-X) := by
  have h : max (-X) 0 = max X 0 - X := by
    rcases le_total X 0 with h | h
    · rw [max_eq_left (by linarith), max_eq_right h]; ring
    · rw [max_eq_right (by linarith), max_eq_left h]; ring
  rw [sft, sft, abs_neg, h]; ring

theorem weight_eq (X : ℕ → ℝ) (n : ℕ) (x : Fin 256 → ℕ → ℝ) (r : Fin 256)
    (hx : ∀ u, x r u = X u * (Real.log 2)⁻¹) {s : ℕ} (hs : s < 2048) : weight n x r s = wt X (256 * n + r) s := by
  have hm : ∀ u, mass n x r u = -pass X (256 * n + r) u * (Real.log 2)⁻¹ := fun u => by
    rw [mass, pass, hx, sp_eq]
    by_cases h : u < 256 * n + r
    · rw [if_pos h, if_pos h, neg_neg]
    · rw [if_neg h, if_neg h]; ring
  rw [weight, wt]
  by_cases h : s < 256 * n + r
  · rw [if_pos h, if_pos h, ← two_pow, Finset.sum_eq_sum_Ico_succ_bot hs]
    congr 1
    rw [hx, sp_eq, Finset.sum_congr rfl fun u _ => hm u, ← Finset.sum_mul, Finset.sum_neg_distrib, ← sub_sft]
    ring
  · rw [if_neg h, if_neg h]

end Cert.KernelIdeal.Value

end
-- ==== Proof.SbValue.lean ====
/-
  The attention: what the call's result array holds after the run, for real arguments, as the reference's own term.
-/
module

public import proofs.«01_k».proof.Proof.SbTiles
public import proofs.«01_k».proof.Proof.SbReads
public import proofs.«01_k».proof.Proof.SbReal

@[expose] public section

set_option maxRecDepth 16384

noncomputable section

open Idealize.ShloMosaic Idealize.ShloMosaic.TcCoe Idealize.SL.Sem
open Idealize.ShloMosaic.Pipeline (Dat)
open Finset (Ico)

namespace Cert.KernelIdeal.Value

open Cert.KernelIdeal Cert.KernelIdeal.Gen
open Cert.ReferenceIdeal.Value (REF REF_at logits logits_at wts wts_at wt)

variable (m : (ℓ : Loc nD τ sig) → Buf (Elt Ideal) ℓ)

section
variable (c : Dev nD) (q k v : S16x2048x8x128.Idx → ℝ)

/-- A position past an axis's end, brought back. -/
abbrev at' (X : S16x2048x8x128.Idx → ℝ) (b : Fin 16) (h : Fin 8) (s : ℕ) (d : Fin 128) : ℝ :=
  X (ix4 b (⟨s % 2048, Nat.mod_lt _ (by decide)⟩ : Fin 2048) h d)

/-- The logit of key `s` for query `i`. -/
def X (b : Fin 16) (h : Fin 8) (i : Fin 2048) (s : ℕ) : ℝ := (∑ d : Fin 128, at' q b h i d * at' k b h s d) * (Real.sqrt 128)⁻¹

variable (hq : ∀ i, A0 m c i = (q i : EReal)) (hk : ∀ i, A1 m c i = (k i : EReal)) (hv : ∀ i, A2 m c i = (v i : EReal))

include hq hk in
theorem logits_coe (b : Fin 16) (h : Fin 8) (i s : Fin 2048) :
    logits (A0 m c) (A1 m c) (ix4 b h i s) = ((X q k b h i s : ℝ) : EReal) := by
  rw [logits_at, root128, Finset.sum_congr rfl fun d _ => by rw [hq, hk, ← EReal.coe_mul], ← coe_sum, Ideal.div_coe root128_pos.ne',
    ← EReal.coe_mul, X]
  simp only [at', Nat.mod_eq_of_lt s.isLt, Nat.mod_eq_of_lt i.isLt, one_div, Fin.eta]

include hq hk in
theorem scores_coe (t : Fin cfg0.N) (ht : t.val < 64) (h n b : ℕ) (hh : h < 2) (hn : n < 8) (hb : b < 8) (r j : Fin 256) :
    scores (tile (iblk m c 0 t) h n) (tile (iblk m c 1 t) h b) (ix2 r j)
    = ((X q k ⟨t.val / 4, by omega⟩ ⟨2 * (t.val % 4) + h, by omega⟩ ⟨256 * n + r, by omega⟩ (256 * b + j) * (Real.log 2)⁻¹ : ℝ) : EReal) := by
  rw [scores_at, X, Finset.sum_mul, Finset.sum_mul, coe_sum]
  refine Finset.sum_congr rfl fun d _ => ?_
  rw [tile_at, tile_at, in0 m c t ht, in1 m c t ht, hq, hk, scale, scale_eq, ← EReal.coe_mul, ← EReal.coe_mul]
  simp only [at', Nat.mod_eq_of_lt hh, Nat.mod_eq_of_lt hn, Nat.mod_eq_of_lt hb,
    Nat.mod_eq_of_lt (show 256 * n + (r : ℕ) < 2048 by omega), Nat.mod_eq_of_lt (show 256 * b + (j : ℕ) < 2048 by omega)]
  congr 1
  ring

include hv in
theorem vals_coe (t : Fin cfg0.N) (ht : t.val < 64) (h b : ℕ) (hh : h < 2) (hb : b < 8) (j : Fin 256) (d : Fin 128) :
    tile (iblk m c 2 t) h b (ix3 0 j d)
    = ((at' v ⟨t.val / 4, by omega⟩ ⟨2 * (t.val % 4) + h, by omega⟩ (256 * b + j) d : ℝ) : EReal) := by
  rw [tile_at, in2 m c t ht, hv]
  simp only [at', Nat.mod_eq_of_lt hh, Nat.mod_eq_of_lt hb, Nat.mod_eq_of_lt (show 256 * b + (j : ℕ) < 2048 by omega)]

include hq hk hv in
theorem REF_coe (R : Fin 32768) (l : Fin 1024) :
    REF (A0 m c) (A1 m c) (A2 m c) (ix2 R l)
    = ((∑ s ∈ Ico 0 2048, wt (X q k ⟨R.val / 2048, by omega⟩ ⟨l.val / 128, by omega⟩ ⟨R.val % 2048, by omega⟩) (R.val % 2048) s
        * at' v ⟨R.val / 2048, by omega⟩ ⟨l.val / 128, by omega⟩ s ⟨l.val % 128, by omega⟩ : ℝ) : EReal) := by
  rw [REF_at, Finset.sum_congr rfl fun s _ => by
    rw [hv, wts_at _ _ _ _ _ (fun u => logits_coe m c q k hq hk _ _ _ u), ← EReal.coe_mul, mul_comm], ← coe_sum,
    ← Finset.range_eq_Ico, ← Fin.sum_univ_eq_sum_range]
  simp only [at', Nat.mod_eq_of_lt (Fin.isLt _), Fin.eta]

include hq hk hv in
/-- What point `t` stores at a position of its block is the reference at the array position where it sits. -/
theorem point (t : Fin cfg0.N) (a : Fin 2048) (l : Fin 256) :
    block (iblk m c 0 t) (iblk m c 1 t) (iblk m c 2 t) (iblk m c 3 t) (ix2 a l)
    = REF (A0 m c) (A1 m c) (A2 m c) (((cfg0.win 4).blk t).view.emb (ix2 a l)) := by
  have ht : t.val < 64 := t.isLt
  have ha := a.isLt
  have hl := l.isLt
  have e : ((cfg0.win 4).blk t).view.emb (ix2 a l)
      = ix2 (⟨t.val / 4 * 2048 + a, by omega⟩ : Fin 32768) (⟨t.val % 4 * 256 + l, by omega⟩ : Fin 1024) := by
    blk_ext [idx t]
  have hn : (a : ℕ) / 256 < 8 := by omega
  have hh : (l : ℕ) / 128 < 2 := by omega
  rw [e, REF_coe m c q k v hq hk hv]
  show stored _ _ _ _ ((l : ℕ) / 128) ((a : ℕ) / 256) (ix2 (⟨(a : ℕ) % 256, _⟩ : Fin 256) (⟨(l : ℕ) % 128, _⟩ : Fin 128)) = _
  rw [stored_coe (x := fun r u => X q k ⟨t.val / 4, by omega⟩ ⟨2 * (t.val % 4) + (l : ℕ) / 128, by omega⟩
      ⟨256 * ((a : ℕ) / 256) + r, by omega⟩ u * (Real.log 2)⁻¹)
    (y := at' v ⟨t.val / 4, by omega⟩ ⟨2 * (t.val % 4) + (l : ℕ) / 128, by omega⟩) (in3 m c t) hn
    (fun b hb r j => scores_coe m c q k hq hk t ht _ _ b hh hn (by omega) r j)
    (fun b hb j d => vals_coe m c v hv t ht _ b hh (by omega) j d)]
  congr 1
  refine Finset.sum_congr rfl fun s hs => ?_
  have hs' : s < 2048 := (Finset.mem_Ico.mp hs).2
  rw [weight_eq _ _ _ _ (fun u => rfl) hs']
  have e1 : (t.val / 4 * 2048 + (a : ℕ)) / 2048 = t.val / 4 := by omega
  have e2 : (t.val / 4 * 2048 + (a : ℕ)) % 2048 = a := by omega
  have e3 : (t.val % 4 * 256 + (l : ℕ)) / 128 = 2 * (t.val % 4) + (l : ℕ) / 128 := by omega
  have e4 : (t.val % 4 * 256 + (l : ℕ)) % 128 = (l : ℕ) % 128 := by omega
  have e5 : 256 * ((a : ℕ) / 256) + (a : ℕ) % 256 = a := by omega
  simp only [e1, e2, e3, e4, e5]

include hq hk hv in
/-- The result array after the run. -/
theorem final : (dats m 0 c).arrAt 4 (cfgs 0).N = REF (A0 m c) (A1 m c) (A2 m c) := by
  refine (dats m 0 c).arrAt_eq_of_covers 4 _ (by decide +kernel) fun t _ y => ?_
  blk_simp
  rw [after0_4]
  idx_vars y
  rw [outs_eq]
  exact point m c q k v hq hk hv t _ _

end

end Cert.KernelIdeal.Value

end
-- ==== Proof.SbFinite.lean ====
/-
  The attention's precondition, read back: every entry of the three arguments is a real.
-/
module

public import proofs.«01_k».proof.Defs
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.Pre_finite

open Facts

theorem inf_eq : Ideal.ofBits .f32 0x7F800000#32 = ⊤ := by simp [Ideal.ofBits, Ideal.ieee]

theorem scalar_idx (i j : S_.Idx) : i = j := funext fun a => absurd a.isLt (by simp)

/-- Where one of the three tests holds, each entry it tests is a real. -/
theorem real_of_all (x : FVec Ideal S16x2048x8x128 .f32) (j : S_.Idx)
    (e : Host.reduce IntOp.andi (cmpf .olt (Host.absf x) (broadcastInDim S16x2048x8x128 ![] bcast_S_S16x2048x8x128
      (constant S_ .f32 0x7F800000#32))) (constantI S_ 1 1#1) reducesTo_S16x2048x8x128_S_d0_1_2_3 h_S_ j = 1#1)
    (i : S16x2048x8x128.Idx) : ∃ r : ℝ, x i = (r : EReal) := by
  have h := Host.reduce_andi_eq_one _ _ _ _ j e i (scalar_idx _ _)
  have h' : BitVec.ofBool (decide (max (x i) (-(x i)) < Ideal.ofBits .f32 0x7F800000#32)) = 1#1 := h
  rw [inf_eq] at h'
  have hlt : max (x i) (-(x i)) < ⊤ := by
    by_contra hc
    simp [hc] at h'
  have h1 : x i < ⊤ := lt_of_le_of_lt (le_max_left _ _) hlt
  have h2 : -(x i) < ⊤ := lt_of_le_of_lt (le_max_right _ _) hlt
  refine ⟨(x i).toReal, (EReal.coe_toReal h1.ne ?_).symm⟩
  intro hb
  rw [hb] at h2
  simp at h2

theorem real_of_fn (q k v : FVec Ideal S16x2048x8x128 .f32) (h : fn (F := Ideal) q k v = fun _ => 1#1) :
    (∀ i, ∃ r : ℝ, q i = (r : EReal)) ∧ (∀ i, ∃ r : ℝ, k i = (r : EReal)) ∧ ∀ i, ∃ r : ℝ, v i = (r : EReal) := by
  have e := congrFun h (fun a => absurd a.isLt (by simp))
  obtain ⟨hqk, hv⟩ := IntOp.andi_eq_one.1 (show IntOp.andi _ _ = 1#1 from e)
  obtain ⟨hq, hk⟩ := IntOp.andi_eq_one.1 (show IntOp.andi _ _ = 1#1 from hqk)
  exact ⟨real_of_all q _ hq, real_of_all k _ hk, real_of_all v _ hv⟩

end Cert.Pre_finite

end
-- ==== Proof.SbClaims.lean ====
/-
  The attention: its claims, from the two programs' runs and the equation between their results.
-/
module

public import proofs.«01_k».proof.Defs
public import proofs.«01_k».proof.Proof.Gen.Kernel.Frame
public import proofs.«01_k».proof.Proof.SbValue
public import proofs.«01_k».proof.Proof.SbFinite
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem sb_frame : Cert.quiescent_Kernel := fun m ρ _ => Cert.Kernel.Gen.frame m ρ

theorem sb_frame_ideal : Cert.quiescent_KernelIdeal := fun m ρ _ => Cert.KernelIdeal.Gen.frame m ρ

theorem sb_frame_reference : Cert.quiescent_ReferenceIdeal :=
  fun m ρ _ => (θ_run _ _ _).mono (fun r h => ⟨fun c => (h c).2, sem_eq_zero_of_no_sems rfl r.2⟩)
    (Cert.ReferenceIdeal.Value.run m ρ)

theorem sb_preserves : Cert.preserves_Kernel_KernelIdeal :=
  IdealRules.named_const.statement Cert.KernelIdeal.κ "log2e" .f32 0x3FB8AA3B#32 (((Real.log 2)⁻¹ : ℝ) : EReal) rfl

theorem sb_frame_ideal_finite : Cert.quiescent_KernelIdeal_pre_finite := fun m ρ _ => Cert.KernelIdeal.Gen.frame m ρ

theorem sb_frame_reference_finite : Cert.quiescent_ReferenceIdeal_pre_finite := fun m ρ _ => sb_frame_reference m ρ trivial

theorem sb_algebraic : Cert.algebraic_KernelIdeal_ReferenceIdeal_pre_finite := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
  · run_from Cert.ReferenceIdeal.Value.run m' g'
    obtain ⟨hq, hk, hv⟩ := Cert.Pre_finite.real_of_fn _ _ _ (hpre c)
    choose q hq using hq
    choose k hk using hk
    choose v hv using hv
    obtain ⟨e0, e1, e2⟩ := hagree c
    refine (Cert.ReferenceIdeal.Value.res_eq m' c).trans ?_
    rw [e0, e1, e2]
    exact (Cert.KernelIdeal.Value.final m c q k v hq hk hv).symm

end Cert.Proof

end
-- ==== Proof.InBlock.lean ====
/-
  The input projection, one block: 256 rows of normalised tokens times 512 columns of weights, a strip of 128 columns of the
  product, and what each group of columns does with its strip.
-/
module

public import proofs.«01_k».proof.Proof.Gen.InKernelIdeal.Skeleton
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InKernelIdeal.Value

open Cert.InKernelIdeal Cert.InKernelIdeal.Gen

/-- The rows times the columns. -/
def prod (a : FVec Ideal S256x2048 .bf16) (w : FVec Ideal S1x2048x512 .bf16) : FVec Ideal S256x512 .f32 :=
  matmul dot_S256x2048_S2048x512_S256x512_1_0_0_1_n_n none a
    (shapeCast S2048x512 w shapeCasts_S1x2048x512_S2048x512) (constant S256x512 .f32 0x00000000#32)

/-- A strip of the product, from column `o`. -/
def strip (o : ℕ) (hs : S256x512.Slices ![0, o] S256x128) (p : FVec Ideal S256x512 .f32) : FVec Ideal S256x128 .f32 :=
  extractStridedSlice S256x128 ![0, o] p hs

/-- A strip rounded and placed as the rows of one chunk. -/
def tile (v : FVec Ideal S256x128 .f32) : FVec Ideal S1x256x128 .bf16 :=
  shapeCast S1x256x128 (truncf .bf16 v bitsLt_bf16_f32) shapeCasts_S256x128_S1x256x128

/-- Rotation by position over the 128 columns of a head. -/
def rope128 (v c s : FVec Ideal S256x128 .f32) : FVec Ideal S256x128 .f32 :=
  addf (mulf v c) (mulf (dynamicRotate 1 64#32 none v rotates_S256x128_d1) s)

/-- Rotation by position over the two heads of 64 columns in a strip. -/
def rope64 (v c lo hi : FVec Ideal S256x128 .f32) : FVec Ideal S256x128 .f32 :=
  addf (addf (mulf v c) (mulf (dynamicRotate 1 96#32 none v rotates_S256x128_d1) lo))
    (mulf (dynamicRotate 1 32#32 none v rotates_S256x128_d1) hi)

theorem prod_at (a : FVec Ideal S256x2048 .bf16) (w : FVec Ideal S1x2048x512 .bf16) (r : Fin 256) (l : Fin 512) :
    prod a w (ix2 r l) = ∑ k : Fin 2048, a (ix2 r k) * w (ix3 0 k l) := by
  pointwise [prod]

theorem strip_at (o : ℕ) (hs : S256x512.Slices ![0, o] S256x128) (p : FVec Ideal S256x512 .f32) (r : Fin 256) (d : Fin 128)
    (l : Fin 512) (hl : (l : ℕ) = o + d) : strip o hs p (ix2 r d) = p (ix2 r l) := by
  pointwise [strip]
  exact congrArg (fun z => p (ix2 r z)) (Fin.ext hl.symm)

theorem tile_at (v : FVec Ideal S256x128 .f32) (r : Fin 256) (d : Fin 128) : tile v (ix3 0 r d) = v (ix2 r d) := by
  pointwise [tile]

theorem rope128_at (v c s : FVec Ideal S256x128 .f32) (r : Fin 256) (d : Fin 128) :
    rope128 v c s (ix2 r d) = v (ix2 r d) * c (ix2 r d) + v (ix2 r ⟨(d + 64) % 128, by omega⟩) * s (ix2 r d) := by
  have e : ((d : ℕ) + 128 - 64) % 128 = (d + 64) % 128 := by omega
  pointwise [rope128]
  simp only [e]

theorem rope64_at (v c lo hi : FVec Ideal S256x128 .f32) (r : Fin 256) (d : Fin 128) :
    rope64 v c lo hi (ix2 r d) = (v (ix2 r d) * c (ix2 r d) + v (ix2 r ⟨(d + 32) % 128, by omega⟩) * lo (ix2 r d))
      + v (ix2 r ⟨(d + 96) % 128, by omega⟩) * hi (ix2 r d) := by
  have e : ((d : ℕ) + 128 - 96) % 128 = (d + 32) % 128 := by omega
  have f : ((d : ℕ) + 128 - 32) % 128 = (d + 96) % 128 := by omega
  pointwise [rope64]
  simp only [e, f]

/-- The rows `p` to `p + 255` of the normalised tokens. -/
abbrev hrows (p : ℕ) (h : ∀ a, (![p, 0] : Fin 2 → ℕ) a + (![256, 2048] : Fin 2 → ℕ) a ≤ S1024x2048.size a)
    (H : FVec Ideal S1024x2048 .bf16) : FVec Ideal S256x2048 .bf16 :=
  View.ld (Val := Elt Ideal) (show Vec Ideal S1024x2048 .bf16 from H) (Rect.unit ![p, 0] ![256, 2048] h)

/-- The columns `q` to `q + 511` of the block of weights. -/
abbrev wcols (q : ℕ) (h : ∀ a, (![0, 0, q] : Fin 3 → ℕ) a + (![1, 2048, 512] : Fin 3 → ℕ) a ≤ S1x2048x1024.size a)
    (W : FVec Ideal S1x2048x1024 .bf16) : FVec Ideal S1x2048x512 .bf16 :=
  View.ld (Val := Elt Ideal) (show Vec Ideal S1x2048x1024 .bf16 from W) (Rect.unit ![0, 0, q] ![1, 2048, 512] h)

/-- The rows `p` to `p + 255` of a table. -/
abbrev trows (p : ℕ) (h : ∀ a, (![p, 0] : Fin 2 → ℕ) a + (![256, 128] : Fin 2 → ℕ) a ≤ S1024x128.size a)
    (T : FVec Ideal S1024x128 .f32) : FVec Ideal S256x128 .f32 :=
  shapeCast S256x128 (View.ld (Val := Elt Ideal) (show Vec Ideal S1024x128 .f32 from T) (Rect.unit ![p, 0] ![256, 128] h)) shapeCasts_S256x128_S256x128

/-- A row of the normalised tokens times a column of the weights. -/
def acc (H : FVec Ideal S1024x2048 .bf16) (W : FVec Ideal S1x2048x1024 .bf16) (R : Fin 1024) (l : Fin 1024) : EReal :=
  ∑ k : Fin 2048, H (ix2 R k) * W (ix3 0 k l)

theorem hrows_at (p : ℕ) (h) (H : FVec Ideal S1024x2048 .bf16) (R : Fin 1024) (r : Fin 256) (hR : (R : ℕ) = p + r) (k : Fin 2048) :
    hrows p h H (ix2 r k) = H (ix2 R k) :=
  View.ld_unit_apply_of (Val := Elt Ideal) (show Vec Ideal S1024x2048 .bf16 from H) _ _ _ _ (ix2 R k) fun a => by
    fin_cases a
    · exact hR
    · exact (Nat.zero_add _).symm

theorem wcols_at (q : ℕ) (h) (W : FVec Ideal S1x2048x1024 .bf16) (l : Fin 512) (L : Fin 1024) (hL : (L : ℕ) = q + l) (k : Fin 2048) :
    wcols q h W (ix3 0 k l) = W (ix3 0 k L) :=
  View.ld_unit_apply_of (Val := Elt Ideal) (show Vec Ideal S1x2048x1024 .bf16 from W) _ _ _ _ (ix3 0 k L) fun a => by
    fin_cases a
    · rfl
    · exact (Nat.zero_add _).symm
    · exact hL

theorem trows_at (p : ℕ) (h) (T : FVec Ideal S1024x128 .f32) (R : Fin 1024) (r : Fin 256) (hR : (R : ℕ) = p + r) (d : Fin 128) :
    trows p h T (ix2 r d) = T (ix2 R d) := by
  refine (congrFun (shapeCast_self (s := S256x128) _ _) _).trans ?_
  exact View.ld_unit_apply_of (Val := Elt Ideal) (show Vec Ideal S1024x128 .f32 from T) _ _ _ _ (ix2 R d) fun a => by
    fin_cases a
    · exact hR
    · exact (Nat.zero_add _).symm

/-- A strip of a product of windows is the product at its row and column. -/
theorem strip_prod (p q o : ℕ) (hp) (hq) (hs) (H : FVec Ideal S1024x2048 .bf16) (W : FVec Ideal S1x2048x1024 .bf16) (R L : Fin 1024)
    (r : Fin 256) (d : Fin 128) (ho : o + 128 ≤ 512) (hR : (R : ℕ) = p + r) (hL : (L : ℕ) = q + (o + d)) :
    strip o hs (prod (hrows p hp H) (wcols q hq W)) (ix2 r d) = acc H W R L := by
  have hd := d.isLt
  rw [strip_at o hs _ r d ⟨o + d, by omega⟩ rfl, prod_at, acc]
  exact Finset.sum_congr rfl fun k _ => by
    rw [hrows_at p hp H R r hR, wcols_at q hq W ⟨o + d, by omega⟩ L hL]

/-- The column of a block at chunk `g` and column `d` of it. -/
def lane (g : Fin 8) (d : ℕ) : Fin 1024 := ⟨128 * g + d % 128, by omega⟩

/-- A column of a strip of windows, at a place of the block: chunk `G`, row `R`. -/
theorem strip_lane (p q o : ℕ) (hp) (hq) (hs) (H : FVec Ideal S1024x2048 .bf16) (W : FVec Ideal S1x2048x1024 .bf16) (G : Fin 8) (R : Fin 1024)
    (r : Fin 256) (d : Fin 128) (n : ℕ) (ho : o + 128 ≤ 512) (hR : (R : ℕ) = p + r) (hG : q + o = 128 * (G : ℕ)) (hn : (d : ℕ) = n % 128) :
    strip o hs (prod (hrows p hp H) (wcols q hq W)) (ix2 r d) = acc H W R (lane G n) :=
  strip_prod p q o hp hq hs H W R (lane G n) r d ho hR (by show 128 * (G : ℕ) + n % 128 = q + (o + d); omega)

section
variable (H : FVec Ideal S1024x2048 .bf16) (W : FVec Ideal S1x2048x1024 .bf16) (s : EReal) (C S T : FVec Ideal S1024x128 .f32)

/-- The gates' columns: the logistic function of the product. -/
def gateV (G : Fin 8) (R : Fin 1024) (d : Fin 128) : EReal := Ideal.logistic (acc H W R (lane G d))

/-- The plain columns: the product times a factor. -/
def scaleV (G : Fin 8) (R : Fin 1024) (d : Fin 128) : EReal := acc H W R (lane G d) * s

/-- The rotated columns of heads of 128, times a factor. -/
def ropeV (G : Fin 8) (R : Fin 1024) (d : Fin 128) : EReal :=
  (acc H W R (lane G d) * C (ix2 R d) + acc H W R (lane G ((d : ℕ) + 64)) * S (ix2 R d)) * s

/-- The rotated columns of heads of 64. -/
def ropeIV (G : Fin 8) (R : Fin 1024) (d : Fin 128) : EReal :=
  (acc H W R (lane G d) * C (ix2 R d) + acc H W R (lane G ((d : ℕ) + 32)) * S (ix2 R d))
    + acc H W R (lane G ((d : ℕ) + 96)) * T (ix2 R d)

variable {H W s C S T} {p q o : ℕ} {hp : ∀ a, (![p, 0] : Fin 2 → ℕ) a + (![256, 2048] : Fin 2 → ℕ) a ≤ S1024x2048.size a}
  {hq : ∀ a, (![0, 0, q] : Fin 3 → ℕ) a + (![1, 2048, 512] : Fin 3 → ℕ) a ≤ S1x2048x1024.size a}
  {ht ht' ht'' : ∀ a, (![p, 0] : Fin 2 → ℕ) a + (![256, 128] : Fin 2 → ℕ) a ≤ S1024x128.size a}
  {hs : S256x512.Slices ![0, o] S256x128}

theorem tile_idx (v : FVec Ideal S256x128 .f32) (x : S1x256x128.Idx) : tile v x = v (ix2 (x 1 : Fin 256) (x 2 : Fin 128)) := by
  have e : x = ix3 (0 : Fin 1) (x 1 : Fin 256) (x 2 : Fin 128) := by
    funext a
    fin_cases a
    · exact Subsingleton.elim (α := Fin 1) _ _
    · rfl
    · rfl
  rw [e]
  exact tile_at v (x 1) (x 2)

section
variable (G : Fin 8) (R : Fin 1024) (r : Fin 256) (d : Fin 128) (hG : q + o = 128 * (G : ℕ)) (hR : (R : ℕ) = p + r) (ho : o + 128 ≤ 512)
include hG hR ho

theorem gate_row : logistic (strip o hs (prod (hrows p hp H) (wcols q hq W))) (ix2 r d) = gateV H W G R d := by
  have e : ∀ v : FVec Ideal S256x128 .f32, logistic v (ix2 r d) = Ideal.logistic (v (ix2 r d)) := fun _ => rfl
  rw [gateV, ← strip_lane p q o hp hq hs H W G R r d d ho hR hG (by omega), e]

theorem scale_row : mulf (strip o hs (prod (hrows p hp H) (wcols q hq W))) (broadcast S256x128 s) (ix2 r d) = scaleV H W s G R d := by
  have e : ∀ v : FVec Ideal S256x128 .f32, mulf v (broadcast S256x128 s) (ix2 r d) = v (ix2 r d) * s := fun _ => rfl
  rw [scaleV, ← strip_lane p q o hp hq hs H W G R r d d ho hR hG (by omega), e]

theorem rope128_row : rope128 (strip o hs (prod (hrows p hp H) (wcols q hq W))) (trows p ht C) (trows p ht' S) (ix2 r d)
    = acc H W R (lane G d) * C (ix2 R d) + acc H W R (lane G ((d : ℕ) + 64)) * S (ix2 R d) := by
  rw [rope128_at, strip_lane p q o hp hq hs H W G R r d d ho hR hG (by omega),
    strip_lane p q o hp hq hs H W G R r ⟨((d : ℕ) + 64) % 128, by omega⟩ ((d : ℕ) + 64) ho hR hG (by rfl),
    trows_at p ht C R r hR, trows_at p ht' S R r hR]

theorem rope64_row : rope64 (strip o hs (prod (hrows p hp H) (wcols q hq W))) (trows p ht C) (trows p ht' S) (trows p ht'' T) (ix2 r d)
    = ropeIV H W C S T G R d := by
  rw [ropeIV, rope64_at, strip_lane p q o hp hq hs H W G R r d d ho hR hG (by omega),
    strip_lane p q o hp hq hs H W G R r ⟨((d : ℕ) + 32) % 128, by omega⟩ ((d : ℕ) + 32) ho hR hG (by rfl),
    strip_lane p q o hp hq hs H W G R r ⟨((d : ℕ) + 96) % 128, by omega⟩ ((d : ℕ) + 96) ho hR hG (by rfl),
    trows_at p ht C R r hR, trows_at p ht' S R r hR, trows_at p ht'' T R r hR]

end

section
variable (y : S8x1024x128.Idx) (x : S1x256x128.Idx) (hG : q + o = 128 * (y 0 : ℕ)) (hR : (y 1 : ℕ) = p + x 1) (hd : (y 2 : ℕ) = x 2)
  (ho : o + 128 ≤ 512)
include hG hR hd ho

theorem gate_at : tile (logistic (strip o hs (prod (hrows p hp H) (wcols q hq W)))) x = gateV H W (y 0) (y 1) (y 2) :=
  (tile_idx _ x).trans ((gate_row (y 0) (y 1) (x 1) (x 2) hG hR ho).trans (congrArg (gateV H W (y 0) (y 1)) (Fin.ext hd.symm)))

theorem scale_at : tile (mulf (strip o hs (prod (hrows p hp H) (wcols q hq W))) (broadcast S256x128 s)) x = scaleV H W s (y 0) (y 1) (y 2) :=
  (tile_idx _ x).trans ((scale_row (y 0) (y 1) (x 1) (x 2) hG hR ho).trans (congrArg (scaleV H W s (y 0) (y 1)) (Fin.ext hd.symm)))

theorem plain_at : tile (strip o hs (prod (hrows p hp H) (wcols q hq W))) x = acc H W (y 1) (lane (y 0) (y 2)) :=
  (tile_idx _ x).trans (strip_lane p q o hp hq hs H W (y 0) (y 1) (x 1) (x 2) (y 2) ho hR hG
    (by have := (x 2).isLt; change (x 2 : ℕ) < 128 at this; omega))

theorem rope_at : tile (mulf (rope128 (strip o hs (prod (hrows p hp H) (wcols q hq W))) (trows p ht C) (trows p ht' S)) (broadcast S256x128 s)) x
    = ropeV H W s C S (y 0) (y 1) (y 2) :=
  (tile_idx _ x).trans ((congrArg (· * s) (rope128_row (y 0) (y 1) (x 1) (x 2) hG hR ho)).trans
    (congrArg (ropeV H W s C S (y 0) (y 1)) (Fin.ext hd.symm)))

theorem ropeI_at : tile (rope64 (strip o hs (prod (hrows p hp H) (wcols q hq W))) (trows p ht C) (trows p ht' S) (trows p ht'' T)) x
    = ropeIV H W C S T (y 0) (y 1) (y 2) :=
  (tile_idx _ x).trans ((rope64_row (y 0) (y 1) (x 1) (x 2) hG hR ho).trans
    (congrArg (ropeIV H W C S T (y 0) (y 1)) (Fin.ext hd.symm)))

end

theorem weight_at (y : S1024x128.Idx) (x : S256x128.Idx) (hG : q + o = 128 * 2) (hR : (y 0 : ℕ) = p + x 0) (hd : (y 1 : ℕ) = x 1)
    (ho : o + 128 ≤ 512) :
    mulf (strip o hs (prod (hrows p hp H) (wcols q hq W))) (broadcast S256x128 s) x = scaleV H W s 2 (y 0) (y 1) := by
  have e : x = ix2 (x 0 : Fin 256) (x 1 : Fin 128) := by
    funext a
    fin_cases a <;> rfl
  rw [e]
  exact (scale_row 2 (y 0) (x 0) (x 1) hG hR ho).trans (congrArg (scaleV H W s 2 (y 0)) (Fin.ext hd.symm))

end

end Cert.InKernelIdeal.Value

end
-- ==== Proof.InGroups.lean ====
/-
  The input projection, one block: what each group of columns past the first leaves in it.
-/
module

public import proofs.«01_k».proof.Proof.InBlock
public import proofs.«01_k».proof.Proof.Gen.InKernelIdeal.Frame

@[expose] public section

set_option maxRecDepth 65536

noncomputable section

open Idealize.ShloMosaic Idealize.ShloMosaic.TcCoe Idealize.SL.Sem

namespace Cert.InKernelIdeal.Value

open Cert.InKernelIdeal Cert.InKernelIdeal.Gen

variable (m : (ℓ : Loc nD τ sig) → Buf (Elt Ideal) ℓ)

/-- The scratch block read whole. -/
theorem scratch_read (h) (X : Vec Ideal S1024x2048 .bf16) :
    View.read (Elt Ideal) (View.whole cc0_scratch0) (Memref.IsWhole.unread (m := scM0_0) h X) = X :=
  Memref.IsWhole.read_unread (m := scM0_0) h X

set_option maxHeartbeats 400000 in
theorem gate_block (c : Dev nD) (t : Fin cfg0.N) (h0 : ¬t.val % 12 = 0) (h1 : t.val % 12 ≤ 3) (y : S8x1024x128.Idx) :
    (outsAt0 m c t.val t.isLt).1 y = gateV (outsAt0 m c (t.val - 1) (Nat.lt_of_le_of_lt (Nat.sub_le _ _) t.isLt)).2.2 (iblk m c 4 t) (y 0) (y 1) (y 2) := by
  rw [outsAt0_B m c t h0 h1 (by omega) (by omega) (by omega) (by omega)]
  generalize (outsAt0 m c (t.val - 1) _).2.2 = H
  unfold out0_B_10
  frame_open
  frame_out
  simp only [scratch_read]
  canon_tiles x h
  all_goals exact gate_at (H := H) (W := iblk m c 4 t) y x (by omega) (by omega) (by omega) (by omega)

set_option maxHeartbeats 400000 in
theorem scale_block (c : Dev nD) (t : Fin cfg0.N) (h2 : t.val % 12 = 4 ∨ t.val % 12 = 5 ∨ t.val % 12 = 6 ∨ t.val % 12 = 9) (y : S8x1024x128.Idx) :
    (outsAt0 m c t.val t.isLt).1 y = scaleV (outsAt0 m c (t.val - 1) (Nat.lt_of_le_of_lt (Nat.sub_le _ _) t.isLt)).2.2 (iblk m c 4 t)
      (k0_pay39 (F := Ideal) (BitVec.ofNat 32 (grid0.coords t 1).val)) (y 0) (y 1) (y 2) := by
  rw [outsAt0_C m c t (by omega) (by omega) h2 (by omega) (by omega) (by omega)]
  generalize (outsAt0 m c (t.val - 1) _).2.2 = H
  unfold out0_C_10
  frame_open
  frame_out
  simp only [scratch_read]
  canon_tiles x h
  all_goals exact scale_at (H := H) (W := iblk m c 4 t) y x (by omega) (by omega) (by omega) (by omega)

set_option maxHeartbeats 400000 in
theorem rope_block (c : Dev nD) (t : Fin cfg0.N) (h3 : 7 ≤ t.val % 12 ∧ t.val % 12 ≤ 8) (y : S8x1024x128.Idx) :
    (outsAt0 m c t.val t.isLt).1 y = ropeV (outsAt0 m c (t.val - 1) (Nat.lt_of_le_of_lt (Nat.sub_le _ _) t.isLt)).2.2 (iblk m c 4 t)
      (k0_pay84 (F := Ideal) (BitVec.ofNat 32 (grid0.coords t 1).val)) (iblk m c 5 t) (iblk m c 6 t) (y 0) (y 1) (y 2) := by
  rw [outsAt0_D m c t (by omega) (by omega) (by omega) h3 (by omega) (by omega)]
  generalize (outsAt0 m c (t.val - 1) _).2.2 = H
  unfold out0_D_10
  frame_open
  frame_out
  simp only [scratch_read]
  canon_tiles x h
  all_goals exact rope_at (H := H) (W := iblk m c 4 t) (C := iblk m c 5 t) (S := iblk m c 6 t) y x (by omega) (by omega) (by omega) (by omega)

set_option maxHeartbeats 400000 in
theorem ropeI_block (c : Dev nD) (t : Fin cfg0.N) (h4 : t.val % 12 = 10) (y : S8x1024x128.Idx) :
    (outsAt0 m c t.val t.isLt).1 y = ropeIV (outsAt0 m c (t.val - 1) (Nat.lt_of_le_of_lt (Nat.sub_le _ _) t.isLt)).2.2 (iblk m c 4 t)
      (iblk m c 7 t) (iblk m c 8 t) (iblk m c 9 t) (y 0) (y 1) (y 2) := by
  rw [outsAt0_E m c t (by omega) (by omega) (by omega) (by omega) h4 (by omega)]
  generalize (outsAt0 m c (t.val - 1) _).2.2 = H
  unfold out0_E_10
  frame_open
  frame_out
  simp only [scratch_read]
  canon_tiles x h
  all_goals exact ropeI_at (H := H) (W := iblk m c 4 t) (C := iblk m c 7 t) (S := iblk m c 8 t) (T := iblk m c 9 t) y x (by omega) (by omega) (by omega) (by omega)

set_option maxHeartbeats 400000 in
theorem misc_block (c : Dev nD) (t : Fin cfg0.N) (h5 : t.val % 12 = 11) (y : S8x1024x128.Idx) (hy : (y 0 : ℕ) < 2) :
    (outsAt0 m c t.val t.isLt).1 y = ropeIV (outsAt0 m c (t.val - 1) (Nat.lt_of_le_of_lt (Nat.sub_le _ _) t.isLt)).2.2 (iblk m c 4 t)
      (iblk m c 7 t) (iblk m c 8 t) (iblk m c 9 t) (y 0) (y 1) (y 2) := by
  have h0 : ¬t.val % 12 = 0 := by omega
  have h1 : ¬t.val % 12 ≤ 3 := by omega
  have h2 : ¬(t.val % 12 = 4 ∨ t.val % 12 = 5 ∨ t.val % 12 = 6 ∨ t.val % 12 = 9) := by omega
  have h3 : ¬(7 ≤ t.val % 12 ∧ t.val % 12 ≤ 8) := by omega
  have h4 : ¬t.val % 12 = 10 := by omega
  rw [outsAt0_F m c t h0 h1 h2 h3 h4 h5]
  generalize (outsAt0 m c (t.val - 1) _).2.2 = H
  have hc := cover0_F_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) H y
  unfold out0_F_10
  frame_open at hc
  frame_open
  frame_out at hc
  frame_out
  simp only [scratch_read] at hc ⊢
  canon_tiles x h
  all_goals first | omega | exact hc | exact ropeI_at (H := H) (W := iblk m c 4 t) (C := iblk m c 7 t) (S := iblk m c 8 t) (T := iblk m c 9 t) y x (by omega) (by omega) (by omega) (by omega)

set_option maxHeartbeats 400000 in
theorem weight_block (c : Dev nD) (t : Fin cfg0.N) (h5 : t.val % 12 = 11) (y : S1024x128.Idx) :
    (outsAt0 m c t.val t.isLt).2.1 y = scaleV (outsAt0 m c (t.val - 1) (Nat.lt_of_le_of_lt (Nat.sub_le _ _) t.isLt)).2.2 (iblk m c 4 t)
      (Scalar.ofBits (F := Ideal) .f32 0x3D000000#32) 2 (y 0) (y 1) := by
  rw [outsAt0_F m c t (by omega) (by omega) (by omega) (by omega) (by omega) h5]
  generalize (outsAt0 m c (t.val - 1) _).2.2 = H
  unfold out0_F_11
  frame_open
  frame_out
  simp only [scratch_read]
  canon_tiles x h
  all_goals exact weight_at (H := H) (W := iblk m c 4 t) y x (by omega) (by omega) (by omega) (by omega)

theorem carried (c : Dev nD) (t : Fin cfg0.N) (h0 : ¬t.val % 12 = 0) :
    (outsAt0 m c t.val t.isLt).2.2 = (outsAt0 m c (t.val - 1) (Nat.lt_of_le_of_lt (Nat.sub_le _ _) t.isLt)).2.2 := by
  by_cases h1 : t.val % 12 ≤ 3
  · rw [outsAt0_B m c t h0 h1 (by omega) (by omega) (by omega) (by omega)]
    rfl
  by_cases h2 : t.val % 12 = 4 ∨ t.val % 12 = 5 ∨ t.val % 12 = 6 ∨ t.val % 12 = 9
  · rw [outsAt0_C m c t h0 h1 h2 (by omega) (by omega) (by omega)]
    rfl
  by_cases h3 : 7 ≤ t.val % 12 ∧ t.val % 12 ≤ 8
  · rw [outsAt0_D m c t h0 h1 h2 h3 (by omega) (by omega)]
    rfl
  by_cases h4 : t.val % 12 = 10
  · rw [outsAt0_E m c t h0 h1 h2 h3 h4 (by omega)]
    rfl
  · rw [outsAt0_F m c t h0 h1 h2 h3 h4 (by omega)]
    rfl

end Cert.InKernelIdeal.Value

end
-- ==== Proof.InFirst.lean ====
/-
  The input projection, one block: the loop that normalises the block's tokens, and the columns of the first gates, which read
  what the loop left.
-/
module

public import proofs.«01_k».proof.Proof.InGroups

@[expose] public section

set_option maxRecDepth 65536

noncomputable section

open Idealize.ShloMosaic Idealize.ShloMosaic.TcCoe Idealize.SL.Sem

namespace Cert.InKernelIdeal.Value

open Cert.InKernelIdeal Cert.InKernelIdeal.Gen

/-- A token divided by the root of its mean square, weighted, scaled and shifted. -/
def normed (row : Fin 2048 → EReal) (g sc sh : EReal) (k : Fin 2048) : EReal :=
  row k * Ideal.rsqrt (Ideal.div (∑ e, row e * row e) (Ideal.ofBits .f32 0x45000000#32) + Ideal.ofBits .f32 0x358637BD#32)
    * g * (1 + sc) + sh

/-- The block of normalised tokens. -/
def normBlock (x : FVec Ideal S1024x2048 .f32) (g sc sh : FVec Ideal S1x1x2048 .f32) : FVec Ideal S1024x2048 .bf16 := fun y =>
  normed (fun k => x (ix2 (y 0 : Fin 1024) k)) (g (ix3 0 0 (y 1 : Fin 2048))) (sc (ix3 0 0 (y 1 : Fin 2048))) (sh (ix3 0 0 (y 1 : Fin 2048))) (y 1)

theorem rows_at (x : FVec Ideal S256x2048 .f32) (g sc sh : FVec Ideal S1x1x2048 .f32) (r : Fin 256) (k : Fin 2048) :
    k0_pay251 (F := Ideal) x g sc sh (ix2 r k)
    = normed (fun e => x (ix2 r e)) (g (ix3 0 0 k)) (sc (ix3 0 0 k)) (sh (ix3 0 0 k)) k := by
  pointwise [k0_pay251, normed]

/-- Rows of the block, normalised, are rows of the normalised block. -/
theorem trip_at (off : Fin 2 → ℕ) (inb) (h1 : off 1 = 0) (x : FVec Ideal S1024x2048 .f32) (g sc sh : FVec Ideal S1x1x2048 .f32) (z : S256x2048.Idx) :
    k0_pay251 (F := Ideal) (View.ld (Val := Elt Ideal) (show Vec Ideal S1024x2048 .f32 from x) (Rect.unit (s := S1024x2048) off S256x2048.size inb)) g sc sh z
    = normBlock x g sc sh ((Rect.unit (s := S1024x2048) off S256x2048.size inb).emb z) := by
  have ez : z = ix2 (z 0 : Fin 256) (z 1 : Fin 2048) := by
    funext a
    fin_cases a <;> rfl
  have e1 : ((Rect.unit (s := S1024x2048) off S256x2048.size inb).emb z) 1 = (z 1 : Fin 2048) :=
    Fin.ext ((Rect.idx_unit_val (s := S1024x2048) off S256x2048.size inb z 1).trans (by rw [h1]; exact Nat.zero_add _))
  have e0 : ∀ k : Fin 2048, (Rect.unit (s := S1024x2048) off S256x2048.size inb).emb (ix2 (z 0 : Fin 256) k)
      = ix2 (((Rect.unit (s := S1024x2048) off S256x2048.size inb).emb z) 0 : Fin 1024) k := fun k => by
    funext a
    refine Fin.ext ((Rect.idx_unit_val (s := S1024x2048) off S256x2048.size inb (ix2 (z 0 : Fin 256) k) a).trans ?_)
    fin_cases a
    · exact (Rect.idx_unit_val (s := S1024x2048) off S256x2048.size inb z 0).symm
    · show off 1 + (k : ℕ) = k
      omega
  have e2 : ∀ k : Fin 2048, View.ld (Val := Elt Ideal) (show Vec Ideal S1024x2048 .f32 from x) (Rect.unit (s := S1024x2048) off S256x2048.size inb) (ix2 (z 0 : Fin 256) k)
      = x (ix2 (((Rect.unit (s := S1024x2048) off S256x2048.size inb).emb z) 0 : Fin 1024) k) := fun k => congrArg x (e0 k)
  rw [ez]
  refine (rows_at _ g sc sh (z 0) (z 1)).trans ?_
  rw [← ez, normBlock, e1]
  exact congrArg (fun f : Fin 2048 → EReal => normed f _ _ _ _) (funext e2)

variable (m : (ℓ : Loc nD τ sig) → Buf (Elt Ideal) ℓ)

/-- The block of normalised tokens of a grid point. -/
abbrev normAt (c : Dev nD) (t : Fin cfg0.N) : FVec Ideal S1024x2048 .bf16 :=
  normBlock (iblk m c 0 t) (iblk m c 1 t) (iblk m c 2 t) (iblk m c 3 t)

/-- What the loop's first `k` trips store. -/
abbrev stored (c : Dev nD) (t : Fin cfg0.N) (h0 : t.val % 12 = 0) (k : ℕ) : List (View.Piece (Elt Ideal) S1024x2048 .bf16) :=
  pb_k0_t1 (F := Ideal) .none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hs0_0 t).unread (iblk m c 0 t)) ((hs0_1 t).unread (iblk m c 1 t)) ((hs0_2 t).unread (iblk m c 2 t)) ((hs0_3 t).unread (iblk m c 3 t)) k

theorem stored_rows (c : Dev nD) (t : Fin cfg0.N) (h0 : t.val % 12 = 0) (k : ℕ) (hk : k ≤ k0_t1_loop.trips) :
    View.PiecesOf (normAt m c t) (stored m c t h0 k) := by
  induction k with
  | zero => exact trivial
  | succ k ih =>
    unfold stored
    rw [pb_k0_t1_succ (F := Ideal) .none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hs0_0 t).unread (iblk m c 0 t)) ((hs0_1 t).unread (iblk m c 1 t)) ((hs0_2 t).unread (iblk m c 2 t)) ((hs0_3 t).unread (iblk m c 3 t)) ⟨k, hk⟩]
    unfold tripL_k0_t1 trip_k0_t1
    refine ⟨fun z => ?_, ih (Nat.le_of_succ_le hk)⟩
    simp (disch := decide) only [View.ld_unit_lit', View.readAt_eq_ld, Memref.IsWhole.read_unread]
    exact trip_at _ _ rfl _ _ _ _ z

theorem stored_all (c : Dev nD) (t : Fin cfg0.N) (h0 : t.val % 12 = 0) :
    View.canon (stored m c t h0 k0_t1_loop.trips) = normAt m c t := by
  have h1 : t.val % 12 ≤ 3 := by omega
  have h2 : ¬(t.val % 12 = 4 ∨ t.val % 12 = 5 ∨ t.val % 12 = 6 ∨ t.val % 12 = 9) := by omega
  have h3 : ¬(7 ≤ t.val % 12 ∧ t.val % 12 ≤ 8) := by omega
  have h4 : ¬t.val % 12 = 10 := by omega
  have h5 : ¬t.val % 12 = 11 := by omega
  funext y
  refine View.canon_apply_of_pieces (normAt m c t) _ (fun p hp z =>
    View.PiecesOf.mem (Val := Elt Ideal) (s := S1024x2048) (e := .bf16) (G := normAt m c t) (stored_rows m c t h0 _ (Nat.le_refl _)) p hp z) y ?_
  exact scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) y

theorem first_carried (c : Dev nD) (t : Fin cfg0.N) (h0 : t.val % 12 = 0) : (outsAt0 m c t.val t.isLt).2.2 = normAt m c t := by
  rw [outsAt0_A m c t h0 (by omega) (by omega) (by omega) (by omega) (by omega)]
  unfold sout0_A_0
  frame_open
  frame_out
  exact stored_all m c t h0

set_option maxHeartbeats 400000 in
theorem first_block (c : Dev nD) (t : Fin cfg0.N) (h0 : t.val % 12 = 0) (y : S8x1024x128.Idx) :
    (outsAt0 m c t.val t.isLt).1 y = gateV (normAt m c t) (iblk m c 4 t) (y 0) (y 1) (y 2) := by
  have e : ∀ r : Rect S1024x2048, (View.whole cc0_scratch0).readCov (Val := Elt Ideal) (stored m c t h0 k0_t1_loop.trips) r.toLoadRect
      = View.ld (Val := Elt Ideal) (normAt m c t) r := fun r => by
    rw [← stored_all m c t h0]
    exact View.readCov_eq_canon' _ _ _
  rw [outsAt0_A m c t h0 (by omega) (by omega) (by omega) (by omega) (by omega)]
  unfold out0_A_10
  frame_open
  frame_out
  canon_tiles x h
  all_goals
    erw [e]
    exact gate_at (H := normAt m c t) (W := iblk m c 4 t) y x (by omega) (by omega) (by omega) (by omega)

end Cert.InKernelIdeal.Value

end
-- ==== Proof.UpRef.lean ====
/- The up-projection's reference as a term of its arguments, and its value at a position. -/
module

public import proofs.«01_k».proof.Proof.Gen.UpReferenceIdeal.Run
public import Idealize.ShloMosaic.Lib.Pointwise
public import Idealize.ShloMosaic.Lib.Pipeline.ValueKit

@[expose] public section

set_option maxRecDepth 16384

noncomputable section

namespace Cert.UpReferenceIdeal.Up

open Cert.UpReferenceIdeal Cert.UpReferenceIdeal.Gen
open Idealize.ShloMosaic Idealize.ShloMosaic.TcCoe Idealize.SL.Sem

/-- The normalised and modulated rows. -/
def rows (X : FVec Ideal S16x2048x2048 .f32) (G : FVec Ideal S4x2048 .f32) (SC SH : FVec Ideal S16x1x2048 .f32) : FVec Ideal S16x2048x2048 .f32 :=
  addf (mulf (mulf (mulf X (broadcastInDim S16x2048x2048 ![0, 1, 2] bcast_S16x2048x1_S16x2048x2048_0_1_2
      (Host.rsqrt (addf (Host.divf (broadcastInDim S16x2048x1 ![0, 1] bcast_S16x2048_S16x2048x1_0_1
        (Host.reduceAdd (mulf X X) (constant S_ .f32 0x00000000#32) reducesTo_S16x2048x2048_S16x2048_d2 h_S_))
        (broadcastInDim S16x2048x1 ![] bcast_S_S16x2048x1 (constant S_ .f32 0x45000000#32)))
        (broadcastInDim S16x2048x1 ![] bcast_S_S16x2048x1 (constant S_ .f32 0x358637BD#32))))))
      (broadcastInDim S16x2048x2048 ![0, 1, 2] bcast_S1x1x2048_S16x2048x2048_0_1_2 (broadcastInDim S1x1x2048 ![2] bcast_S2048_S1x1x2048_2
        (shapeCast _ (extractStridedSlice S1x2048 ![0, 0] G slices_S4x2048_S1x2048_0_0) shapeCasts_S1x2048_S2048))))
      (broadcastInDim S16x2048x2048 ![0, 1, 2] bcast_S16x1x2048_S16x2048x2048_0_1_2
        (addf (broadcastInDim S16x1x2048 ![] bcast_S_S16x1x2048 (constant S_ .f32 0x3F800000#32)) SC)))
    (broadcastInDim S16x2048x2048 ![0, 1, 2] bcast_S16x1x2048_S16x2048x2048_0_1_2 SH)

/-- The rows times the weights. -/
def projected (H : FVec Ideal S16x2048x2048 .f32) (W : FVec Ideal S4x2048x11264 .f32) : FVec Ideal S16x2048x11264 .f32 :=
  Host.dotGeneral dot_S16x2048x2048_S2048x11264_S16x2048x11264_2_0_01_1_n_n none H
    (shapeCast _ (extractStridedSlice S1x2048x11264 ![0, 0, 0] W slices_S4x2048x11264_S1x2048x11264_0_0_0) shapeCasts_S1x2048x11264_S2048x11264)

/-- Two rows of zeros in front of each sequence. -/
def padded (U : FVec Ideal S16x2048x11264 .f32) : FVec Ideal S16x2050x11264 .f32 :=
  pad S16x2050x11264 ![0, 2, 0] ![0, 0, 0] ![0, 0, 0] U (sitofp .f32 (constantI S_ 32 0#32)) pads_S16x2048x11264_S16x2050x11264_000_200_000 h_S_

/-- A row of column weights, for every row of every sequence. -/
def spread (w : FVec Ideal S1x11264 .f32) : FVec Ideal S16x2048x11264 .f32 :=
  broadcastInDim S16x2048x11264 ![0, 1, 2] bcast_S1x1x11264_S16x2048x11264_0_1_2 (broadcastInDim S1x1x11264 ![2] bcast_S11264_S1x1x11264_2
    (shapeCast _ w shapeCasts_S1x11264_S11264))

/-- The first layer's convolution weights. -/
def taps (CW : FVec Ideal S4x3x11264 .f32) : FVec Ideal S3x11264 .f32 :=
  shapeCast _ (extractStridedSlice S1x3x11264 ![0, 0, 0] CW slices_S4x3x11264_S1x3x11264_0_0_0) shapeCasts_S1x3x11264_S3x11264

/-- The convolution over rows. -/
def convolved (U : FVec Ideal S16x2048x11264 .f32) (CW : FVec Ideal S4x3x11264 .f32) (CB : FVec Ideal S4x11264 .f32) : FVec Ideal S16x2048x11264 .f32 :=
  addf (spread (extractStridedSlice S1x11264 ![0, 0] CB slices_S4x11264_S1x11264_0_0))
    (addf (addf (addf (broadcastInDim S16x2048x11264 ![] bcast_S_S16x2048x11264 (constant S_ .f32 0x00000000#32))
      (mulf (spread (extractStridedSlice S1x11264 ![0, 0] (taps CW) slices_S3x11264_S1x11264_0_0))
        (extractStridedSlice S16x2048x11264 ![0, 0, 0] (padded U) slices_S16x2050x11264_S16x2048x11264_0_0_0)))
      (mulf (spread (extractStridedSlice S1x11264 ![1, 0] (taps CW) slices_S3x11264_S1x11264_1_0))
        (extractStridedSlice S16x2048x11264 ![0, 1, 0] (padded U) slices_S16x2050x11264_S16x2048x11264_0_1_0)))
      (mulf (spread (extractStridedSlice S1x11264 ![2, 0] (taps CW) slices_S3x11264_S1x11264_2_0))
        (extractStridedSlice S16x2048x11264 ![0, 2, 0] (padded U) slices_S16x2050x11264_S16x2048x11264_0_2_0)))

/-- The first half through the gate, times the second half. -/
def joined (C : FVec Ideal S16x2048x11264 .f32) : FVec Ideal S32768x5632 .bf16 :=
  truncf .bf16 (shapeCast _ (mulf (mulf (extractStridedSlice S16x2048x5632 ![0, 0, 0] C slices_S16x2048x11264_S16x2048x5632_0_0_0)
      (Host.divf (broadcastInDim S16x2048x5632 ![] bcast_S_S16x2048x5632 (constant S_ .f32 0x3F800000#32))
        (addf (broadcastInDim S16x2048x5632 ![] bcast_S_S16x2048x5632 (constant S_ .f32 0x3F800000#32))
          (Host.exp (Host.negf (extractStridedSlice S16x2048x5632 ![0, 0, 0] C slices_S16x2048x11264_S16x2048x5632_0_0_0))))))
      (extractStridedSlice S16x2048x5632 ![0, 0, 5632] C slices_S16x2048x11264_S16x2048x5632_0_0_5632))
    shapeCasts_S16x2048x5632_S32768x5632) bitsLt_bf16_f32

/-- The reference's result as a term of its seven arguments. -/
def REF (X : FVec Ideal S16x2048x2048 .f32) (G : FVec Ideal S4x2048 .f32) (SC SH : FVec Ideal S16x1x2048 .f32) (W : FVec Ideal S4x2048x11264 .f32)
    (CW : FVec Ideal S4x3x11264 .f32) (CB : FVec Ideal S4x11264 .f32) : FVec Ideal S32768x5632 .bf16 :=
  joined (convolved (projected (rows X G SC SH) W) CW CB)

theorem result_eq (m : (ℓ : Loc nD τ sig) → Buf (Elt Ideal) ℓ) (c : Dev nD) :
    Cert.UpReferenceIdeal.Value.res_main_v63 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := rfl

/-- The reference's run, with its result as the term above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (result_eq m c), (h c).2⟩) (Cert.UpReferenceIdeal.Value.run m ρ)

/-- A row's element, normalised, weighted and modulated. -/
def normed (row : Fin 2048 → EReal) (g sc sh : EReal) (l : Fin 2048) : EReal :=
  row l * Ideal.rsqrt (Ideal.div (∑ k, row k * row k) (Ideal.ofBits .f32 0x45000000#32) + Ideal.ofBits .f32 0x358637BD#32) * g * (1 + sc) + sh

theorem rows_at (X : FVec Ideal S16x2048x2048 .f32) (G : FVec Ideal S4x2048 .f32) (SC SH : FVec Ideal S16x1x2048 .f32) (b : Fin 16) (s l : Fin 2048) :
    rows X G SC SH (ix3 b s l) = normed (fun k => X (ix3 b s k)) (G (ix2 0 l)) (SC (ix3 b 0 l)) (SH (ix3 b 0 l)) l := by
  pointwise [rows, normed]

theorem projected_at (H : FVec Ideal S16x2048x2048 .f32) (W : FVec Ideal S4x2048x11264 .f32) (b : Fin 16) (s : Fin 2048) (n : Fin 11264) :
    projected H W (ix3 b s n) = ∑ k : Fin 2048, H (ix3 b s k) * W (ix3 0 k n) := by
  pointwise [projected]

/-- A column of a sequence with eight zeros in front. -/
def column (U : FVec Ideal S16x2048x11264 .f32) (b : Fin 16) (n : Fin 11264) (z : ℕ) : EReal :=
  if h : 8 ≤ z ∧ z - 8 < 2048 then U (ix3 b ⟨z - 8, h.2⟩ n) else 0

theorem column_row (U : FVec Ideal S16x2048x11264 .f32) (b : Fin 16) (s : Fin 2048) (n : Fin 11264) (z : ℕ) (h : z = 8 + s) : column U b n z = U (ix3 b s n) := by
  have hs := s.isLt
  subst h
  unfold column
  rw [dif_pos ⟨by omega, by omega⟩]
  exact congrArg (fun q => U (ix3 b q n)) (Fin.ext (by show 8 + (s : ℕ) - 8 = s; omega))

theorem column_zero (U : FVec Ideal S16x2048x11264 .f32) (b : Fin 16) (n : Fin 11264) (z : ℕ) (h : z < 8) : column U b n z = 0 := by
  unfold column
  rw [dif_neg (by omega)]

theorem padded_at (U : FVec Ideal S16x2048x11264 .f32) (b : Fin 16) (n : Fin 11264) (z : Fin 2050) : padded U (ix3 b z n) = column U b n (6 + z) := by
  have hz := z.isLt
  have e : FloatOps.sitofp (F := Ideal) .f32 (0#32 : BitVec 32) = (0 : EReal) := by
    show (((0#32 : BitVec 32).toInt : ℝ) : EReal) = 0
    simp
  pointwise [padded, column]
  rw [e]
  by_cases h : 2 ≤ (z : ℕ)
  · rw [dif_pos ⟨h, by omega⟩, dif_pos ⟨by omega, by omega⟩]
    exact congrArg (fun q => U (ix3 b q n)) (Fin.ext (by show (z : ℕ) - 2 = 6 + z - 8; omega))
  · rw [dif_neg (by omega), dif_neg (by omega)]

theorem convolved_at (U : FVec Ideal S16x2048x11264 .f32) (CW : FVec Ideal S4x3x11264 .f32) (CB : FVec Ideal S4x11264 .f32) (b : Fin 16) (s : Fin 2048) (n : Fin 11264) :
    convolved U CW CB (ix3 b s n) = CB (ix2 0 n) + ((CW (ix3 0 0 n) * column U b n (6 + s) + CW (ix3 0 1 n) * column U b n (7 + s)) + CW (ix3 0 2 n) * column U b n (8 + s)) := by
  pointwise [convolved, spread, taps]
  simp only [padded_at, ← Nat.add_assoc, Nat.reduceAdd]

/-- The gate at a position. -/
def gated (a b : EReal) : EReal := a * Ideal.logistic a * b

theorem joined_at (C : FVec Ideal S16x2048x11264 .f32) (b : Fin 16) (s : Fin 2048) (R : Fin 32768) (hR : (R : ℕ) = 2048 * b + s) (n : Fin 5632) :
    joined C (ix2 R n) = gated (C (ix3 b s ⟨n, by omega⟩)) (C (ix3 b s ⟨5632 + n, by omega⟩)) := by
  pointwise [joined, gated, Ideal.logistic]
  have hb : ∀ h, (⟨(R : ℕ) / 2048, h⟩ : Fin 16) = b := fun _ => Fin.ext (by show (R : ℕ) / 2048 = b; omega)
  have hs : ∀ h, (⟨(R : ℕ) % 2048, h⟩ : Fin 2048) = s := fun _ => Fin.ext (by show (R : ℕ) % 2048 = s; omega)
  simp only [hb, hs]

end Cert.UpReferenceIdeal.Up

end
-- ==== Proof.InRef.lean ====
/-
  The input projection's reference as terms of its arguments, and the values of the four results at a position.  Everything is
  said over `col U b s n`, the projected token's column `n`, and the angle of a position and a frequency.
-/
module

public import proofs.«01_k».proof.Proof.Gen.InReferenceIdeal.Run
public import proofs.«01_k».proof.Proof.UpRef

@[expose] public section

set_option maxRecDepth 16384

noncomputable section

namespace Cert.InReferenceIdeal.In

open Cert.InReferenceIdeal Cert.InReferenceIdeal.Gen
open Idealize.ShloMosaic Idealize.ShloMosaic.TcCoe Idealize.SL.Sem

/-- The rows times the weights. -/
def projected (H : FVec Ideal S16x2048x2048 .f32) (W : FVec Ideal S4x2048x11344 .f32) : FVec Ideal S16x2048x11344 .f32 :=
  Host.dotGeneral dot_S16x2048x2048_S2048x11344_S16x2048x11344_2_0_01_1_n_n none H
    (shapeCast _ (extractStridedSlice S1x2048x11344 ![0, 0, 0] W slices_S4x2048x11344_S1x2048x11344_0_0_0) shapeCasts_S1x2048x11344_S2048x11344)

/-- The angles of the heads of 128 lanes. -/
def angles64 (POS : IVec S16x2048 32) : FVec Ideal S16x2048x64 .f32 :=
  mulf (broadcastInDim S16x2048x64 ![0, 1, 2] bcast_S16x2048x1_S16x2048x64_0_1_2 (broadcastInDim S16x2048x1 ![0, 1] bcast_S16x2048_S16x2048x1_0_1 (sitofp .f32 POS)))
    (broadcastInDim S16x2048x64 ![0, 1, 2] bcast_S1x1x64_S16x2048x64_0_1_2 (broadcastInDim S1x1x64 ![2] bcast_S64_S1x1x64_2
      (Host.divf (broadcastInDim S64 ![] bcast_S_S64 (constant S_ .f32 0x3F800000#32)) (Host.powf (broadcastInDim S64 ![] bcast_S_S64 (constant S_ .f32 0x461C4000#32))
        (Host.divf (addf (broadcastInDim S64 ![] bcast_S_S64 (constant S_ .f32 0x00000000#32)) (mulf (broadcastInDim S64 ![] bcast_S_S64 (constant S_ .f32 0x40000000#32)) (sitofp .f32 (iotaInDim S64 32 0))))
          (broadcastInDim S64 ![] bcast_S_S64 (constant S_ .f32 0x43000000#32)))))))

/-- The angles of the heads of 64 lanes. -/
def angles32 (POS : IVec S16x2048 32) : FVec Ideal S16x2048x32 .f32 :=
  mulf (broadcastInDim S16x2048x32 ![0, 1, 2] bcast_S16x2048x1_S16x2048x32_0_1_2 (broadcastInDim S16x2048x1 ![0, 1] bcast_S16x2048_S16x2048x1_0_1 (sitofp .f32 POS)))
    (broadcastInDim S16x2048x32 ![0, 1, 2] bcast_S1x1x32_S16x2048x32_0_1_2 (broadcastInDim S1x1x32 ![2] bcast_S32_S1x1x32_2
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32)) (sitofp .f32 (iotaInDim S32 32 0))))
          (broadcastInDim S32 ![] bcast_S_S32 (constant S_ .f32 0x42800000#32)))))))

/-- Eight heads of 128 lanes, turned by their angles. -/
def turned8 (Q : FVec Ideal S16x2048x8x128 .f32) (T : FVec Ideal S16x2048x64 .f32) : FVec Ideal S16x2048x8x128 .f32 :=
  concatenate S16x2048x8x128 3
    [⟨S16x2048x8x64, subf
        (mulf (extractStridedSlice S16x2048x8x64 ![0, 0, 0, 0] Q slices_S16x2048x8x128_S16x2048x8x64_0_0_0_0) (broadcastInDim S16x2048x8x64 ![0, 1, 2, 3] bcast_S16x2048x1x64_S16x2048x8x64_0_1_2_3 (broadcastInDim S16x2048x1x64 ![0, 1, 3] bcast_S16x2048x64_S16x2048x1x64_0_1_3 (Host.cos T))))
        (mulf (extractStridedSlice S16x2048x8x64 ![0, 0, 0, 64] Q slices_S16x2048x8x128_S16x2048x8x64_0_0_0_64) (broadcastInDim S16x2048x8x64 ![0, 1, 2, 3] bcast_S16x2048x1x64_S16x2048x8x64_0_1_2_3 (broadcastInDim S16x2048x1x64 ![0, 1, 3] bcast_S16x2048x64_S16x2048x1x64_0_1_3 (Host.sin T))))⟩,
     ⟨S16x2048x8x64, addf
        (mulf (extractStridedSlice S16x2048x8x64 ![0, 0, 0, 64] Q slices_S16x2048x8x128_S16x2048x8x64_0_0_0_64) (broadcastInDim S16x2048x8x64 ![0, 1, 2, 3] bcast_S16x2048x1x64_S16x2048x8x64_0_1_2_3 (broadcastInDim S16x2048x1x64 ![0, 1, 3] bcast_S16x2048x64_S16x2048x1x64_0_1_3 (Host.cos T))))
        (mulf (extractStridedSlice S16x2048x8x64 ![0, 0, 0, 0] Q slices_S16x2048x8x128_S16x2048x8x64_0_0_0_0) (broadcastInDim S16x2048x8x64 ![0, 1, 2, 3] bcast_S16x2048x1x64_S16x2048x8x64_0_1_2_3 (broadcastInDim S16x2048x1x64 ![0, 1, 3] bcast_S16x2048x64_S16x2048x1x64_0_1_3 (Host.sin T))))⟩]
    concatenates_S16x2048x8x64_S16x2048x8x64_S16x2048x8x128_d3

/-- Sixteen heads of 64 lanes, turned by their angles. -/
def turned16 (Q : FVec Ideal S16x2048x16x64 .f32) (T : FVec Ideal S16x2048x32 .f32) : FVec Ideal S16x2048x16x64 .f32 :=
  concatenate S16x2048x16x64 3
    [⟨S16x2048x16x32, subf
        (mulf (extractStridedSlice S16x2048x16x32 ![0, 0, 0, 0] Q slices_S16x2048x16x64_S16x2048x16x32_0_0_0_0) (broadcastInDim S16x2048x16x32 ![0, 1, 2, 3] bcast_S16x2048x1x32_S16x2048x16x32_0_1_2_3 (broadcastInDim S16x2048x1x32 ![0, 1, 3] bcast_S16x2048x32_S16x2048x1x32_0_1_3 (Host.cos T))))
        (mulf (extractStridedSlice S16x2048x16x32 ![0, 0, 0, 32] Q slices_S16x2048x16x64_S16x2048x16x32_0_0_0_32) (broadcastInDim S16x2048x16x32 ![0, 1, 2, 3] bcast_S16x2048x1x32_S16x2048x16x32_0_1_2_3 (broadcastInDim S16x2048x1x32 ![0, 1, 3] bcast_S16x2048x32_S16x2048x1x32_0_1_3 (Host.sin T))))⟩,
     ⟨S16x2048x16x32, addf
        (mulf (extractStridedSlice S16x2048x16x32 ![0, 0, 0, 32] Q slices_S16x2048x16x64_S16x2048x16x32_0_0_0_32) (broadcastInDim S16x2048x16x32 ![0, 1, 2, 3] bcast_S16x2048x1x32_S16x2048x16x32_0_1_2_3 (broadcastInDim S16x2048x1x32 ![0, 1, 3] bcast_S16x2048x32_S16x2048x1x32_0_1_3 (Host.cos T))))
        (mulf (extractStridedSlice S16x2048x16x32 ![0, 0, 0, 0] Q slices_S16x2048x16x64_S16x2048x16x32_0_0_0_0) (broadcastInDim S16x2048x16x32 ![0, 1, 2, 3] bcast_S16x2048x1x32_S16x2048x16x32_0_1_2_3 (broadcastInDim S16x2048x1x32 ![0, 1, 3] bcast_S16x2048x32_S16x2048x1x32_0_1_3 (Host.sin T))))⟩]
    concatenates_S16x2048x16x32_S16x2048x16x32_S16x2048x16x64_d3

/-- One head of 64 lanes, turned by its angles. -/
def turned1 (Q : FVec Ideal S16x2048x1x64 .f32) (T : FVec Ideal S16x2048x32 .f32) : FVec Ideal S16x2048x1x64 .f32 :=
  concatenate S16x2048x1x64 3
    [⟨S16x2048x1x32, subf
        (mulf (extractStridedSlice S16x2048x1x32 ![0, 0, 0, 0] Q slices_S16x2048x1x64_S16x2048x1x32_0_0_0_0) (broadcastInDim S16x2048x1x32 ![0, 1, 3] bcast_S16x2048x32_S16x2048x1x32_0_1_3 (Host.cos T)))
        (mulf (extractStridedSlice S16x2048x1x32 ![0, 0, 0, 32] Q slices_S16x2048x1x64_S16x2048x1x32_0_0_0_32) (broadcastInDim S16x2048x1x32 ![0, 1, 3] bcast_S16x2048x32_S16x2048x1x32_0_1_3 (Host.sin T)))⟩,
     ⟨S16x2048x1x32, addf
        (mulf (extractStridedSlice S16x2048x1x32 ![0, 0, 0, 32] Q slices_S16x2048x1x64_S16x2048x1x32_0_0_0_32) (broadcastInDim S16x2048x1x32 ![0, 1, 3] bcast_S16x2048x32_S16x2048x1x32_0_1_3 (Host.cos T)))
        (mulf (extractStridedSlice S16x2048x1x32 ![0, 0, 0, 0] Q slices_S16x2048x1x64_S16x2048x1x32_0_0_0_0) (broadcastInDim S16x2048x1x32 ![0, 1, 3] bcast_S16x2048x32_S16x2048x1x32_0_1_3 (Host.sin T)))⟩]
    concatenates_S16x2048x1x32_S16x2048x1x32_S16x2048x1x64_d3

/-- The logistic function of an array. -/
def gate (X : FVec Ideal S16x2048x2048 .f32) : FVec Ideal S16x2048x2048 .f32 :=
  Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf X)))

/-- The factor of the logits, for every element. -/
def logits (X : FVec Ideal S16x2048x1024 .f32) : FVec Ideal S16x2048x1024 .f32 :=
  mulf X (broadcastInDim S16x2048x1024 ![] bcast_S_S16x2048x1024 (constant S_ .f32 0x3E0293EE#32))

/-- The gates, the heads of both attentions and the indexer's queries, side by side. -/
def joined (U : FVec Ideal S16x2048x11344 .f32) (POS : IVec S16x2048 32) : FVec Ideal S16x2048x11264 .f32 :=
  concatenate S16x2048x11264 2
    [⟨S16x2048x2048, gate (extractStridedSlice S16x2048x2048 ![0, 0, 7248] U slices_S16x2048x11344_S16x2048x2048_0_0_7248)⟩,
     ⟨S16x2048x2048, gate (extractStridedSlice S16x2048x2048 ![0, 0, 9296] U slices_S16x2048x11344_S16x2048x2048_0_0_9296)⟩,
     ⟨S16x2048x1024, logits (extractStridedSlice S16x2048x1024 ![0, 0, 0] U slices_S16x2048x11344_S16x2048x1024_0_0_0)⟩,
     ⟨S16x2048x1024, extractStridedSlice S16x2048x1024 ![0, 0, 1024] U slices_S16x2048x11344_S16x2048x1024_0_0_1024⟩,
     ⟨S16x2048x1024, extractStridedSlice S16x2048x1024 ![0, 0, 2048] U slices_S16x2048x11344_S16x2048x1024_0_0_2048⟩,
     ⟨S16x2048x1024, logits (shapeCast _ (turned8 (shapeCast _ (extractStridedSlice S16x2048x1024 ![0, 0, 3072] U slices_S16x2048x11344_S16x2048x1024_0_0_3072) shapeCasts_S16x2048x1024_S16x2048x8x128) (angles64 POS)) shapeCasts_S16x2048x8x128_S16x2048x1024)⟩,
     ⟨S16x2048x1024, shapeCast _ (turned8 (shapeCast _ (extractStridedSlice S16x2048x1024 ![0, 0, 4096] U slices_S16x2048x11344_S16x2048x1024_0_0_4096) shapeCasts_S16x2048x1024_S16x2048x8x128) (angles64 POS)) shapeCasts_S16x2048x8x128_S16x2048x1024⟩,
     ⟨S16x2048x1024, extractStridedSlice S16x2048x1024 ![0, 0, 5120] U slices_S16x2048x11344_S16x2048x1024_0_0_5120⟩,
     ⟨S16x2048x1024, shapeCast _ (turned16 (shapeCast _ (extractStridedSlice S16x2048x1024 ![0, 0, 6144] U slices_S16x2048x11344_S16x2048x1024_0_0_6144) shapeCasts_S16x2048x1024_S16x2048x16x64) (angles32 POS)) shapeCasts_S16x2048x16x64_S16x2048x1024⟩]
    concatenates_S16x2048x2048_S16x2048x2048_S16x2048x1024_S16x2048x1024_S16x2048x1024_S16x2048x1024_S16x2048x1024_S16x2048x1024_S16x2048x1024_S16x2048x11264_d2

/-- The first result: the heads in front. -/
def heads (U : FVec Ideal S16x2048x11344 .f32) (POS : IVec S16x2048 32) : FVec Ideal S88x32768x128 .bf16 :=
  truncf .bf16 (transpose S88x32768x128 [1, 0, 2] (shapeCast _ (joined U POS) shapeCasts_S16x2048x11264_S32768x88x128) transposes_S32768x88x128_S88x32768x128_1_0_2) bitsLt_bf16_f32

/-- The second and third results: the indexer's keys. -/
def keys (U : FVec Ideal S16x2048x11344 .f32) (POS : IVec S16x2048 32) : FVec Ideal S32768x64 .bf16 :=
  truncf .bf16 (shapeCast _ (shapeCast _ (turned1 (broadcastInDim S16x2048x1x64 ![0, 1, 3] bcast_S16x2048x64_S16x2048x1x64_0_1_3
    (extractStridedSlice S16x2048x64 ![0, 0, 7168] U slices_S16x2048x11344_S16x2048x64_0_0_7168)) (angles32 POS))
    shapeCasts_S16x2048x1x64_S16x2048x64) shapeCasts_S16x2048x64_S32768x64) bitsLt_bf16_f32

/-- The fourth result: the indexer's head weights. -/
def weights (U : FVec Ideal S16x2048x11344 .f32) : FVec Ideal S32768x16 .f32 :=
  mulf (shapeCast _ (extractStridedSlice S16x2048x16 ![0, 0, 7232] U slices_S16x2048x11344_S16x2048x16_0_0_7232) shapeCasts_S16x2048x16_S32768x16)
    (broadcastInDim S32768x16 ![] bcast_S_S32768x16 (constant S_ .f32 0x3D000000#32))

/-- The projected tokens. -/
def tokens (X : FVec Ideal S16x2048x2048 .f32) (G : FVec Ideal S4x2048 .f32) (SC SH : FVec Ideal S16x1x2048 .f32) (W : FVec Ideal S4x2048x11344 .f32) :
    FVec Ideal S16x2048x11344 .f32 := projected (Cert.UpReferenceIdeal.Up.rows X G SC SH) W

/-- The reference's run, with its results as the terms above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let U := tokens (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      r.2.mem ((c.tc : Thread nD τ).loc main_v196) = heads U (m ((c.tc : Thread nD τ).loc main_arg5))
      ∧ r.2.mem ((c.tc : Thread nD τ).loc main_v176) = keys U (m ((c.tc : Thread nD τ).loc main_arg5))
      ∧ r.2.mem ((c.tc : Thread nD τ).loc main_v176) = keys U (m ((c.tc : Thread nD τ).loc main_arg5))
      ∧ r.2.mem ((c.tc : Thread nD τ).loc main_v199) = weights U
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans rfl, (h c).2.1.trans rfl, (h c).2.2.1.trans rfl, (h c).2.2.2.1.trans rfl, (h c).2.2.2.2⟩)
    (Cert.InReferenceIdeal.Value.run m ρ)

/-- A projected token's column. -/
def col (U : FVec Ideal S16x2048x11344 .f32) (b : Fin 16) (s : Fin 2048) (n : ℕ) : EReal :=
  if h : n < 11344 then U (ix3 b s ⟨n, h⟩) else 0

theorem col_of (U : FVec Ideal S16x2048x11344 .f32) (b : Fin 16) (s : Fin 2048) (n : ℕ) (h : n < 11344) : U (ix3 b s ⟨n, h⟩) = col U b s n := by
  rw [col, dif_pos h]

theorem tokens_at (X : FVec Ideal S16x2048x2048 .f32) (G : FVec Ideal S4x2048 .f32) (SC SH : FVec Ideal S16x1x2048 .f32) (W : FVec Ideal S4x2048x11344 .f32)
    (b : Fin 16) (s : Fin 2048) (n : Fin 11344) :
    tokens X G SC SH W (ix3 b s n) = ∑ k : Fin 2048, Cert.UpReferenceIdeal.Up.normed (fun e => X (ix3 b s e)) (G (ix2 0 k)) (SC (ix3 b 0 k)) (SH (ix3 b 0 k)) k
      * W (ix3 0 k n) := by
  have e : ∀ k : Fin 2048, Cert.UpReferenceIdeal.Up.rows X G SC SH (ix3 b s k)
      = Cert.UpReferenceIdeal.Up.normed (fun e => X (ix3 b s e)) (G (ix2 0 k)) (SC (ix3 b 0 k)) (SH (ix3 b 0 k)) k :=
    fun k => Cert.UpReferenceIdeal.Up.rows_at X G SC SH b s k
  rw [tokens]
  generalize Cert.UpReferenceIdeal.Up.rows X G SC SH = H at e
  pointwise [projected]
  simp only [e]

/-- The angle of a position at frequency `d` of `2 / w`. -/
def angle (w : EReal) (p : BitVec 32) (d : ℕ) : EReal :=
  FloatOps.sitofp (F := Ideal) .f32 p
    * Ideal.div 1 (Ideal.pow (Ideal.ofBits .f32 0x461C4000#32) (Ideal.div (Ideal.ofBits .f32 0x40000000#32 * FloatOps.sitofp (F := Ideal) .f32 (BitVec.ofNat 32 d)) w))

theorem angles64_at (POS : IVec S16x2048 32) (b : Fin 16) (s : Fin 2048) (d : Fin 64) :
    angles64 POS (ix3 b s d) = angle (Ideal.ofBits .f32 0x43000000#32) (POS (ix2 b s)) d := by
  pointwise [angles64, angle]

theorem angles32_at (POS : IVec S16x2048 32) (b : Fin 16) (s : Fin 2048) (d : Fin 32) :
    angles32 POS (ix3 b s d) = angle (Ideal.ofBits .f32 0x42800000#32) (POS (ix2 b s)) d := by
  pointwise [angles32, angle]

end Cert.InReferenceIdeal.In
-- ==== Proof.InRefAt.lean ====
/- The values of the input projection's reference at the positions of its results. -/
module

public import proofs.«01_k».proof.Proof.InRef

@[expose] public section

set_option maxRecDepth 16384

noncomputable section

namespace Cert.InReferenceIdeal.In

open Cert.InReferenceIdeal Cert.InReferenceIdeal.Gen
open Idealize.ShloMosaic Idealize.ShloMosaic.TcCoe Idealize.SL.Sem

/-- Lane `d` of a head of `2 * half` lanes that starts at column `base`, turned by the angles of a position. -/
def spin (half : ℕ) (w : EReal) (p : BitVec 32) (a : ℕ → EReal) (base d : ℕ) : EReal :=
  if d < half then a (base + d) * Ideal.cos (angle w p d) - a (base + d + half) * Ideal.sin (angle w p d)
  else a (base + d) * Ideal.cos (angle w p (d - half)) + a (base + d - half) * Ideal.sin (angle w p (d - half))

theorem turned8_at (Q : FVec Ideal S16x2048x8x128 .f32) (POS : IVec S16x2048 32) (a : ℕ → EReal) (base : ℕ) (b : Fin 16) (s : Fin 2048) (g : Fin 8) (d : Fin 128)
    (hQ : ∀ e : Fin 128, Q (ix4 b s g e) = a (base + e)) :
    turned8 Q (angles64 POS) (ix4 b s g d) = spin 64 (Ideal.ofBits .f32 0x43000000#32) (POS (ix2 b s)) a base d := by
  have hT := fun e => angles64_at POS b s e
  generalize angles64 POS = T at hT
  pointwise [turned8, spin]
  split <;> simp only [hQ, hT] <;> congr 3 <;> first | rfl | omega

theorem turned16_at (Q : FVec Ideal S16x2048x16x64 .f32) (POS : IVec S16x2048 32) (a : ℕ → EReal) (base : ℕ) (b : Fin 16) (s : Fin 2048) (g : Fin 16) (d : Fin 64)
    (hQ : ∀ e : Fin 64, Q (ix4 b s g e) = a (base + e)) :
    turned16 Q (angles32 POS) (ix4 b s g d) = spin 32 (Ideal.ofBits .f32 0x42800000#32) (POS (ix2 b s)) a base d := by
  have hT := fun e => angles32_at POS b s e
  generalize angles32 POS = T at hT
  pointwise [turned16, spin]
  split <;> simp only [hQ, hT] <;> congr 3 <;> first | rfl | omega

theorem turned1_at (Q : FVec Ideal S16x2048x1x64 .f32) (POS : IVec S16x2048 32) (a : ℕ → EReal) (base : ℕ) (b : Fin 16) (s : Fin 2048) (d : Fin 64)
    (hQ : ∀ e : Fin 64, Q (ix4 b s 0 e) = a (base + e)) :
    turned1 Q (angles32 POS) (ix4 b s 0 d) = spin 32 (Ideal.ofBits .f32 0x42800000#32) (POS (ix2 b s)) a base d := by
  have hT := fun e => angles32_at POS b s e
  generalize angles32 POS = T at hT
  pointwise [turned1, spin]
  split <;> simp only [hQ, hT] <;> congr 3 <;> first | rfl | omega

variable (U : FVec Ideal S16x2048x11344 .f32) (POS : IVec S16x2048 32) (b : Fin 16) (s : Fin 2048) (R : Fin 32768) (hR : (R : ℕ) = 2048 * b + s)

include hR in
theorem heads_at (h : Fin 88) (d : Fin 128) : heads U POS (ix3 h R d) = joined U POS (ix3 b s ⟨128 * h + d, by omega⟩) := by
  have e : heads U POS = truncf .bf16 (transpose S88x32768x128 [1, 0, 2] (shapeCast _ (joined U POS) shapeCasts_S16x2048x11264_S32768x88x128) transposes_S32768x88x128_S88x32768x128_1_0_2) bitsLt_bf16_f32 := rfl
  rw [e]
  generalize joined U POS = J
  pointwise []
  congr 1
  blk_ext []

theorem gate_at (X : FVec Ideal S16x2048x2048 .f32) (n : Fin 2048) : gate X (ix3 b s n) = Ideal.logistic (X (ix3 b s n)) := by
  pointwise [gate, Ideal.logistic]

theorem logits_at (X : FVec Ideal S16x2048x1024 .f32) (n : Fin 1024) : logits X (ix3 b s n) = X (ix3 b s n) * Ideal.ofBits .f32 0x3E0293EE#32 := by
  pointwise [logits]

theorem slice_at (o : ℕ) (h) (n : Fin 1024) : extractStridedSlice S16x2048x1024 ![0, 0, o] U h (ix3 b s n) = col U b s (o + n) := by
  have hb : o + (n : ℕ) < 11344 := Nat.lt_of_lt_of_le (Nat.add_lt_add_left n.isLt o) (h.2 2)
  rw [← col_of _ _ _ _ hb]
  pointwise []

theorem wide_at (o : ℕ) (h) (n : Fin 2048) : extractStridedSlice S16x2048x2048 ![0, 0, o] U h (ix3 b s n) = col U b s (o + n) := by
  have hb : o + (n : ℕ) < 11344 := Nat.lt_of_lt_of_le (Nat.add_lt_add_left n.isLt o) (h.2 2)
  rw [← col_of _ _ _ _ hb]
  pointwise []

/-- Two arrays and seven half as wide, side by side. -/
def nine (P0 P1 : FVec Ideal S16x2048x2048 .f32) (P2 P3 P4 P5 P6 P7 P8 : FVec Ideal S16x2048x1024 .f32) : FVec Ideal S16x2048x11264 .f32 :=
  concatenate S16x2048x11264 2
    [⟨S16x2048x2048, P0⟩, ⟨S16x2048x2048, P1⟩, ⟨S16x2048x1024, P2⟩, ⟨S16x2048x1024, P3⟩, ⟨S16x2048x1024, P4⟩, ⟨S16x2048x1024, P5⟩,
     ⟨S16x2048x1024, P6⟩, ⟨S16x2048x1024, P7⟩, ⟨S16x2048x1024, P8⟩]
    concatenates_S16x2048x2048_S16x2048x2048_S16x2048x1024_S16x2048x1024_S16x2048x1024_S16x2048x1024_S16x2048x1024_S16x2048x1024_S16x2048x1024_S16x2048x11264_d2

theorem nine_gates (P0 P1 : FVec Ideal S16x2048x2048 .f32) (P2 P3 P4 P5 P6 P7 P8 : FVec Ideal S16x2048x1024 .f32) (n : Fin 11264) (h : (n : ℕ) < 4096) :
    nine P0 P1 P2 P3 P4 P5 P6 P7 P8 (ix3 b s n) = if h : (n : ℕ) < 2048 then P0 (ix3 b s ⟨n, h⟩) else P1 (ix3 b s ⟨n - 2048, by omega⟩) := by
  pointwise [nine]
  split
  · rfl
  · simp (disch := omega) only [dif_pos]

theorem pick_eq (q : Fin 7 → FVec Ideal S16x2048x1024 .f32) (i j : Fin 7) (k l : Fin 1024) (hi : (j : ℕ) = i) (hk : (l : ℕ) = k) :
    q j (ix3 b s l) = q i (ix3 b s k) := by
  rw [Fin.ext hi, Fin.ext hk]

set_option maxHeartbeats 1000000 in
theorem nine_heads (P0 P1 : FVec Ideal S16x2048x2048 .f32) (q : Fin 7 → FVec Ideal S16x2048x1024 .f32) (i : Fin 7) (n : Fin 11264) (k : Fin 1024)
    (h : (n : ℕ) = 4096 + 1024 * i + k) :
    nine P0 P1 (q 0) (q 1) (q 2) (q 3) (q 4) (q 5) (q 6) (ix3 b s n) = q i (ix3 b s k) := by
  have hk := k.isLt
  have hi := i.isLt
  pointwise [nine]
  split_ifs <;> first
    | (exfalso; omega)
    | (refine pick_eq b s q i _ k _ ?_ (by dsimp only; omega)
       first
        | exact (show 0 = (i : ℕ) by omega) | exact (show 1 = (i : ℕ) by omega) | exact (show 2 = (i : ℕ) by omega) | exact (show 3 = (i : ℕ) by omega)
        | exact (show 4 = (i : ℕ) by omega) | exact (show 5 = (i : ℕ) by omega) | exact (show 6 = (i : ℕ) by omega))

/-- The seven arrays of heads. -/
def parts : Fin 7 → FVec Ideal S16x2048x1024 .f32 :=
  ![logits (extractStridedSlice S16x2048x1024 ![0, 0, 0] U slices_S16x2048x11344_S16x2048x1024_0_0_0),
    extractStridedSlice S16x2048x1024 ![0, 0, 1024] U slices_S16x2048x11344_S16x2048x1024_0_0_1024,
    extractStridedSlice S16x2048x1024 ![0, 0, 2048] U slices_S16x2048x11344_S16x2048x1024_0_0_2048,
    logits (shapeCast _ (turned8 (shapeCast _ (extractStridedSlice S16x2048x1024 ![0, 0, 3072] U slices_S16x2048x11344_S16x2048x1024_0_0_3072) shapeCasts_S16x2048x1024_S16x2048x8x128) (angles64 POS)) shapeCasts_S16x2048x8x128_S16x2048x1024),
    shapeCast _ (turned8 (shapeCast _ (extractStridedSlice S16x2048x1024 ![0, 0, 4096] U slices_S16x2048x11344_S16x2048x1024_0_0_4096) shapeCasts_S16x2048x1024_S16x2048x8x128) (angles64 POS)) shapeCasts_S16x2048x8x128_S16x2048x1024,
    extractStridedSlice S16x2048x1024 ![0, 0, 5120] U slices_S16x2048x11344_S16x2048x1024_0_0_5120,
    shapeCast _ (turned16 (shapeCast _ (extractStridedSlice S16x2048x1024 ![0, 0, 6144] U slices_S16x2048x11344_S16x2048x1024_0_0_6144) shapeCasts_S16x2048x1024_S16x2048x16x64) (angles32 POS)) shapeCasts_S16x2048x16x64_S16x2048x1024]

theorem parts_0 : parts U POS 0 = logits (extractStridedSlice S16x2048x1024 ![0, 0, 0] U slices_S16x2048x11344_S16x2048x1024_0_0_0) := rfl

theorem parts_1 : parts U POS 1 = extractStridedSlice S16x2048x1024 ![0, 0, 1024] U slices_S16x2048x11344_S16x2048x1024_0_0_1024 := rfl

theorem parts_2 : parts U POS 2 = extractStridedSlice S16x2048x1024 ![0, 0, 2048] U slices_S16x2048x11344_S16x2048x1024_0_0_2048 := rfl

theorem parts_3 : parts U POS 3 = logits (shapeCast _ (turned8 (shapeCast _ (extractStridedSlice S16x2048x1024 ![0, 0, 3072] U slices_S16x2048x11344_S16x2048x1024_0_0_3072) shapeCasts_S16x2048x1024_S16x2048x8x128) (angles64 POS)) shapeCasts_S16x2048x8x128_S16x2048x1024) := rfl

theorem parts_4 : parts U POS 4 = shapeCast _ (turned8 (shapeCast _ (extractStridedSlice S16x2048x1024 ![0, 0, 4096] U slices_S16x2048x11344_S16x2048x1024_0_0_4096) shapeCasts_S16x2048x1024_S16x2048x8x128) (angles64 POS)) shapeCasts_S16x2048x8x128_S16x2048x1024 := rfl

theorem parts_5 : parts U POS 5 = extractStridedSlice S16x2048x1024 ![0, 0, 5120] U slices_S16x2048x11344_S16x2048x1024_0_0_5120 := rfl

theorem parts_6 : parts U POS 6 = shapeCast _ (turned16 (shapeCast _ (extractStridedSlice S16x2048x1024 ![0, 0, 6144] U slices_S16x2048x11344_S16x2048x1024_0_0_6144) shapeCasts_S16x2048x1024_S16x2048x16x64) (angles32 POS)) shapeCasts_S16x2048x16x64_S16x2048x1024 := rfl

theorem joined_nine : joined U POS = nine (gate (extractStridedSlice S16x2048x2048 ![0, 0, 7248] U slices_S16x2048x11344_S16x2048x2048_0_0_7248))
    (gate (extractStridedSlice S16x2048x2048 ![0, 0, 9296] U slices_S16x2048x11344_S16x2048x2048_0_0_9296))
    (parts U POS 0) (parts U POS 1) (parts U POS 2) (parts U POS 3) (parts U POS 4) (parts U POS 5) (parts U POS 6) := rfl

theorem head8_at (Q : FVec Ideal S16x2048x1024 .f32) (a : ℕ → EReal) (base : ℕ) (g : Fin 8) (d : Fin 128) (hQ : ∀ l : Fin 1024, Q (ix3 b s l) = a (base + l)) (k : Fin 1024)
    (hk : (k : ℕ) = 128 * g + d) :
    shapeCast S16x2048x1024 (turned8 (shapeCast _ Q shapeCasts_S16x2048x1024_S16x2048x8x128) (angles64 POS)) shapeCasts_S16x2048x8x128_S16x2048x1024 (ix3 b s k)
    = spin 64 (Ideal.ofBits .f32 0x43000000#32) (POS (ix2 b s)) a (base + 128 * g) d := by
  rw [← turned8_at (shapeCast _ Q shapeCasts_S16x2048x1024_S16x2048x8x128) POS a (base + 128 * g) b s g d fun e => by
    have e1 : shapeCast S16x2048x8x128 Q shapeCasts_S16x2048x1024_S16x2048x8x128 (ix4 b s g e) = Q (ix3 b s ⟨128 * g + e, by omega⟩) := by
      pointwise []
      congr 1
      blk_ext []
    rw [e1, hQ, Nat.add_assoc]]
  generalize turned8 (shapeCast _ Q shapeCasts_S16x2048x1024_S16x2048x8x128) (angles64 POS) = T
  pointwise []
  congr 1
  blk_ext []

theorem head16_at (Q : FVec Ideal S16x2048x1024 .f32) (a : ℕ → EReal) (base : ℕ) (g : Fin 16) (d : Fin 64) (hQ : ∀ l : Fin 1024, Q (ix3 b s l) = a (base + l)) (k : Fin 1024)
    (hk : (k : ℕ) = 64 * g + d) :
    shapeCast S16x2048x1024 (turned16 (shapeCast _ Q shapeCasts_S16x2048x1024_S16x2048x16x64) (angles32 POS)) shapeCasts_S16x2048x16x64_S16x2048x1024 (ix3 b s k)
    = spin 32 (Ideal.ofBits .f32 0x42800000#32) (POS (ix2 b s)) a (base + 64 * g) d := by
  rw [← turned16_at (shapeCast _ Q shapeCasts_S16x2048x1024_S16x2048x16x64) POS a (base + 64 * g) b s g d fun e => by
    have e1 : shapeCast S16x2048x16x64 Q shapeCasts_S16x2048x1024_S16x2048x16x64 (ix4 b s g e) = Q (ix3 b s ⟨64 * g + e, by omega⟩) := by
      pointwise []
      congr 1
      blk_ext []
    rw [e1, hQ, Nat.add_assoc]]
  generalize turned16 (shapeCast _ Q shapeCasts_S16x2048x1024_S16x2048x16x64) (angles32 POS) = T
  pointwise []
  congr 1
  blk_ext []

section results
include hR

theorem heads_gate (h : Fin 88) (d : Fin 128) (hh : (h : ℕ) < 32) :
    heads U POS (ix3 h R d) = Ideal.logistic (col U b s (7248 + (128 * h + d))) := by
  rw [heads_at U POS b s R hR, joined_nine]
  refine (nine_gates b s R _ _ _ _ _ _ _ _ _ _ (by show 128 * (h : ℕ) + d < 4096; omega)).trans ?_
  split
  · rw [gate_at, wide_at]
  · next h1 =>
    have h1 : ¬128 * (h : ℕ) + d < 2048 := h1
    rw [gate_at, wide_at]
    exact congrArg (fun n => Ideal.logistic (col U b s n)) (by show 9296 + (128 * (h : ℕ) + d - 2048) = _; omega)

/-- A head's lane is its array's. -/
theorem heads_part (i : Fin 7) (g : Fin 8) (h : Fin 88) (hh : (h : ℕ) = 32 + 8 * i + g) (d : Fin 128) :
    heads U POS (ix3 h R d) = parts U POS i (ix3 b s ⟨128 * g + d, by omega⟩) := by
  rw [heads_at U POS b s R hR, joined_nine]
  exact nine_heads b s _ _ (parts U POS) i _ _ (by show 128 * (h : ℕ) + d = 4096 + 1024 * i + (128 * g + d); omega)

theorem heads_scaled (g : Fin 8) (h : Fin 88) (hh : (h : ℕ) = 32 + g) (d : Fin 128) :
    heads U POS (ix3 h R d) = col U b s (128 * g + d) * Ideal.ofBits .f32 0x3E0293EE#32 := by
  rw [heads_part U POS b s R hR 0 g h (by show (h : ℕ) = 32 + 8 * 0 + g; omega) d, parts_0, logits_at, slice_at, Nat.zero_add]

theorem heads_plain (i : Fin 7) (hi : i = 1 ∨ i = 2 ∨ i = 5) (g : Fin 8) (h : Fin 88) (hh : (h : ℕ) = 32 + 8 * i + g) (d : Fin 128) :
    heads U POS (ix3 h R d) = col U b s (1024 * i + (128 * g + d)) := by
  rw [heads_part U POS b s R hR i g h hh d]
  rcases hi with rfl | rfl | rfl
  · rw [parts_1, slice_at]; rfl
  · rw [parts_2, slice_at]; rfl
  · rw [parts_5, slice_at]; rfl

theorem heads_query (g : Fin 8) (h : Fin 88) (hh : (h : ℕ) = 56 + g) (d : Fin 128) :
    heads U POS (ix3 h R d) = spin 64 (Ideal.ofBits .f32 0x43000000#32) (POS (ix2 b s)) (col U b s) (3072 + 128 * g) d * Ideal.ofBits .f32 0x3E0293EE#32 := by
  rw [heads_part U POS b s R hR 3 g h (by show (h : ℕ) = 32 + 8 * 3 + g; omega) d, parts_3, logits_at, head8_at POS b s _ (col U b s) 3072 g d (fun l => slice_at U b s _ _ _) _ rfl]

theorem heads_key (g : Fin 8) (h : Fin 88) (hh : (h : ℕ) = 64 + g) (d : Fin 128) :
    heads U POS (ix3 h R d) = spin 64 (Ideal.ofBits .f32 0x43000000#32) (POS (ix2 b s)) (col U b s) (4096 + 128 * g) d := by
  rw [heads_part U POS b s R hR 4 g h (by show (h : ℕ) = 32 + 8 * 4 + g; omega) d, parts_4]
  exact head8_at POS b s _ (col U b s) 4096 g d (fun l => slice_at U b s _ _ _) _ rfl

theorem heads_index (g : Fin 8) (h : Fin 88) (hh : (h : ℕ) = 80 + g) (d : Fin 128) (e : Fin 64) (f : Fin 16) (he : 64 * (f : ℕ) + e = 128 * g + d) :
    heads U POS (ix3 h R d) = spin 32 (Ideal.ofBits .f32 0x42800000#32) (POS (ix2 b s)) (col U b s) (6144 + 64 * f) e := by
  rw [heads_part U POS b s R hR 6 g h (by show (h : ℕ) = 32 + 8 * 6 + g; omega) d, parts_6]
  exact head16_at POS b s _ (col U b s) 6144 f e (fun l => slice_at U b s _ _ _) _ he.symm

theorem keys_at (d : Fin 64) :
    keys U POS (ix2 R d) = spin 32 (Ideal.ofBits .f32 0x42800000#32) (POS (ix2 b s)) (col U b s) 7168 d := by
  rw [← turned1_at (broadcastInDim S16x2048x1x64 ![0, 1, 3] bcast_S16x2048x64_S16x2048x1x64_0_1_3
    (extractStridedSlice S16x2048x64 ![0, 0, 7168] U slices_S16x2048x11344_S16x2048x64_0_0_7168)) POS (col U b s) 7168 b s d fun e => by
      rw [← col_of _ _ _ _ (by omega)]
      pointwise []]
  rw [keys]
  generalize turned1 _ _ = T
  pointwise []
  congr 1
  blk_ext []

theorem weights_at (k : Fin 16) : weights U (ix2 R k) = col U b s (7232 + k) * Ideal.ofBits .f32 0x3D000000#32 := by
  rw [← col_of _ _ _ _ (by omega)]
  pointwise [weights]
  congr 2
  blk_ext []

end results

end Cert.InReferenceIdeal.In
-- ==== Proof.InHost.lean ====
/-
  The input projection: the arrays the host prepares for the kernel, as terms of the arguments, and their values.  `source` is the
  column of the weights that a column of the arranged weights repeats.
-/
module

public import proofs.«01_k».proof.Proof.InFirst
public import proofs.«01_k».proof.Proof.InRefAt

@[expose] public section

set_option maxRecDepth 65536

noncomputable section

open Idealize.ShloMosaic Idealize.ShloMosaic.TcCoe Idealize.SL.Sem

namespace Cert.InKernelIdeal.Value

open Cert.InKernelIdeal Cert.InKernelIdeal.Gen
open Cert.InReferenceIdeal.In (angle)

variable (m : (ℓ : Loc nD τ sig) → Buf (Elt Ideal) ℓ)

/-- The last window of the weights: the indexer's key twice, then its head weights, with zeros between. -/
def misc (W : FVec Ideal S4x2048x11344 .f32) : FVec Ideal S4x2048x1024 .f32 :=
  concatenate S4x2048x1024 2
    [⟨S4x2048x64, extractStridedSlice S4x2048x64 ![0, 0, 7168] W slices_S4x2048x11344_S4x2048x64_0_0_7168⟩,
     ⟨S4x2048x64, broadcastInDim S4x2048x64 ![] bcast_S_S4x2048x64 (constant S_ .f32 0x00000000#32)⟩,
     ⟨S4x2048x64, broadcastInDim S4x2048x64 ![] bcast_S_S4x2048x64 (constant S_ .f32 0x00000000#32)⟩,
     ⟨S4x2048x64, extractStridedSlice S4x2048x64 ![0, 0, 7168] W slices_S4x2048x11344_S4x2048x64_0_0_7168⟩,
     ⟨S4x2048x16, extractStridedSlice S4x2048x16 ![0, 0, 7232] W slices_S4x2048x11344_S4x2048x16_0_0_7232⟩,
     ⟨S4x2048x112, broadcastInDim S4x2048x112 ![] bcast_S_S4x2048x112 (constant S_ .f32 0x00000000#32)⟩,
     ⟨S4x2048x640, broadcastInDim S4x2048x640 ![] bcast_S_S4x2048x640 (constant S_ .f32 0x00000000#32)⟩]
    concatenates_S4x2048x64_S4x2048x64_S4x2048x64_S4x2048x64_S4x2048x16_S4x2048x112_S4x2048x640_S4x2048x1024_d2

/-- The weights with their columns in the kernel's order. -/
def arranged (W : FVec Ideal S4x2048x11344 .f32) : FVec Ideal S4x2048x12288 .bf16 :=
  truncf .bf16 (concatenate S4x2048x12288 2
    [⟨S4x2048x2048, extractStridedSlice S4x2048x2048 ![0, 0, 7248] W slices_S4x2048x11344_S4x2048x2048_0_0_7248⟩,
     ⟨S4x2048x2048, extractStridedSlice S4x2048x2048 ![0, 0, 9296] W slices_S4x2048x11344_S4x2048x2048_0_0_9296⟩,
     ⟨S4x2048x1024, extractStridedSlice S4x2048x1024 ![0, 0, 0] W slices_S4x2048x11344_S4x2048x1024_0_0_0⟩,
     ⟨S4x2048x1024, extractStridedSlice S4x2048x1024 ![0, 0, 1024] W slices_S4x2048x11344_S4x2048x1024_0_0_1024⟩,
     ⟨S4x2048x1024, extractStridedSlice S4x2048x1024 ![0, 0, 2048] W slices_S4x2048x11344_S4x2048x1024_0_0_2048⟩,
     ⟨S4x2048x1024, extractStridedSlice S4x2048x1024 ![0, 0, 3072] W slices_S4x2048x11344_S4x2048x1024_0_0_3072⟩,
     ⟨S4x2048x1024, extractStridedSlice S4x2048x1024 ![0, 0, 4096] W slices_S4x2048x11344_S4x2048x1024_0_0_4096⟩,
     ⟨S4x2048x1024, extractStridedSlice S4x2048x1024 ![0, 0, 5120] W slices_S4x2048x11344_S4x2048x1024_0_0_5120⟩,
     ⟨S4x2048x1024, extractStridedSlice S4x2048x1024 ![0, 0, 6144] W slices_S4x2048x11344_S4x2048x1024_0_0_6144⟩,
     ⟨S4x2048x1024, misc W⟩]
    concatenates_S4x2048x2048_S4x2048x2048_S4x2048x1024_S4x2048x1024_S4x2048x1024_S4x2048x1024_S4x2048x1024_S4x2048x1024_S4x2048x1024_S4x2048x1024_S4x2048x12288_d2) bitsLt_bf16_f32

/-- The angles of every token, 64 frequencies. -/
def rowAngles64 (POS : IVec S16x2048 32) : FVec Ideal S32768x64 .f32 :=
  mulf (broadcastInDim S32768x64 ![0, 1] bcast_S32768x1_S32768x64_0_1 (broadcastInDim S32768x1 ![0] bcast_S32768_S32768x1_0 (sitofp .f32 (shapeCast S32768 POS shapeCasts_S16x2048_S32768))))
    (broadcastInDim S32768x64 ![0, 1] bcast_S1x64_S32768x64_0_1 (broadcastInDim S1x64 ![1] bcast_S64_S1x64_1
      (Host.divf (broadcastInDim S64 ![] bcast_S_S64 (constant S_ .f32 0x3F800000#32)) (Host.powf (broadcastInDim S64 ![] bcast_S_S64 (constant S_ .f32 0x461C4000#32))
        (Host.divf (addf (broadcastInDim S64 ![] bcast_S_S64 (constant S_ .f32 0x00000000#32)) (mulf (broadcastInDim S64 ![] bcast_S_S64 (constant S_ .f32 0x40000000#32)) (sitofp .f32 (iotaInDim S64 32 0))))
          (broadcastInDim S64 ![] bcast_S_S64 (constant S_ .f32 0x43000000#32)))))))

/-- The angles of every token, 32 frequencies. -/
def rowAngles32 (POS : IVec S16x2048 32) : FVec Ideal S32768x32 .f32 :=
  mulf (broadcastInDim S32768x32 ![0, 1] bcast_S32768x1_S32768x32_0_1 (broadcastInDim S32768x1 ![0] bcast_S32768_S32768x1_0 (sitofp .f32 (shapeCast S32768 POS shapeCasts_S16x2048_S32768))))
    (broadcastInDim S32768x32 ![0, 1] bcast_S1x32_S32768x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32)) (sitofp .f32 (iotaInDim S32 32 0))))
          (broadcastInDim S32 ![] bcast_S_S32 (constant S_ .f32 0x42800000#32)))))))

/-- Cosines for heads of 128 lanes: the same half twice. -/
def cosines (T : FVec Ideal S32768x64 .f32) : FVec Ideal S32768x128 .f32 :=
  concatenate S32768x128 1 [⟨S32768x64, Host.cos T⟩, ⟨S32768x64, Host.cos T⟩] concatenates_S32768x64_S32768x64_S32768x128_d1

/-- Sines for heads of 128 lanes: the first half negated. -/
def sines (T : FVec Ideal S32768x64 .f32) : FVec Ideal S32768x128 .f32 :=
  concatenate S32768x128 1 [⟨S32768x64, Host.negf (Host.sin T)⟩, ⟨S32768x64, Host.sin T⟩] concatenates_S32768x64_S32768x64_S32768x128_d1

/-- Cosines for pairs of heads of 64 lanes. -/
def cosines4 (T : FVec Ideal S32768x32 .f32) : FVec Ideal S32768x128 .f32 :=
  concatenate S32768x128 1 [⟨S32768x32, Host.cos T⟩, ⟨S32768x32, Host.cos T⟩, ⟨S32768x32, Host.cos T⟩, ⟨S32768x32, Host.cos T⟩] concatenates_S32768x32_S32768x32_S32768x32_S32768x32_S32768x128_d1

/-- Sines for the lower halves. -/
def sinesLo (T : FVec Ideal S32768x32 .f32) : FVec Ideal S32768x128 .f32 :=
  concatenate S32768x128 1 [⟨S32768x32, Host.negf (Host.sin T)⟩, ⟨S32768x32, broadcastInDim S32768x32 ![] bcast_S_S32768x32 (constant S_ .f32 0x00000000#32)⟩, ⟨S32768x32, Host.negf (Host.sin T)⟩, ⟨S32768x32, broadcastInDim S32768x32 ![] bcast_S_S32768x32 (constant S_ .f32 0x00000000#32)⟩] concatenates_S32768x32_S32768x32_S32768x32_S32768x32_S32768x128_d1

/-- Sines for the upper halves. -/
def sinesHi (T : FVec Ideal S32768x32 .f32) : FVec Ideal S32768x128 .f32 :=
  concatenate S32768x128 1 [⟨S32768x32, broadcastInDim S32768x32 ![] bcast_S_S32768x32 (constant S_ .f32 0x00000000#32)⟩, ⟨S32768x32, Host.sin T⟩, ⟨S32768x32, broadcastInDim S32768x32 ![] bcast_S_S32768x32 (constant S_ .f32 0x00000000#32)⟩, ⟨S32768x32, Host.sin T⟩] concatenates_S32768x32_S32768x32_S32768x32_S32768x32_S32768x128_d1

/-- The weights' column behind a column of the arranged weights. -/
def source (L : ℕ) : ℕ := if L < 4096 then 7248 + L else if L < 11328 then L - 4096 else L - 4288

theorem source_lo (L : ℕ) (h : L < 4096) : source L = 7248 + L := if_pos h

theorem source_mid (L : ℕ) (h : 4096 ≤ L) (h' : L < 11328) : source L = L - 4096 := by
  rw [source, if_neg (by omega), if_pos h']

theorem source_hi (L : ℕ) (h : 11328 ≤ L) : source L = L - 4288 := by
  rw [source, if_neg (by omega), if_neg (by omega)]

theorem same_at (W : FVec Ideal S4x2048x11344 .f32) (k : Fin 2048) (i j : Fin 11344) (h : (i : ℕ) = j) : W (ix3 0 k i) = W (ix3 0 k j) := by
  rw [Fin.ext h]

theorem misc_at (W : FVec Ideal S4x2048x11344 .f32) (k : Fin 2048) (u : Fin 1024) (h : (u : ℕ) < 64 ∨ 192 ≤ (u : ℕ) ∧ (u : ℕ) < 272) (n : Fin 11344)
    (hn : (n : ℕ) = source (11264 + u)) : misc W (ix3 0 k u) = W (ix3 0 k n) := by
  have hn' : (u : ℕ) < 64 ∧ (n : ℕ) = 7168 + u ∨ 64 ≤ (u : ℕ) ∧ (n : ℕ) = 6976 + u := by
    rcases Nat.lt_or_ge (u : ℕ) 64 with hu | hu
    · rw [source_mid _ (by omega) (by omega)] at hn; omega
    · rw [source_hi _ (by omega)] at hn; omega
  clear hn
  pointwise [misc]
  split_ifs <;> first | (exfalso; omega) | exact same_at W k _ _ (by dsimp only; omega)

set_option maxHeartbeats 1000000 in
theorem arranged_at (W : FVec Ideal S4x2048x11344 .f32) (k : Fin 2048) (L : Fin 12288) (h : (L : ℕ) < 11328 ∨ 11456 ≤ (L : ℕ) ∧ (L : ℕ) < 11536) (n : Fin 11344)
    (hn : (n : ℕ) = source L) : arranged W (ix3 0 k L) = W (ix3 0 k n) := by
  have hm := fun u hu => misc_at W k u hu n
  unfold arranged
  generalize misc W = M at hm
  by_cases hL : (L : ℕ) < 11264
  · have hn' : (L : ℕ) < 4096 ∧ (n : ℕ) = 7248 + L ∨ 4096 ≤ (L : ℕ) ∧ (n : ℕ) = L - 4096 := by
      rcases Nat.lt_or_ge (L : ℕ) 4096 with hu | hu
      · rw [source_lo _ hu] at hn; omega
      · rw [source_mid _ hu (by omega)] at hn; omega
    clear hm hn
    pointwise []
    split_ifs <;> first | (exfalso; omega) | exact same_at W k _ _ (by dsimp only; omega)
  · have e := hm ⟨L - 11264, by omega⟩ (by dsimp only; omega) (by rw [hn]; congr 1; dsimp only; omega)
    rw [← e]
    pointwise []
    split_ifs <;> first | (exfalso; omega) | exact congrArg (fun u => M (ix3 0 k u)) (Fin.ext (by dsimp only; omega))

section
variable (POS : IVec S16x2048 32) (q : Fin 32768) (b : Fin 16) (s : Fin 2048) (hq : (q : ℕ) = 2048 * b + s)
include hq

theorem rowAngles64_at (d : Fin 64) : rowAngles64 POS (ix2 q d) = angle (Ideal.ofBits .f32 0x43000000#32) (POS (ix2 b s)) d := by
  have hb : ∀ h, (⟨(q : ℕ) / 2048, h⟩ : Fin 16) = b := fun _ => Fin.ext (by show (q : ℕ) / 2048 = b; omega)
  have hs : ∀ h, (⟨(q : ℕ) % 2048, h⟩ : Fin 2048) = s := fun _ => Fin.ext (by show (q : ℕ) % 2048 = s; omega)
  pointwise [rowAngles64, angle]
  simp only [hb, hs]

theorem rowAngles32_at (d : Fin 32) : rowAngles32 POS (ix2 q d) = angle (Ideal.ofBits .f32 0x42800000#32) (POS (ix2 b s)) d := by
  have hb : ∀ h, (⟨(q : ℕ) / 2048, h⟩ : Fin 16) = b := fun _ => Fin.ext (by show (q : ℕ) / 2048 = b; omega)
  have hs : ∀ h, (⟨(q : ℕ) % 2048, h⟩ : Fin 2048) = s := fun _ => Fin.ext (by show (q : ℕ) % 2048 = s; omega)
  pointwise [rowAngles32, angle]
  simp only [hb, hs]

end

theorem V_rows (c : Dev nD) : V m c main_v65 = shapeCast S32768x2048 (m ((c : Thread nD τ).loc main_arg0)) shapeCasts_S16x2048x2048_S32768x2048 := by
  show StableHlo.after (List.flatten [hostOps0]) (fun b => m (c, b)) _ = _
  rw [List.flatten_cons, List.flatten_nil, List.append_nil]
  after_results
  rfl

theorem V_norm (c : Dev nD) : V m c main_v66 = shapeCast S4x1x2048 (m ((c : Thread nD τ).loc main_arg1)) shapeCasts_S4x2048_S4x1x2048 := by
  show StableHlo.after (List.flatten [hostOps0]) (fun b => m (c, b)) _ = _
  rw [List.flatten_cons, List.flatten_nil, List.append_nil]
  after_results
  rfl

theorem V_weights (c : Dev nD) : V m c main_v17 = arranged (m ((c : Thread nD τ).loc main_arg4)) := by
  show StableHlo.after (List.flatten [hostOps0]) (fun b => m (c, b)) _ = _
  rw [List.flatten_cons, List.flatten_nil, List.append_nil]
  after_results
  rfl

theorem V_cosines (c : Dev nD) : V m c main_v38 = cosines (rowAngles64 (m ((c : Thread nD τ).loc main_arg5))) := by
  show StableHlo.after (List.flatten [hostOps0]) (fun b => m (c, b)) _ = _
  rw [List.flatten_cons, List.flatten_nil, List.append_nil]
  after_results
  rfl

theorem V_sines (c : Dev nD) : V m c main_v40 = sines (rowAngles64 (m ((c : Thread nD τ).loc main_arg5))) := by
  show StableHlo.after (List.flatten [hostOps0]) (fun b => m (c, b)) _ = _
  rw [List.flatten_cons, List.flatten_nil, List.append_nil]
  after_results
  rfl

theorem V_cosines4 (c : Dev nD) : V m c main_v60 = cosines4 (rowAngles32 (m ((c : Thread nD τ).loc main_arg5))) := by
  show StableHlo.after (List.flatten [hostOps0]) (fun b => m (c, b)) _ = _
  rw [List.flatten_cons, List.flatten_nil, List.append_nil]
  after_results
  rfl

theorem V_sinesLo (c : Dev nD) : V m c main_v63 = sinesLo (rowAngles32 (m ((c : Thread nD τ).loc main_arg5))) := by
  show StableHlo.after (List.flatten [hostOps0]) (fun b => m (c, b)) _ = _
  rw [List.flatten_cons, List.flatten_nil, List.append_nil]
  after_results
  rfl

theorem V_sinesHi (c : Dev nD) : V m c main_v64 = sinesHi (rowAngles32 (m ((c : Thread nD τ).loc main_arg5))) := by
  show StableHlo.after (List.flatten [hostOps0]) (fun b => m (c, b)) _ = _
  rw [List.flatten_cons, List.flatten_nil, List.append_nil]
  after_results
  rfl

end Cert.InKernelIdeal.Value

end
-- ==== Proof.InReads.lean ====
/-
  The input projection: what a grid point's blocks hold, in the arguments' own letters.  The stored tokens are the normalised
  tokens of the point's rows (`held`), and a product of a stored token with a window of weights is the reference's column
  (`acc_col`).
-/
module

public import proofs.«01_k».proof.Proof.InHost

@[expose] public section

set_option maxRecDepth 65536

noncomputable section

open Idealize.ShloMosaic Idealize.ShloMosaic.TcCoe Idealize.SL.Sem

namespace Cert.InKernelIdeal.Value

open Cert.InKernelIdeal Cert.InKernelIdeal.Gen
open Cert.InReferenceIdeal.In (angle col)

variable (m : (ℓ : Loc nD τ sig) → Buf (Elt Ideal) ℓ)

/-- Where each window's block sits at grid point `t`, for all points at once. -/
theorem idx : ∀ t : Fin cfg0.N, win0_0.index t = ![t.val / 12, 0] ∧ win0_1.index t = ![0, 0, 0] ∧ win0_2.index t = ![t.val / 24, 0, 0]
    ∧ win0_3.index t = ![t.val / 24, 0, 0] ∧ win0_4.index t = ![0, 0, t.val % 12] ∧ win0_5.index t = ![t.val / 12, 0] ∧ win0_6.index t = ![t.val / 12, 0]
    ∧ win0_7.index t = ![t.val / 12, 0] ∧ win0_8.index t = ![t.val / 12, 0] ∧ win0_9.index t = ![t.val / 12, 0]
    ∧ win0_10.index t = ![t.val % 12, t.val / 12, 0] ∧ win0_11.index t = ![t.val / 12, 0] :=
  (by decide +kernel : ∀ t : Fin grid0.N, _)

theorem lt_N (t : Fin cfg0.N) : t.val < 384 := t.isLt

abbrev A0 (c : Dev nD) : FVec Ideal S16x2048x2048 .f32 := m ((c : Thread nD τ).loc main_arg0)
abbrev A1 (c : Dev nD) : FVec Ideal S4x2048 .f32 := m ((c : Thread nD τ).loc main_arg1)
abbrev A2 (c : Dev nD) : FVec Ideal S16x1x2048 .f32 := m ((c : Thread nD τ).loc main_arg2)
abbrev A3 (c : Dev nD) : FVec Ideal S16x1x2048 .f32 := m ((c : Thread nD τ).loc main_arg3)
abbrev A4 (c : Dev nD) : FVec Ideal S4x2048x11344 .f32 := m ((c : Thread nD τ).loc main_arg4)
abbrev A5 (c : Dev nD) : IVec S16x2048 32 := m ((c : Thread nD τ).loc main_arg5)

/-- The reference's projected tokens, of the kernel's arguments. -/
def proj (c : Dev nD) : FVec Ideal Cert.InReferenceIdeal.S16x2048x11344 .f32 := Cert.InReferenceIdeal.In.tokens (A0 m c) (A1 m c) (A2 m c) (A3 m c) (A4 m c)

/-- The reference's normalised token. -/
def token (c : Dev nD) (b : Fin 16) (s k : Fin 2048) : EReal :=
  normed (fun e => A0 m c (ix3 b s e)) (A1 m c (ix2 0 k)) (A2 m c (ix3 b 0 k)) (A3 m c (ix3 b 0 k)) k

theorem cosines_at (T : FVec Ideal S32768x64 .f32) (q : Fin 32768) (d : Fin 128) :
    cosines T (ix2 q d) = Ideal.cos (T (ix2 q ⟨d % 64, by omega⟩)) := by
  pointwise [cosines]
  split_ifs <;> exact congrArg (fun e => Ideal.cos (T (ix2 q e))) (Fin.ext (by dsimp only <;> omega))

theorem sines_at (T : FVec Ideal S32768x64 .f32) (q : Fin 32768) (d : Fin 128) :
    sines T (ix2 q d) = if (d : ℕ) < 64 then -Ideal.sin (T (ix2 q ⟨d % 64, by omega⟩)) else Ideal.sin (T (ix2 q ⟨d % 64, by omega⟩)) := by
  pointwise [sines]
  split_ifs <;> first
    | (exfalso; omega)
    | exact congrArg (fun e => -Ideal.sin (T (ix2 q e))) (Fin.ext (by dsimp only <;> omega))
    | exact congrArg (fun e => Ideal.sin (T (ix2 q e))) (Fin.ext (by dsimp only <;> omega))

theorem cosines4_at (T : FVec Ideal S32768x32 .f32) (q : Fin 32768) (d : Fin 128) :
    cosines4 T (ix2 q d) = Ideal.cos (T (ix2 q ⟨d % 32, by omega⟩)) := by
  pointwise [cosines4]
  split_ifs <;> first | (exfalso; omega) | exact congrArg (fun e => Ideal.cos (T (ix2 q e))) (Fin.ext (by dsimp only <;> omega))

theorem sinesLo_at (T : FVec Ideal S32768x32 .f32) (q : Fin 32768) (d : Fin 128) :
    sinesLo T (ix2 q d) = if (d : ℕ) % 64 < 32 then -Ideal.sin (T (ix2 q ⟨d % 32, by omega⟩)) else 0 := by
  by_cases hd : (d : ℕ) % 64 < 32
  · rw [if_pos hd]
    pointwise [sinesLo]
    split_ifs <;> first | (exfalso; omega) | rfl | exact congrArg (fun e => -Ideal.sin (T (ix2 q e))) (Fin.ext (by dsimp only <;> omega))
  · rw [if_neg hd]
    pointwise [sinesLo]
    split_ifs <;> first | (exfalso; omega) | rfl | exact congrArg (fun e => -Ideal.sin (T (ix2 q e))) (Fin.ext (by dsimp only <;> omega))

theorem sinesHi_at (T : FVec Ideal S32768x32 .f32) (q : Fin 32768) (d : Fin 128) :
    sinesHi T (ix2 q d) = if (d : ℕ) % 64 < 32 then 0 else Ideal.sin (T (ix2 q ⟨d % 32, by omega⟩)) := by
  by_cases hd : (d : ℕ) % 64 < 32
  · rw [if_pos hd]
    pointwise [sinesHi]
    split_ifs <;> first | (exfalso; omega) | rfl | exact congrArg (fun e => Ideal.sin (T (ix2 q e))) (Fin.ext (by dsimp only <;> omega))
  · rw [if_neg hd]
    pointwise [sinesHi]
    split_ifs <;> first | (exfalso; omega) | rfl | exact congrArg (fun e => Ideal.sin (T (ix2 q e))) (Fin.ext (by dsimp only <;> omega))

theorem joined_rows (X : FVec Ideal S16x2048x2048 .f32) (b : Fin 16) (s : Fin 2048) (q : Fin 32768) (h : (q : ℕ) = 2048 * b + s) (k : Fin 2048) :
    shapeCast S32768x2048 X shapeCasts_S16x2048x2048_S32768x2048 (ix2 q k) = X (ix3 b s k) := by
  pointwise []
  congr 1
  blk_ext []

section
variable (c : Dev nD) (t : Fin cfg0.N) (b : Fin 16) (s : Fin 2048) (R : Fin 1024) (h : 1024 * (t.val / 12) + R = 2048 * b + s)

theorem in1 (k : Fin 2048) : iblk m c 1 t (ix3 0 0 k) = A1 m c (ix2 0 k) := by
  have e : iblk m c 1 t (ix3 0 0 k) = V m c main_v66 (ix3 (0 : Fin 4) 0 k) := by
    blk_point [iblk, idx t]
  rw [e, V_norm]
  pointwise []

include h

theorem in0 (k : Fin 2048) : iblk m c 0 t (ix2 R k) = A0 m c (ix3 b s k) := by
  have ht := lt_N t
  have e : iblk m c 0 t (ix2 R k) = V m c main_v65 (ix2 (⟨1024 * (t.val / 12) + R, by omega⟩ : Fin 32768) k) := by
    blk_point [iblk, idx t]
  rw [e, V_rows]
  exact joined_rows (A0 m c) b s _ h k

theorem in2 (k : Fin 2048) : iblk m c 2 t (ix3 0 0 k) = A2 m c (ix3 b 0 k) := by
  have ht := lt_N t
  blk_point [iblk, idx t]

theorem in3 (k : Fin 2048) : iblk m c 3 t (ix3 0 0 k) = A3 m c (ix3 b 0 k) := by
  have ht := lt_N t
  blk_point [iblk, idx t]

theorem normAt_at (k : Fin 2048) : normAt m c t (ix2 R k) = token m c b s k := by
  show normed (fun e => iblk m c 0 t (ix2 R e)) (iblk m c 1 t (ix3 0 0 k)) (iblk m c 2 t (ix3 0 0 k)) (iblk m c 3 t (ix3 0 0 k)) k = _
  rw [in1, in2 m c t b s R h, in3 m c t b s R h]
  simp only [in0 m c t b s R h]
  rfl

theorem in5 (d : Fin 128) : iblk m c 5 t (ix2 R d) = Ideal.cos (angle (Ideal.ofBits .f32 0x43000000#32) (A5 m c (ix2 b s)) (d % 64)) := by
  have ht := lt_N t
  have e : iblk m c 5 t (ix2 R d) = V m c main_v38 (ix2 (⟨1024 * (t.val / 12) + R, by omega⟩ : Fin 32768) d) := by
    blk_point [iblk, idx t]
  rw [e, V_cosines, cosines_at, rowAngles64_at _ _ b s h]

theorem in6 (d : Fin 128) : iblk m c 6 t (ix2 R d)
    = if (d : ℕ) < 64 then -Ideal.sin (angle (Ideal.ofBits .f32 0x43000000#32) (A5 m c (ix2 b s)) (d % 64))
      else Ideal.sin (angle (Ideal.ofBits .f32 0x43000000#32) (A5 m c (ix2 b s)) (d % 64)) := by
  have ht := lt_N t
  have e : iblk m c 6 t (ix2 R d) = V m c main_v40 (ix2 (⟨1024 * (t.val / 12) + R, by omega⟩ : Fin 32768) d) := by
    blk_point [iblk, idx t]
  rw [e, V_sines, sines_at, rowAngles64_at _ _ b s h]

theorem in7 (d : Fin 128) : iblk m c 7 t (ix2 R d) = Ideal.cos (angle (Ideal.ofBits .f32 0x42800000#32) (A5 m c (ix2 b s)) (d % 32)) := by
  have ht := lt_N t
  have e : iblk m c 7 t (ix2 R d) = V m c main_v60 (ix2 (⟨1024 * (t.val / 12) + R, by omega⟩ : Fin 32768) d) := by
    blk_point [iblk, idx t]
  rw [e, V_cosines4, cosines4_at, rowAngles32_at _ _ b s h]

theorem in8 (d : Fin 128) : iblk m c 8 t (ix2 R d)
    = if (d : ℕ) % 64 < 32 then -Ideal.sin (angle (Ideal.ofBits .f32 0x42800000#32) (A5 m c (ix2 b s)) (d % 32)) else 0 := by
  have ht := lt_N t
  have e : iblk m c 8 t (ix2 R d) = V m c main_v63 (ix2 (⟨1024 * (t.val / 12) + R, by omega⟩ : Fin 32768) d) := by
    blk_point [iblk, idx t]
  rw [e, V_sinesLo, sinesLo_at, rowAngles32_at _ _ b s h]

theorem in9 (d : Fin 128) : iblk m c 9 t (ix2 R d)
    = if (d : ℕ) % 64 < 32 then 0 else Ideal.sin (angle (Ideal.ofBits .f32 0x42800000#32) (A5 m c (ix2 b s)) (d % 32)) := by
  have ht := lt_N t
  have e : iblk m c 9 t (ix2 R d) = V m c main_v64 (ix2 (⟨1024 * (t.val / 12) + R, by omega⟩ : Fin 32768) d) := by
    blk_point [iblk, idx t]
  rw [e, V_sinesHi, sinesHi_at, rowAngles32_at _ _ b s h]

end

theorem in4 (c : Dev nD) (t : Fin cfg0.N) (k : Fin 2048) (l : Fin 1024) (L : ℕ) (hL : L = 1024 * (t.val % 12) + l)
    (hv : L < 11328 ∨ 11456 ≤ L ∧ L < 11536) (n : Fin 11344) (hn : (n : ℕ) = source L) :
    iblk m c 4 t (ix3 0 k l) = A4 m c (ix3 0 k n) := by
  have ht := lt_N t
  have e : iblk m c 4 t (ix3 0 k l) = V m c main_v17 (ix3 0 k (⟨1024 * (t.val % 12) + l, by omega⟩ : Fin 12288)) := by
    blk_point [iblk, idx t]
  rw [e, V_weights]
  subst hL
  exact arranged_at _ k _ hv n hn

/-- A stored token times a window's column is the reference's column. -/
theorem acc_col (c : Dev nD) (t : Fin cfg0.N) (H : FVec Ideal S1024x2048 .bf16) (b : Fin 16) (s : Fin 2048) (R : Fin 1024)
    (hH : ∀ k, H (ix2 R k) = token m c b s k) (l : Fin 1024) (L : ℕ) (hL : L = 1024 * (t.val % 12) + l)
    (hv : L < 11328 ∨ 11456 ≤ L ∧ L < 11536) : acc H (iblk m c 4 t) R l = col (proj m c) b s (source L) := by
  have hs : source L < 11344 := by
    unfold source
    split_ifs <;> omega
  rw [← Cert.InReferenceIdeal.In.col_of _ _ _ _ hs, proj, Cert.InReferenceIdeal.In.tokens_at, acc]
  refine Finset.sum_congr rfl fun k _ => ?_
  rw [hH, in4 m c t k l L hL hv ⟨source L, hs⟩ rfl]
  rfl

/-- After every grid point the stored tokens are those of the point's rows. -/
theorem held (c : Dev nD) : ∀ (n : ℕ) (hn : n < cfg0.N) (b : Fin 16) (s : Fin 2048) (R : Fin 1024) (_ : 1024 * (n / 12) + R = 2048 * b + s) (k : Fin 2048),
    (outsAt0 m c n hn).2.2 (ix2 R k) = token m c b s k
  | 0, hn, b, s, R, h, k => by
    have e := first_carried m c ⟨0, hn⟩ rfl
    exact (congrFun e _).trans (normAt_at m c ⟨0, hn⟩ b s R h k)
  | n + 1, hn, b, s, R, h, k => by
    by_cases h0 : (n + 1) % 12 = 0
    · exact (congrFun (first_carried m c ⟨n + 1, hn⟩ h0) _).trans (normAt_at m c ⟨n + 1, hn⟩ b s R h k)
    · have hd : (n + 1) / 12 = n / 12 := by omega
      rw [hd] at h
      exact (congrFun (carried m c ⟨n + 1, hn⟩ h0) _).trans (held c n (Nat.lt_of_succ_lt hn) b s R h k)

end Cert.InKernelIdeal.Value

end
-- ==== Proof.InPoint.lean ====
/-
  The input projection: every block of the kernel's two results, at a position, is the reference at the array position where it
  sits.  The heads are turned with tables whose lower sines are negated and whose other half is zero; that is the reference's
  difference and sum (`spin64_eq`, `spin32_eq`).
-/
module

public import proofs.«01_k».proof.Proof.InReads

@[expose] public section

set_option maxRecDepth 65536

noncomputable section

open Idealize.ShloMosaic Idealize.ShloMosaic.TcCoe Idealize.SL.Sem

namespace Cert.InKernelIdeal.Value

open Cert.InKernelIdeal Cert.InKernelIdeal.Gen
open Cert.InReferenceIdeal.In (angle col spin heads keys weights)

variable (m : (ℓ : Loc nD τ sig) → Buf (Elt Ideal) ℓ)

theorem spin64_eq (w : EReal) (p : BitVec 32) (a x : ℕ → EReal) (base d : ℕ) (hd : d < 128) (hx : ∀ e, e < 128 → x e = a (base + e)) (hp : ∀ n, x (n + 128) = x n) :
    x d * Ideal.cos (angle w p (d % 64)) + x (d + 64) * (if d < 64 then -Ideal.sin (angle w p (d % 64)) else Ideal.sin (angle w p (d % 64)))
    = spin 64 w p a base d := by
  unfold spin
  by_cases h : d < 64
  · rw [if_pos h, if_pos h, Nat.mod_eq_of_lt h, hx d hd, hx (d + 64) (by omega), sub_eq_add_neg, mul_neg, Nat.add_assoc]
  · have e : d + 64 = d - 64 + 128 := by omega
    have e2 : d % 64 = d - 64 := by omega
    have e3 : base + d - 64 = base + (d - 64) := by omega
    rw [if_neg h, if_neg h, e, hp, e2, hx d hd, hx (d - 64) (by omega), e3]

theorem spin32_eq (w : EReal) (p : BitVec 32) (a x : ℕ → EReal) (base o e d : ℕ) (he : e < 64) (ho : o = 0 ∨ o = 64) (hd : d = o + e)
    (hx : ∀ i, i < 64 → x (o + i) = a (base + i)) (hp : ∀ n, x (n + 128) = x n) :
    (x d * Ideal.cos (angle w p (d % 32)) + x (d + 32) * (if d % 64 < 32 then -Ideal.sin (angle w p (d % 32)) else 0))
      + x (d + 96) * (if d % 64 < 32 then 0 else Ideal.sin (angle w p (d % 32)))
    = spin 32 w p a base e := by
  have e0 : d % 64 = e := by omega
  unfold spin
  rw [e0]
  by_cases h : e < 32
  · have e1 : d % 32 = e := by omega
    rw [if_pos h, if_pos h, if_pos h, e1, mul_zero, add_zero, hd, Nat.add_assoc o, hx e he, hx (e + 32) (by omega), sub_eq_add_neg, mul_neg, Nat.add_assoc base]
  · have e1 : d % 32 = e - 32 := by omega
    have e2 : d + 96 = o + (e - 32) + 128 := by omega
    have e3 : base + e - 32 = base + (e - 32) := by omega
    rw [if_neg h, if_neg h, if_neg h, e1, mul_zero, add_zero, e2, hp, hd, hx e he, hx (e - 32) (by omega), e3]

theorem coords_col : ∀ t : Fin cfg0.N, (grid0.coords t 1).val = t.val % 12 := (by decide +kernel : ∀ t : Fin grid0.N, _)

theorem lane_next (g : Fin 8) (n : ℕ) : lane g (n + 128) = lane g n := Fin.ext (by show 128 * (g : ℕ) + (n + 128) % 128 = 128 * (g : ℕ) + n % 128; omega)

section
variable (c : Dev nD) (t : Fin cfg0.N) (H : FVec Ideal S1024x2048 .bf16) (b : Fin 16) (s : Fin 2048) (R : Fin 1024)
  (h : 1024 * (t.val / 12) + R = 2048 * b + s) (hH : ∀ k, H (ix2 R k) = token m c b s k)

include hH in
/-- A stored token times a lane of a window. -/
theorem acc_lane (g : Fin 8) (n e : ℕ) (he : e = 1024 * (t.val % 12) + 128 * g + n % 128) (hv : e < 11328 ∨ 11456 ≤ e ∧ e < 11536) (z : ℕ) (hz : source e = z) :
    acc H (iblk m c 4 t) R (lane g n) = col (proj m c) b s z := by
  rw [← hz]
  exact acc_col m c t H b s R hH (lane g n) e (by rw [he]; exact Nat.add_assoc _ _ _) hv

include hH in
theorem gate_in (g : Fin 8) (d : Fin 128) (hj : t.val % 12 < 4) :
    gateV H (iblk m c 4 t) g R d = Ideal.logistic (col (proj m c) b s (7248 + (128 * (8 * (t.val % 12) + g) + d))) := by
  have hd := d.isLt
  rw [gateV, acc_lane m c t H b s R hH g d _ rfl (by omega) _ (source_lo _ (by omega))]
  congr 2
  omega

include hH in
theorem scale_in (g : Fin 8) (d : Fin 128) (hj : 4 ≤ t.val % 12) (hj' : t.val % 12 < 11) (r : EReal) :
    scaleV H (iblk m c 4 t) r g R d = col (proj m c) b s (1024 * (t.val % 12 - 4) + (128 * g + d)) * r := by
  have hd := d.isLt
  rw [scaleV, acc_lane m c t H b s R hH g d _ rfl (by omega) _ (source_mid _ (by omega) (by omega))]
  congr 2
  omega

include hH in
theorem weight_in (d : Fin 128) (hd : (d : ℕ) < 16) (hj : t.val % 12 = 11) (r : EReal) :
    scaleV H (iblk m c 4 t) r 2 R d = col (proj m c) b s (7232 + d) * r := by
  have hg : ((2 : Fin 8) : ℕ) = 2 := rfl
  rw [scaleV, acc_lane m c t H b s R hH 2 d _ rfl (by omega) _ (source_hi _ (by omega))]
  congr 2
  omega

include h hH in
theorem rope_in (g : Fin 8) (d : Fin 128) (hj : 4 ≤ t.val % 12) (hj' : t.val % 12 < 11) (r : EReal) :
    ropeV H (iblk m c 4 t) r (iblk m c 5 t) (iblk m c 6 t) g R d
    = spin 64 (Ideal.ofBits .f32 0x43000000#32) (A5 m c (ix2 b s)) (col (proj m c) b s) (1024 * (t.val % 12 - 4) + 128 * g) d * r := by
  rw [ropeV, in5 m c t b s R h, in6 m c t b s R h]
  congr 1
  exact spin64_eq _ _ _ (fun n => acc H (iblk m c 4 t) R (lane g n)) _ d d.isLt
    (fun e he => acc_lane m c t H b s R hH g e _ rfl (by omega) _ ((source_mid _ (by omega) (by omega)).trans (by omega)))
    (fun n => congrArg (acc H (iblk m c 4 t) R) (lane_next g n))

include h hH in
/-- Lanes `o … o + 63` of a chunk whose columns are the head that starts at column `base`. -/
theorem ropeI_in (g : Fin 8) (d : Fin 128) (base o e : ℕ) (he : e < 64) (ho : o = 0 ∨ o = 64) (hd : (d : ℕ) = o + e)
    (hv : ∀ i, i < 64 → let L := 1024 * (t.val % 12) + 128 * g + (o + i); (L < 11328 ∨ 11456 ≤ L ∧ L < 11536) ∧ source L = base + i) :
    ropeIV H (iblk m c 4 t) (iblk m c 7 t) (iblk m c 8 t) (iblk m c 9 t) g R d
    = spin 32 (Ideal.ofBits .f32 0x42800000#32) (A5 m c (ix2 b s)) (col (proj m c) b s) base e := by
  rw [ropeIV, in7 m c t b s R h, in8 m c t b s R h, in9 m c t b s R h]
  exact spin32_eq _ _ _ (fun n => acc H (iblk m c 4 t) R (lane g n)) _ o e d he ho hd
    (fun i hi => acc_lane m c t H b s R hH g (o + i) _ (by rw [Nat.mod_eq_of_lt (by omega : o + i < 128)]) (hv i hi).1 _ (hv i hi).2)
    (fun n => congrArg (acc H (iblk m c 4 t) R) (lane_next g n))

end

theorem factor_plain (j : ℕ) (hj : j = 5 ∨ j = 6 ∨ j = 9) : k0_pay39 (F := Ideal) (BitVec.ofNat 32 j) = (1 : EReal) := by
  rcases hj with rfl | rfl | rfl <;> exact (show Ideal.ofBits .f32 0x3F800000#32 = (1 : EReal) by pointwise [])

theorem factor_logit : k0_pay39 (F := Ideal) (BitVec.ofNat 32 4) = Ideal.ofBits .f32 0x3E0293EE#32 := rfl

theorem factor_query : k0_pay84 (F := Ideal) (BitVec.ofNat 32 7) = Ideal.ofBits .f32 0x3E0293EE#32 := rfl

theorem factor_key : k0_pay84 (F := Ideal) (BitVec.ofNat 32 8) = (1 : EReal) :=
  show Ideal.ofBits .f32 0x3F800000#32 = (1 : EReal) by pointwise []

/-- A block of the heads, before the last window: the reference's heads. -/
theorem heads_block (c : Dev nD) (t : Fin cfg0.N) (hj : t.val % 12 < 11) (g : Fin 8) (R : Fin 1024) (d : Fin 128) (q : Fin 32768)
    (hq : (q : ℕ) = 1024 * (t.val / 12) + R) (k : Fin 88) (hk : (k : ℕ) = 8 * (t.val % 12) + g) :
    (outsAt0 m c t.val t.isLt).1 (ix3 g R d) = heads (proj m c) (A5 m c) (ix3 k q d) := by
  have hqs : (q : ℕ) = 2048 * (⟨q / 2048, by omega⟩ : Fin 16) + (⟨q % 2048, by omega⟩ : Fin 2048) := by
    show (q : ℕ) = 2048 * (q / 2048) + q % 2048
    omega
  generalize (⟨q / 2048, by omega⟩ : Fin 16) = b at hqs
  generalize (⟨q % 2048, by omega⟩ : Fin 2048) = s at hqs
  have h : 1024 * (t.val / 12) + R = 2048 * b + s := by omega
  have hd := d.isLt
  by_cases h0 : t.val % 12 = 0
  · rw [first_block m c t h0]
    refine (gate_in m c t _ b s R (fun k => normAt_at m c t b s R h k) g d (by omega)).trans ?_
    rw [Cert.InReferenceIdeal.In.heads_gate _ _ b s q hqs k d (by omega), hk]
  have hH : ∀ k, (outsAt0 m c (t.val - 1) (Nat.lt_of_le_of_lt (Nat.sub_le _ _) t.isLt)).2.2 (ix2 R k) = token m c b s k := fun k =>
    held m c _ _ b s R (by rw [← h]; congr 2; omega) k
  by_cases h1 : t.val % 12 ≤ 3
  · rw [gate_block m c t h0 h1]
    refine (gate_in m c t _ b s R hH g d (by omega)).trans ?_
    rw [Cert.InReferenceIdeal.In.heads_gate _ _ b s q hqs k d (by omega), hk]
  by_cases h4 : t.val % 12 = 4
  · rw [scale_block m c t (by omega), coords_col, h4, factor_logit]
    refine (scale_in m c t _ b s R hH g d (by omega) (by omega) _).trans ?_
    rw [Cert.InReferenceIdeal.In.heads_scaled _ _ b s q hqs g k (by omega) d, h4, Nat.sub_self, Nat.mul_zero, Nat.zero_add]
  by_cases h5 : t.val % 12 = 5 ∨ t.val % 12 = 6 ∨ t.val % 12 = 9
  · rw [scale_block m c t (by omega), coords_col, factor_plain _ h5]
    refine (scale_in m c t _ b s R hH g d (by omega) (by omega) _).trans ?_
    rw [Cert.InReferenceIdeal.In.heads_plain _ _ b s q hqs ⟨t.val % 12 - 4, by omega⟩
      (by rcases h5 with e | e | e
          · exact Or.inl (Fin.ext (by show t.val % 12 - 4 = 1; omega))
          · exact Or.inr (Or.inl (Fin.ext (by show t.val % 12 - 4 = 2; omega)))
          · exact Or.inr (Or.inr (Fin.ext (by show t.val % 12 - 4 = 5; omega)))) g k (by show (k : ℕ) = 32 + 8 * (t.val % 12 - 4) + g; omega) d, mul_one]
  by_cases h7 : t.val % 12 = 7
  · rw [rope_block m c t (by omega), coords_col, h7, factor_query]
    refine (rope_in m c t _ b s R h hH g d (by omega) (by omega) _).trans ?_
    rw [Cert.InReferenceIdeal.In.heads_query _ _ b s q hqs g k (by omega) d, h7]
  by_cases h8 : t.val % 12 = 8
  · rw [rope_block m c t (by omega), coords_col, h8, factor_key]
    refine (rope_in m c t _ b s R h hH g d (by omega) (by omega) _).trans ?_
    rw [Cert.InReferenceIdeal.In.heads_key _ _ b s q hqs g k (by omega) d, h8, mul_one]
  have h10 : t.val % 12 = 10 := by omega
  rw [ropeI_block m c t h10]
  refine (ropeI_in m c t _ b s R h hH g d (6144 + 64 * (2 * g + d / 64)) (64 * (d / 64)) (d % 64) (by omega) (by omega) (by omega) ?_).trans ?_
  · intro i hi
    dsimp only
    refine ⟨by omega, ?_⟩
    rw [source_mid _ (by omega) (by omega)]
    omega
  · exact (Cert.InReferenceIdeal.In.heads_index _ _ b s q hqs g k (by omega) d ⟨d % 64, by omega⟩ ⟨2 * g + d / 64, by omega⟩
      (by show 64 * (2 * (g : ℕ) + d / 64) + d % 64 = 128 * g + d; omega)).symm

/-- The last window's block: the indexer's key in the first 64 lanes of chunk 0 and in the last 64 lanes of chunk 1. -/
theorem keys_block (c : Dev nD) (t : Fin cfg0.N) (hj : t.val % 12 = 11) (g : Fin 8) (R : Fin 1024) (d : Fin 128) (q : Fin 32768)
    (hq : (q : ℕ) = 1024 * (t.val / 12) + R) (e : Fin 64) (hk : (g : ℕ) = 0 ∧ (d : ℕ) = e ∨ (g : ℕ) = 1 ∧ (d : ℕ) = 64 + e) :
    (outsAt0 m c t.val t.isLt).1 (ix3 g R d) = keys (proj m c) (A5 m c) (ix2 q e) := by
  have hqs : (q : ℕ) = 2048 * (⟨q / 2048, by omega⟩ : Fin 16) + (⟨q % 2048, by omega⟩ : Fin 2048) := by
    show (q : ℕ) = 2048 * (q / 2048) + q % 2048
    omega
  generalize (⟨q / 2048, by omega⟩ : Fin 16) = b at hqs
  generalize (⟨q % 2048, by omega⟩ : Fin 2048) = s at hqs
  have h : 1024 * (t.val / 12) + R = 2048 * b + s := by omega
  have he := e.isLt
  have hH : ∀ k, (outsAt0 m c (t.val - 1) (Nat.lt_of_le_of_lt (Nat.sub_le _ _) t.isLt)).2.2 (ix2 R k) = token m c b s k := fun k =>
    held m c _ _ b s R (by rw [← h]; congr 2; omega) k
  rw [misc_block m c t hj (ix3 g R d) (by show (g : ℕ) < 2; omega), Cert.InReferenceIdeal.In.keys_at _ _ b s q hqs e]
  refine ropeI_in m c t _ b s R h hH g d 7168 (64 * g) e he (by omega) (by omega) ?_
  intro i hi
  dsimp only
  rcases hk with ⟨hg, _⟩ | ⟨hg, _⟩
  · exact ⟨by omega, by rw [source_mid _ (by omega) (by omega)]; omega⟩
  · exact ⟨by omega, by rw [source_hi _ (by omega)]; omega⟩

/-- The second result's block: the indexer's head weights in the first 16 lanes. -/
theorem weights_block (c : Dev nD) (t : Fin cfg0.N) (hj : t.val % 12 = 11) (R : Fin 1024) (d : Fin 128) (q : Fin 32768)
    (hq : (q : ℕ) = 1024 * (t.val / 12) + R) (e : Fin 16) (hk : (d : ℕ) = e) :
    (outsAt0 m c t.val t.isLt).2.1 (ix2 R d) = weights (proj m c) (ix2 q e) := by
  have hqs : (q : ℕ) = 2048 * (⟨q / 2048, by omega⟩ : Fin 16) + (⟨q % 2048, by omega⟩ : Fin 2048) := by
    show (q : ℕ) = 2048 * (q / 2048) + q % 2048
    omega
  generalize (⟨q / 2048, by omega⟩ : Fin 16) = b at hqs
  generalize (⟨q % 2048, by omega⟩ : Fin 2048) = s at hqs
  have h : 1024 * (t.val / 12) + R = 2048 * b + s := by omega
  have he := e.isLt
  have hH : ∀ k, (outsAt0 m c (t.val - 1) (Nat.lt_of_le_of_lt (Nat.sub_le _ _) t.isLt)).2.2 (ix2 R k) = token m c b s k := fun k =>
    held m c _ _ b s R (by rw [← h]; congr 2; omega) k
  rw [weight_block m c t hj (ix2 R d), Cert.InReferenceIdeal.In.weights_at _ b s q hqs e, ← hk]
  exact weight_in m c t _ b s R hH d (by omega) hj _

end Cert.InKernelIdeal.Value

end
-- ==== Proof.InArrays.lean ====
/-
  The input projection: its two result arrays after the run, as the reference's own terms.  Chunks and lanes that no result reads are given as what the kernel wrote there.
-/
module

public import proofs.«01_k».proof.Proof.InPoint

@[expose] public section

set_option maxRecDepth 65536

noncomputable section

open Idealize.ShloMosaic Idealize.ShloMosaic.TcCoe Idealize.SL.Sem
open Idealize.ShloMosaic.Pipeline (Dat)

namespace Cert.InKernelIdeal.Value

open Cert.InKernelIdeal Cert.InKernelIdeal.Gen
open Cert.InReferenceIdeal.In (heads keys weights)

variable (m : (ℓ : Loc nD τ sig) → Buf (Elt Ideal) ℓ)

/-- The last grid point of a token's rows. -/
def lastOf (q : Fin 32768) : Fin cfg0.N := ⟨12 * (q / 1024) + 11, by show 12 * ((q : ℕ) / 1024) + 11 < 384; omega⟩

theorem first_of {s t : Fin cfg0.N} (c : Dev nD) (e : s = t) : outsAt0 m c s.val s.isLt = outsAt0 m c t.val t.isLt := by
  subst e
  rfl

/-- The first result array. -/
def wide (c : Dev nD) (h : Fin 96) (q : Fin 32768) (d : Fin 128) : EReal :=
  if h1 : (h : ℕ) < 88 then heads (proj m c) (A5 m c) (ix3 ⟨h, h1⟩ q d)
  else if h2 : (h : ℕ) = 88 ∧ (d : ℕ) < 64 then keys (proj m c) (A5 m c) (ix2 q ⟨d, h2.2⟩)
  else if h3 : (h : ℕ) = 89 ∧ 64 ≤ (d : ℕ) then keys (proj m c) (A5 m c) (ix2 q ⟨d - 64, by omega⟩)
  else (outsAt0 m c (lastOf q).val (lastOf q).isLt).1 (ix3 ⟨h - 88, by omega⟩ ⟨q % 1024, by omega⟩ d)

/-- The second result array. -/
def narrow (c : Dev nD) (q : Fin 32768) (d : Fin 128) : EReal :=
  if h : (d : ℕ) < 16 then weights (proj m c) (ix2 q ⟨d, h⟩)
  else (outsAt0 m c (lastOf q).val (lastOf q).isLt).2.1 (ix2 ⟨q % 1024, by omega⟩ d)

theorem wide_block (c : Dev nD) (t : Fin cfg0.N) (g : Fin 8) (R : Fin 1024) (d : Fin 128) (k : Fin 96) (q : Fin 32768)
    (hk : (k : ℕ) = 8 * (t.val % 12) + g) (hq : (q : ℕ) = 1024 * (t.val / 12) + R) :
    (outsAt0 m c t.val t.isLt).1 (ix3 g R d) = wide m c k q d := by
  have ht := lt_N t
  have hd := d.isLt
  unfold wide
  split_ifs with h1 h2 h3
  · exact heads_block m c t (by omega) g R d q hq ⟨k, h1⟩ hk
  · exact keys_block m c t (by omega) g R d q hq ⟨d, h2.2⟩ (Or.inl ⟨by omega, rfl⟩)
  · exact keys_block m c t (by omega) g R d q hq ⟨d - 64, by omega⟩ (Or.inr ⟨by omega, by show (d : ℕ) = 64 + (d - 64); omega⟩)
  · have et : lastOf q = t := Fin.ext (by show 12 * ((q : ℕ) / 1024) + 11 = t; omega)
    rw [first_of m c et]
    have e0 : (⟨(k : ℕ) - 88, by omega⟩ : Fin 8) = g := Fin.ext (by show (k : ℕ) - 88 = g; omega)
    have e1 : (⟨(q : ℕ) % 1024, by omega⟩ : Fin 1024) = R := Fin.ext (by show (q : ℕ) % 1024 = R; omega)
    rw [e0, e1]

theorem narrow_block (c : Dev nD) (t : Fin cfg0.N) (hj : t.val % 12 = 11) (R : Fin 1024) (d : Fin 128) (q : Fin 32768)
    (hq : (q : ℕ) = 1024 * (t.val / 12) + R) : (outsAt0 m c t.val t.isLt).2.1 (ix2 R d) = narrow m c q d := by
  have ht := lt_N t
  unfold narrow
  split_ifs with h1
  · exact weights_block m c t hj R d q hq ⟨d, h1⟩ rfl
  · have et : lastOf q = t := Fin.ext (by show 12 * ((q : ℕ) / 1024) + 11 = t; omega)
    rw [first_of m c et]
    have e1 : (⟨(q : ℕ) % 1024, by omega⟩ : Fin 1024) = R := Fin.ext (by show (q : ℕ) % 1024 = R; omega)
    rw [e1]

/-- The first result array. -/
def wideArr (c : Dev nD) : FVec Ideal S96x32768x128 .bf16 := fun y => wide m c (y 0) (y 1) (y 2)
/-- The second result array. -/
def narrowArr (c : Dev nD) : FVec Ideal S32768x128 .f32 := fun y => narrow m c (y 0) (y 1)

theorem wideArr_at (c : Dev nD) (h : Fin 96) (q : Fin 32768) (d : Fin 128) : wideArr m c (ix3 h q d) = wide m c h q d := rfl
theorem narrowArr_at (c : Dev nD) (q : Fin 32768) (d : Fin 128) : narrowArr m c (ix2 q d) = narrow m c q d := rfl

/-- The second result is written back at the last point of each row tile alone. -/
theorem last_point : ∀ t : Fin cfg0.N, (cfg0.win 11).flush t = true → t.val % 12 = 11 := by decide +kernel

theorem covers10 : (cfg0.win 10).Covers := by decide +kernel
theorem covers11 : (cfg0.win 11).Covers := by decide +kernel

theorem final10 (c : Dev nD) : (dats m 0 c).arrAt 10 (cfgs 0).N = wideArr m c := by
  refine (dats m 0 c).arrAt_eq_of_covers 10 _ covers10 fun t _ y => ?_
  have ht := lt_N t
  blk_simp
  rw [after0_10]
  idx_vars y
  have h0 := y0.isLt
  have h1 := y1.isLt
  have ee : ((View.whole main_v67_0).slice (win0_10.rect t)).emb (ix3 y0 y1 y2)
      = ix3 (⟨8 * (t.val % 12) + y0, by omega⟩ : Fin 96) (⟨1024 * (t.val / 12) + y1, by omega⟩ : Fin 32768) y2 := by
    blk_ext [idx t]
  rw [ee, wideArr_at]
  exact wide_block m c t y0 y1 y2 _ _ rfl rfl

theorem final11 (c : Dev nD) : (dats m 0 c).arrAt 11 (cfgs 0).N = narrowArr m c := by
  refine (dats m 0 c).arrAt_eq_of_covers 11 _ covers11 fun t hf y => ?_
  have ht := lt_N t
  have hj := last_point t hf
  blk_simp
  rw [after0_11]
  idx_vars y
  have h0 := y0.isLt
  have ee : ((View.whole main_v67_1).slice (win0_11.rect t)).emb (ix2 y0 y1)
      = ix2 (⟨1024 * (t.val / 12) + y0, by omega⟩ : Fin 32768) y1 := by
    blk_ext [idx t]
  rw [ee, narrowArr_at]
  exact narrow_block m c t hj y0 y1 _ rfl

end Cert.InKernelIdeal.Value

end
-- ==== Proof.InValue.lean ====
/-
  The input projection: what the host cuts from its two result arrays, and the whole run's four results as the reference's own terms.
-/
module

public import proofs.«01_k».proof.Proof.InArrays

@[expose] public section

set_option maxRecDepth 65536

noncomputable section

open Idealize.ShloMosaic Idealize.ShloMosaic.TcCoe Idealize.SL.Sem
open Idealize.ShloMosaic.Pipeline (Dat)

namespace Cert.InKernelIdeal.Value

open Cert.InKernelIdeal Cert.InKernelIdeal.Gen
open Cert.InReferenceIdeal.In (heads keys weights)

variable (m : (ℓ : Loc nD τ sig) → Buf (Elt Ideal) ℓ)

/-- The heads the host cuts off. -/
theorem cut_heads (c : Dev nD) : extractStridedSlice S88x32768x128 ![0, 0, 0] (wideArr m c) slices_S96x32768x128_S88x32768x128_0_0_0
    = heads (proj m c) (A5 m c) := by
  funext y
  idx_vars y
  have e : extractStridedSlice S88x32768x128 ![0, 0, 0] (wideArr m c) slices_S96x32768x128_S88x32768x128_0_0_0 (ix3 y0 y1 y2)
      = wideArr m c (ix3 ⟨y0, by omega⟩ y1 y2) := by
    pointwise []
  rw [e]
  rw [wideArr_at]
  unfold wide
  rw [dif_pos y0.isLt]

/-- The indexer's keys the host cuts off, for the first of two uses. -/
theorem cut_keys (c : Dev nD) : shapeCast S32768x64 (extractStridedSlice S1x32768x64 ![88, 0, 0] (wideArr m c) slices_S96x32768x128_S1x32768x64_88_0_0)
    shapeCasts_S1x32768x64_S32768x64 = keys (proj m c) (A5 m c) := by
  funext y
  idx_vars y
  have e : shapeCast S32768x64 (extractStridedSlice S1x32768x64 ![88, 0, 0] (wideArr m c) slices_S96x32768x128_S1x32768x64_88_0_0)
      shapeCasts_S1x32768x64_S32768x64 (ix2 y0 y1) = wideArr m c (ix3 88 y0 ⟨y1, by omega⟩) := by
    generalize wideArr m c = A
    pointwise []
  rw [e]
  rw [wideArr_at]
  unfold wide
  rw [dif_neg (by decide), dif_pos ⟨rfl, y1.isLt⟩]

/-- The indexer's keys the host cuts off, for the second. -/
theorem cut_keys' (c : Dev nD) : shapeCast S32768x64 (extractStridedSlice S1x32768x64 ![89, 0, 64] (wideArr m c) slices_S96x32768x128_S1x32768x64_89_0_64)
    shapeCasts_S1x32768x64_S32768x64 = keys (proj m c) (A5 m c) := by
  funext y
  idx_vars y
  have e : shapeCast S32768x64 (extractStridedSlice S1x32768x64 ![89, 0, 64] (wideArr m c) slices_S96x32768x128_S1x32768x64_89_0_64)
      shapeCasts_S1x32768x64_S32768x64 (ix2 y0 y1) = wideArr m c (ix3 89 y0 ⟨64 + y1, by omega⟩) := by
    generalize wideArr m c = A
    pointwise []
  rw [e]
  rw [wideArr_at]
  unfold wide
  rw [dif_neg (by decide), dif_neg (fun h => absurd h.1 (by decide)), dif_pos ⟨rfl, Nat.le_add_right _ _⟩]
  exact congrArg (fun e => keys (proj m c) (A5 m c) (ix2 y0 e)) (Fin.ext (by show 64 + (y1 : ℕ) - 64 = y1; omega))

/-- The indexer's head weights the host cuts off. -/
theorem cut_weights (c : Dev nD) : extractStridedSlice S32768x16 ![0, 0] (narrowArr m c) slices_S32768x128_S32768x16_0_0 = weights (proj m c) := by
  funext y
  idx_vars y
  have e : extractStridedSlice S32768x16 ![0, 0] (narrowArr m c) slices_S32768x128_S32768x16_0_0 (ix2 y0 y1) = narrowArr m c (ix2 y0 ⟨y1, by omega⟩) := by
    generalize narrowArr m c = A
    pointwise []
  rw [e]
  rw [narrowArr_at]
  unfold narrow
  rw [dif_pos y1.isLt]

/-- A buffer the host writes after the region, at the region's two result arrays. -/
theorem tail_heads (c : Dev nD) : Pipeline.afterTail₀ cfgs (dats m) 0 (V0 m) [hostOps1] c main_v68 = heads (proj m c) (A5 m c) := by
  unfold Pipeline.afterTail₀
  have e := (Pipeline.withArrays_arr spec0 launch0.win.arr_inj c (V0 m c) (fun w => (dats m 0 c).arrAt w (cfgs 0).N) 10).trans (final10 m c)
  rw [← cut_heads m c, ← e]
  generalize Pipeline.withArrays _ _ _ _ = W
  rw [List.flatten_cons, List.flatten_nil, List.append_nil]
  after_results

theorem tail_keys (c : Dev nD) : Pipeline.afterTail₀ cfgs (dats m) 0 (V0 m) [hostOps1] c main_v70 = keys (proj m c) (A5 m c) := by
  unfold Pipeline.afterTail₀
  have e := (Pipeline.withArrays_arr spec0 launch0.win.arr_inj c (V0 m c) (fun w => (dats m 0 c).arrAt w (cfgs 0).N) 10).trans (final10 m c)
  rw [← cut_keys m c, ← e]
  generalize Pipeline.withArrays _ _ _ _ = W
  rw [List.flatten_cons, List.flatten_nil, List.append_nil]
  after_results
  rfl

theorem tail_keys' (c : Dev nD) : Pipeline.afterTail₀ cfgs (dats m) 0 (V0 m) [hostOps1] c main_v72 = keys (proj m c) (A5 m c) := by
  unfold Pipeline.afterTail₀
  have e := (Pipeline.withArrays_arr spec0 launch0.win.arr_inj c (V0 m c) (fun w => (dats m 0 c).arrAt w (cfgs 0).N) 10).trans (final10 m c)
  rw [← cut_keys' m c, ← e]
  generalize Pipeline.withArrays _ _ _ _ = W
  rw [List.flatten_cons, List.flatten_nil, List.append_nil]
  after_results
  rfl

theorem tail_weights (c : Dev nD) : Pipeline.afterTail₀ cfgs (dats m) 0 (V0 m) [hostOps1] c main_v73 = weights (proj m c) := by
  unfold Pipeline.afterTail₀
  have e := (Pipeline.withArrays_arr spec0 launch0.win.arr_inj c (V0 m c) (fun w => (dats m 0 c).arrAt w (cfgs 0).N) 11).trans (final11 m c)
  rw [← cut_weights m c, ← e]
  generalize Pipeline.withArrays _ _ _ _ = W
  rw [List.flatten_cons, List.flatten_nil, List.append_nil]
  after_results

/-- The whole run: its four results, and its arguments as launched. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v68) = heads (proj m c) (A5 m c)
    ∧ r.2.mem ((c.tc : Thread nD τ).loc main_v70) = keys (proj m c) (A5 m c)
    ∧ r.2.mem ((c.tc : Thread nD τ).loc main_v72) = keys (proj m c) (A5 m c)
    ∧ r.2.mem ((c.tc : Thread nD τ).loc main_v73) = weights (proj m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run (defs (F := Ideal)) _ _).mono (fun r h c =>
    ⟨((h.1 c).2 main_v68 (Pipeline.mem_restRefs_of main_v68 (by decide) (by decide))).trans (tail_heads m c),
      ((h.1 c).2 main_v70 (Pipeline.mem_restRefs_of main_v70 (by decide) (by decide))).trans (tail_keys m c),
      ((h.1 c).2 main_v72 (Pipeline.mem_restRefs_of main_v72 (by decide) (by decide))).trans (tail_keys' m c),
      ((h.1 c).2 main_v73 (Pipeline.mem_restRefs_of main_v73 (by decide) (by decide))).trans (tail_weights m c), h.2 c⟩)
    (θ_run_and (run_main m ρ) (unchanged m ρ))

end Cert.InKernelIdeal.Value

end
-- ==== Proof.InClaims.lean ====
/-
  The input projection: its claims, from the two programs' runs and the equations between their results.
-/
module

public import proofs.«01_k».proof.Defs
public import proofs.«01_k».proof.Proof.Gen.InKernel.Frame
public import proofs.«01_k».proof.Proof.InValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem in_frame : Cert.quiescent_InKernel := fun m ρ _ => Cert.InKernel.Gen.frame m ρ

theorem in_frame_ideal : Cert.quiescent_InKernelIdeal := fun m ρ _ => Cert.InKernelIdeal.Gen.frame m ρ

theorem in_frame_reference : Cert.quiescent_InReferenceIdeal :=
  fun m ρ _ => (θ_run _ _ _).mono (fun r h => ⟨fun c => (h c).2.2.2.2, sem_eq_zero_of_no_sems rfl r.2⟩)
    (Cert.InReferenceIdeal.In.run m ρ)

theorem in_preserves : Cert.preserves_InKernel_InKernelIdeal := trivial

theorem in_algebraic : Cert.algebraic_InKernelIdeal_InReferenceIdeal := by
  pair_intro
  · run_from Cert.InKernelIdeal.Value.run m g
  · refine θ_run_mono (Cert.InReferenceIdeal.In.run m' g') ?_
    intro r hr c
    obtain ⟨a0, a1, a2, a3, a4, a5⟩ := hagree c
    have h := hr c
    dsimp only at h
    rw [a0, a1, a2, a3, a4, a5] at h
    exact ⟨h.1, h.2.1, h.2.2.1, h.2.2.2.1, (hr c).2.2.2.2⟩

end Cert.Proof

end
-- ==== Proof.UpEnter.lean ====
/- The first part of the up-projection kernel's body, run apart: the tile's normalised rows at the tile's first column
   block, and the rows the convolution starts from. -/
module

public import proofs.«01_k».proof.Proof.Gen.UpKernelIdeal.Frame
public import proofs.«01_k».proof.Proof.Gen.UpKernelIdeal.Skeleton
public import Idealize.ShloMosaic.Lib.VecWindow

@[expose] public section

set_option maxRecDepth 16384

noncomputable section

namespace Cert.UpKernelIdeal.Up

open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile's first column block: there the body computes the tile's normalised rows. -/
abbrev FirstCol (i : grid0.Coords) : Prop := Scalar.cmpi .ne (Scalar.extui (Scalar.cmpi .eq (BitVec.ofNat 32 (i 1).val) 0#32) : BitVec 32) 0#32 = 1#1

/-- A row tile's remainder by two, as the body computes it. -/
abbrev parity (i : grid0.Coords) : BitVec 32 :=
  let r := Scalar.remsi (BitVec.ofNat 32 (i 0).val) (Scalar.select (Scalar.cmpi .eq 2#32 0#32) 1#32 2#32)
  Scalar.select (Scalar.andi (Scalar.xori (Scalar.cmpi .slt r 0#32) (Scalar.cmpi .slt (Scalar.select (Scalar.cmpi .eq 2#32 0#32) 1#32 2#32) 0#32)) (Scalar.cmpi .ne r 0#32))
    (Scalar.addi r (Scalar.select (Scalar.cmpi .eq 2#32 0#32) 1#32 2#32)) r

/-- The first row tile of a sequence: there the convolution starts from rows of zeros. -/
abbrev SeqStart (i : grid0.Coords) : Prop :=
  Scalar.cmpi .ne (Scalar.extui (Scalar.cmpi .eq (parity i) 0#32) : BitVec 32) 0#32 = 1#1

theorem seqStart_or : ∀ i : grid0.Coords, (SeqStart i ∧ ¬ k0_cond3 i = 1#1) ∨ (¬ SeqStart i ∧ k0_cond3 i = 1#1) := by
  decide +kernel

/-- A store of a whole buffer leaves the stored values. -/
theorem writes_full {s : Shape} {e : EltTy} (a : Memref sig .tc .vmem s e) (h : a.IsWhole) (f : a.view.ty.Contents (Elt F)) {off : Fin s.rank → ℕ}
    (inb : ∀ d, off d + s.size d ≤ s.size d) (w : s.Idx → Elt F e) :
    a.view.writes (Elt F) f [⟨Rect.unit off s.size inb, w⟩] = h.unread w :=
  h.eq_unread (View.read_writes_full a.view f inb w [])

/-- A load of a whole buffer reads its values. -/
theorem readAt_unread {s : Shape} {e : EltTy} (a : Memref sig .tc .vmem s e) (h : a.IsWhole) (x : s.Idx → Elt F e) {off : Fin s.rank → ℕ}
    (inb : ∀ d, off d + s.size d ≤ s.size d) :
    a.view.readAt (Elt F) (Rect.unit off s.size inb).toLoadRect (h.unread x) = x :=
  (View.readAt_full a.view _ inb).trans (h.read_unread x)

/-- The body's first part: afterwards the rows' buffer holds the tile's normalised rows `H` and the small buffer the rows `halo`
    that come before the tile's first row. -/
theorem enter (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x11x8x1024 .f32) (harg10 : arg10.IsWhole) (arg11 : Memref sig .tc .vmem S1024x1024 .bf16) (harg11 : arg11.IsWhole) (arg12 : Memref sig .tc .vmem S1024x2048 .bf16) (harg12 : arg12.IsWhole) (arg13 : Memref sig .tc .vmem S8x1024 .f32) (harg13 : arg13.IsWhole) (arg14 : Memref sig .tc .vmem S11x8x1024 .f32) (harg14 : arg14.IsWhole)
    (x0 : Vec F S1024x2048 .f32) (x1 x2 x3 : Vec F S1x1x2048 .f32) (xh : Vec F S1024x2048 .bf16) (xc : Vec F S8x1024 .f32) (xk : Vec F S11x8x1024 .f32)
    (H : Vec F S1024x2048 .bf16) (halo : Vec F S8x1024 .f32)
    (hH : FirstCol i → H = k0_pay75 x0 x1 x2 x3) (hH' : ¬ FirstCol i → H = xh)
    (hz : SeqStart i → halo = k0_pay76)
    (hk : ∀ h : k0_cond3 i = 1#1, halo = k0_pay77 (View.ld (Val := Elt F) (show Vec F S11x8x1024 .f32 from xk) (Rect.unit (s := S11x8x1024) (k0_off1 i) S1x8x1024.size (k0_off1_inb i h))))
    (E : Set ℕ) (K : _ → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg12 fullShare xh ∗ owns (c : Thread nD τ) arg13 fullShare xc ∗ owns (c : Thread nD τ) arg14 fullShare xk
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg12 fullShare H ∗ owns (c : Thread nD τ) arg13 fullShare halo ∗ owns (c : Thread nD τ) arg14 fullShare xk)
        -∗ K ⟨BitVec.ofNat 32 (i 0).val, BitVec.ofNat 32 (i 1).val, Scalar.addi (Scalar.muli (BitVec.ofNat 32 (i 1).val) 2#32) 0#32⟩))
      ⊢ wp frame (wpE (defs₀ (F := F)) Variants.none c none) E (k0_part16 i arg2 harg2 arg3 harg3 arg4 harg4 arg5 harg5 arg6 harg6 arg7 harg7 arg8 harg8 arg9 harg9 arg10 harg10 arg11 harg11 arg12 harg12 arg13 harg13 arg14 harg14) K := by
  simp only [k0_part16_eq_skeleton]; unfold k0_part16_skel
  unfold owns
  iintro ⟨⟨%f0, %hf0, H0⟩, ⟨%f1, %hf1, H1⟩, ⟨%f2, %hf2, H2⟩, ⟨%f3, %hf3, H3⟩, ⟨%f12, %hf12, H12⟩, ⟨%f13, %hf13, H13⟩, ⟨%f14, %hf14, H14⟩, Hk⟩
  obtain rfl := harg2.eq_unread hf0; obtain rfl := harg3.eq_unread hf1; obtain rfl := harg4.eq_unread hf2; obtain rfl := harg5.eq_unread hf3
  obtain rfl := harg12.eq_unread hf12; obtain rfl := harg13.eq_unread hf13; obtain rfl := harg14.eq_unread hf14
  rcases seqStart_or i with ⟨h2, h3⟩ | ⟨h2, h3⟩
  · sl_exec (disch := first | sl_exact h2 | sl_exact h3)
    sl_step
    rw [show enter.sl.v4 i = Scalar.addi (Scalar.muli (BitVec.ofNat 32 (i 1).val) 2#32) 0#32 from rfl]
    iapply Hk
    isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H12]
    · iexists _; isplitr
      swap
      · iexact H12
      · ipureintro
        by_cases h1 : FirstCol i
        · rw [dif_pos (show enter.sl.v2 i = 1#1 from h1), writes_full _ harg12, readAt_unread _ harg2, readAt_unread _ harg3, readAt_unread _ harg4, readAt_unread _ harg5, harg12.read_unread, hH h1]
        · rw [dif_neg (show ¬ enter.sl.v2 i = 1#1 from h1), hf12, hH' h1]
    isplitl [H13]
    · iexists _; isplitr
      swap
      · iexact H13
      · ipureintro
        rw [writes_full _ harg13, harg13.read_unread, hz h2]
    iexists _; isplitr; (· ipureintro; exact hf14); iexact H14
  · sl_exec (disch := first | sl_exact h2 | sl_exact h3)
    sl_step
    rw [show enter.sl.v4_1 i = Scalar.addi (Scalar.muli (BitVec.ofNat 32 (i 1).val) 2#32) 0#32 from rfl]
    iapply Hk
    isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H12]
    · iexists _; isplitr
      swap
      · iexact H12
      · ipureintro
        by_cases h1 : FirstCol i
        · rw [dif_pos (show enter.sl.v2_1 i = 1#1 from h1), writes_full _ harg12, readAt_unread _ harg2, readAt_unread _ harg3, readAt_unread _ harg4, readAt_unread _ harg5, harg12.read_unread, hH h1]
        · rw [dif_neg (show ¬ enter.sl.v2_1 i = 1#1 from h1), hf12, hH' h1]
    isplitl [H13]
    · iexists _; isplitr
      swap
      · iexact H13
      · ipureintro
        rw [writes_full _ harg13, harg13.read_unread, hk h3, View.readAt_eq_ld, hf14]
    iexists _; isplitr; (· ipureintro; exact hf14); iexact H14

end Cert.UpKernelIdeal.Up

end
-- ==== Proof.UpRunLast.lean ====
/- The up-projection kernel's whole body, run once with the second column half taken and once without it. -/
module

public import proofs.«01_k».proof.Proof.UpEnter

@[expose] public section

set_option maxRecDepth 16384

noncomputable section

namespace Cert.UpKernelIdeal.Up

open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column block, which has one column half. -/
noncomputable def runLast (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x11x8x1024 .f32) (harg10 : arg10.IsWhole) (arg11 : Memref sig .tc .vmem S1024x1024 .bf16) (harg11 : arg11.IsWhole) (arg12 : Memref sig .tc .vmem S1024x2048 .bf16) (harg12 : arg12.IsWhole) (arg13 : Memref sig .tc .vmem S8x1024 .f32) (harg13 : arg13.IsWhole) (arg14 : Memref sig .tc .vmem S11x8x1024 .f32) (harg14 : arg14.IsWhole) (h4 : ¬ k0_cond4 i = 1#1)
    (x0 : Vec F S1024x2048 .f32) (x1 x2 x3 : Vec F S1x1x2048 .f32) (x4 x5 x6 x7 : Vec F S1x2048x512 .bf16) (x8 : Vec F S1x11x8x1024 .f32)
    (xk : Vec F S11x8x1024 .f32) (H : Vec F S1024x2048 .bf16) (halo : Vec F S8x1024 .f32) :
    Σ' (L9 : List (View.Piece (Elt F) S1024x1024 .bf16)), { Lk : List (View.Piece (Elt F) S11x8x1024 .f32) //
      ∀ (xh : Vec F S1024x2048 .bf16) (xc : Vec F S8x1024 .f32) (x9 : Vec F S1024x1024 .bf16)
        (hH : FirstCol i → H = k0_pay75 x0 x1 x2 x3) (hH' : ¬ FirstCol i → H = xh)
        (hz : SeqStart i → halo = k0_pay76)
        (hk : ∀ h : k0_cond3 i = 1#1, halo = k0_pay77 (View.ld (Val := Elt F) (show Vec F S11x8x1024 .f32 from xk) (Rect.unit (s := S11x8x1024) (k0_off1 i) S1x8x1024.size (k0_off1_inb i h))))
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
          ∗ owns (c : Thread nD τ) arg12 fullShare xh ∗ owns (c : Thread nD τ) arg13 fullShare xc ∗ owns (c : Thread nD τ) arg14 fullShare xk
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L9)
              ∗ owns (c : Thread nD τ) arg12 fullShare H ∗ (∃ d, owns (c : Thread nD τ) arg13 fullShare d)
              ∗ (arg14.view.loc (c : Thread nD τ) ↦[arg14.view.set]{fullShare} arg14.view.writes (Elt F) (harg14.unread xk) Lk)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xh xc x9 hH hH' hz hk E K => ?run⟩
  case run =>
    simp only [cc0_ffn_up_eq_skeleton]; unfold cc0_ffn_up_skel
    rw [wp_bind]
    iintro ⟨H0, H1, H2, H3, H4, H5, H6, H7, H8, H9, H12, H13, H14, Hk⟩
    iapply (enter c i arg2 harg2 arg3 harg3 arg4 harg4 arg5 harg5 arg6 harg6 arg7 harg7 arg8 harg8 arg9 harg9 arg10 harg10 arg11 harg11 arg12 harg12 arg13 harg13 arg14 harg14 x0 x1 x2 x3 xh xc xk H halo hH hH' hz hk E _)
    isplitl [H0]; · iexact H0
    isplitl [H1]; · iexact H1
    isplitl [H2]; · iexact H2
    isplitl [H3]; · iexact H3
    isplitl [H12]; · iexact H12
    isplitl [H13]; · iexact H13
    isplitl [H14]; · iexact H14
    unfold owns
    iintro ⟨⟨%f0, %hf0, H0⟩, ⟨%f1, %hf1, H1⟩, ⟨%f2, %hf2, H2⟩, ⟨%f3, %hf3, H3⟩, ⟨%f12, %hf12, H12⟩, ⟨%f13, %hf13, H13⟩, ⟨%f14, %hf14, H14⟩⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, -, H9⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    obtain rfl := harg12.eq_unread hf12; obtain rfl := harg13.eq_unread hf13; obtain rfl := harg14.eq_unread hf14
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    sl_exec (disch := first | sl_exact h4)
    sl_step
    iapply Hk
    isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H4]; · iexists _; isplitr; (· ipureintro; exact hf4); iexact H4
    isplitl [H5]; · iexists _; isplitr; (· ipureintro; exact hf5); iexact H5
    isplitl [H6]; · iexists _; isplitr; (· ipureintro; exact hf6); iexact H6
    isplitl [H7]; · iexists _; isplitr; (· ipureintro; exact hf7); iexact H7
    isplitl [H8]; · iexists _; isplitr; (· ipureintro; exact hf8); iexact H8
    isplitl [H9]; · iexists _; iexact H9
    isplitl [H12]; · iexists _; isplitr; (· ipureintro; exact hf12); iexact H12
    isplitl [H13]; · iexists _; iexists _; isplitr; (swap; iexact H13); ipureintro; rfl
    iexact H14

end Cert.UpKernelIdeal.Up

end
-- ==== Proof.UpRunFull.lean ====
/- The up-projection kernel's whole body, run once with the second column half taken and once without it. -/
module

public import proofs.«01_k».proof.Proof.UpEnter

@[expose] public section

set_option maxRecDepth 16384

noncomputable section

namespace Cert.UpKernelIdeal.Up

open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a column block of two halves. -/
noncomputable def runFull (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x11x8x1024 .f32) (harg10 : arg10.IsWhole) (arg11 : Memref sig .tc .vmem S1024x1024 .bf16) (harg11 : arg11.IsWhole) (arg12 : Memref sig .tc .vmem S1024x2048 .bf16) (harg12 : arg12.IsWhole) (arg13 : Memref sig .tc .vmem S8x1024 .f32) (harg13 : arg13.IsWhole) (arg14 : Memref sig .tc .vmem S11x8x1024 .f32) (harg14 : arg14.IsWhole) (h4 : k0_cond4 i = 1#1)
    (x0 : Vec F S1024x2048 .f32) (x1 x2 x3 : Vec F S1x1x2048 .f32) (x4 x5 x6 x7 : Vec F S1x2048x512 .bf16) (x8 : Vec F S1x11x8x1024 .f32)
    (xk : Vec F S11x8x1024 .f32) (H : Vec F S1024x2048 .bf16) (halo : Vec F S8x1024 .f32) :
    Σ' (L9 : List (View.Piece (Elt F) S1024x1024 .bf16)), { Lk : List (View.Piece (Elt F) S11x8x1024 .f32) //
      ∀ (xh : Vec F S1024x2048 .bf16) (xc : Vec F S8x1024 .f32) (x9 : Vec F S1024x1024 .bf16)
        (hH : FirstCol i → H = k0_pay75 x0 x1 x2 x3) (hH' : ¬ FirstCol i → H = xh)
        (hz : SeqStart i → halo = k0_pay76)
        (hk : ∀ h : k0_cond3 i = 1#1, halo = k0_pay77 (View.ld (Val := Elt F) (show Vec F S11x8x1024 .f32 from xk) (Rect.unit (s := S11x8x1024) (k0_off1 i) S1x8x1024.size (k0_off1_inb i h))))
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
          ∗ owns (c : Thread nD τ) arg12 fullShare xh ∗ owns (c : Thread nD τ) arg13 fullShare xc ∗ owns (c : Thread nD τ) arg14 fullShare xk
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L9)
              ∗ owns (c : Thread nD τ) arg12 fullShare H ∗ (∃ d, owns (c : Thread nD τ) arg13 fullShare d)
              ∗ (arg14.view.loc (c : Thread nD τ) ↦[arg14.view.set]{fullShare} arg14.view.writes (Elt F) (harg14.unread xk) Lk)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xh xc x9 hH hH' hz hk E K => ?run⟩
  case run =>
    simp only [cc0_ffn_up_eq_skeleton]; unfold cc0_ffn_up_skel
    rw [wp_bind]
    iintro ⟨H0, H1, H2, H3, H4, H5, H6, H7, H8, H9, H12, H13, H14, Hk⟩
    iapply (enter c i arg2 harg2 arg3 harg3 arg4 harg4 arg5 harg5 arg6 harg6 arg7 harg7 arg8 harg8 arg9 harg9 arg10 harg10 arg11 harg11 arg12 harg12 arg13 harg13 arg14 harg14 x0 x1 x2 x3 xh xc xk H halo hH hH' hz hk E _)
    isplitl [H0]; · iexact H0
    isplitl [H1]; · iexact H1
    isplitl [H2]; · iexact H2
    isplitl [H3]; · iexact H3
    isplitl [H12]; · iexact H12
    isplitl [H13]; · iexact H13
    isplitl [H14]; · iexact H14
    unfold owns
    iintro ⟨⟨%f0, %hf0, H0⟩, ⟨%f1, %hf1, H1⟩, ⟨%f2, %hf2, H2⟩, ⟨%f3, %hf3, H3⟩, ⟨%f12, %hf12, H12⟩, ⟨%f13, %hf13, H13⟩, ⟨%f14, %hf14, H14⟩⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, -, H9⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    obtain rfl := harg12.eq_unread hf12; obtain rfl := harg13.eq_unread hf13; obtain rfl := harg14.eq_unread hf14
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    sl_exec (disch := first | sl_exact h4)
    sl_step
    iapply Hk
    isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H4]; · iexists _; isplitr; (· ipureintro; exact hf4); iexact H4
    isplitl [H5]; · iexists _; isplitr; (· ipureintro; exact hf5); iexact H5
    isplitl [H6]; · iexists _; isplitr; (· ipureintro; exact hf6); iexact H6
    isplitl [H7]; · iexists _; isplitr; (· ipureintro; exact hf7); iexact H7
    isplitl [H8]; · iexists _; isplitr; (· ipureintro; exact hf8); iexact H8
    isplitl [H9]; · iexists _; iexact H9
    isplitl [H12]; · iexists _; isplitr; (· ipureintro; exact hf12); iexact H12
    isplitl [H13]; · iexists _; iexists _; isplitr; (swap; iexact H13); ipureintro; rfl
    iexact H14

end Cert.UpKernelIdeal.Up

end
-- ==== Proof.UpTile.lean ====
/- What the up-projection kernel's body computes, written once: a chunk of 128 rows is projected, its rows are shifted by one
   and by two (the rows that leave the chunk come from the chunk before), the three are weighted and summed, and the two
   column parts are joined by the gate. Both runs of the body leave exactly these values. -/
module

public import proofs.«01_k».proof.Proof.UpRunLast
public import proofs.«01_k».proof.Proof.UpRunFull

@[expose] public section

set_option maxRecDepth 16384

noncomputable section

namespace Cert.UpKernelIdeal.Up

open Cert.UpKernelIdeal.Gen
open Idealize.ShloMosaic Idealize.ShloMosaic.TcCoe Idealize.ShloMosaic.Tactic

variable {F : FTy → Type} [FloatOps F]

/-- A chunk's rows projected by one block of columns. -/
def prod (hr : Vec F S128x2048 .bf16) (w : Vec F S1x2048x512 .bf16) : FVec F S128x512 .f32 :=
  matmul dot_S128x2048_S2048x512_S128x512_1_0_0_1_n_n none hr (shapeCast S2048x512 w shapeCasts_S1x2048x512_S2048x512 : FVec F S2048x512 .bf16)
    (constant S128x512 .f32 0x00000000#32)

/-- A chunk's rows moved down by `n`; its first `n` rows are the last rows of `p`. -/
def shifted (n : BitVec 32) (u : FVec F S128x512 .f32) (p : FVec F S8x512 .f32) : FVec F S128x512 .f32 :=
  concatenate S128x512 0
    [⟨S8x512, (select (cmpi .slt (iota .tc S8x512 32 [0] iota_S8x512_d0_w32) (broadcast S8x512 n)) (dynamicRotate 0 n none p rotates_S8x512_d0)
        (extractStridedSlice S8x512 ![0, 0] (dynamicRotate 0 n none u rotates_S128x512_d0) slices_S128x512_o0_0_S8x512) : FVec F S8x512 .f32)⟩,
     ⟨S120x512, (extractStridedSlice S120x512 ![8, 0] (dynamicRotate 0 n none u rotates_S128x512_d0) slices_S128x512_o8_0_S120x512 : FVec F S120x512 .f32)⟩]
    concatenates_S8x512_S120x512_S128x512_d0

/-- The convolution over rows: the bias and the three weighted copies of the chunk. -/
def conv (c0 c1 c2 c3 : FVec F S1x512 .f32) (u : FVec F S128x512 .f32) (p : FVec F S8x512 .f32) : FVec F S128x512 .f32 :=
  addf (broadcastTo S128x512 c3 broadcasts_S1x512_S128x512)
    (addf (addf (mulf (broadcastTo S128x512 c0 broadcasts_S1x512_S128x512) (shifted 2#32 u p))
        (mulf (broadcastTo S128x512 c1 broadcasts_S1x512_S128x512) (shifted 1#32 u p)))
      (mulf (broadcastTo S128x512 c2 broadcasts_S1x512_S128x512) u))

/-- The first column part, convolved. -/
def convA (cp : FVec F S8x1024 .f32) (u : FVec F S128x512 .f32) (p : FVec F S8x512 .f32) : FVec F S128x512 .f32 :=
  conv (extractStridedSlice S1x512 ![0, 0] cp slices_S8x1024_o0_0_S1x512) (extractStridedSlice S1x512 ![1, 0] cp slices_S8x1024_o1_0_S1x512)
    (extractStridedSlice S1x512 ![2, 0] cp slices_S8x1024_o2_0_S1x512) (extractStridedSlice S1x512 ![3, 0] cp slices_S8x1024_o3_0_S1x512) u p

/-- The second column part, convolved. -/
def convB (cp : FVec F S8x1024 .f32) (u : FVec F S128x512 .f32) (p : FVec F S8x512 .f32) : FVec F S128x512 .f32 :=
  conv (extractStridedSlice S1x512 ![0, 512] cp slices_S8x1024_o0_512_S1x512) (extractStridedSlice S1x512 ![1, 512] cp slices_S8x1024_o1_512_S1x512)
    (extractStridedSlice S1x512 ![2, 512] cp slices_S8x1024_o2_512_S1x512) (extractStridedSlice S1x512 ![3, 512] cp slices_S8x1024_o3_512_S1x512) u p

/-- The gate on two convolved parts. -/
def gate (a b : FVec F S128x512 .f32) : FVec F S128x512 .bf16 :=
  truncf .bf16 (mulf (mulf a (logistic a)) b) bitsLt_bf16_f32

/-- A chunk's last eight rows. -/
def tailRows (u : FVec F S128x512 .f32) : FVec F S8x512 .f32 := extractStridedSlice S8x512 ![120, 0] u slices_S128x512_o120_0_S8x512

/-- The eight rows before chunk `r`: the last rows of the chunk before, and `p` before the first. -/
def before (u : Fin 8 → FVec F S128x512 .f32) (p : FVec F S8x512 .f32) : Fin 8 → FVec F S8x512 .f32
  | ⟨0, _⟩ => p
  | ⟨k + 1, h⟩ => tailRows (u ⟨k, by omega⟩)

/-- The result's chunk `r` in one column half. -/
def tile (hr : Fin 8 → Vec F S128x2048 .bf16) (wa wb : Vec F S1x2048x512 .bf16) (cp : FVec F S8x1024 .f32) (pa pb : FVec F S8x512 .f32) (r : Fin 8) :
    FVec F S128x512 .bf16 :=
  gate (convA cp (prod (hr r) wa) (before (fun k => prod (hr k) wa) pa r)) (convB cp (prod (hr r) wb) (before (fun k => prod (hr k) wb) pb r))

/-- The rows the tile hands to the next tile: the last eight of the two products, side by side. -/
def handed (hr : Vec F S128x2048 .bf16) (wa wb : Vec F S1x2048x512 .bf16) : FVec F S1x8x1024 .f32 :=
  shapeCast S1x8x1024 (concatenate S8x1024 1 [⟨S8x512, tailRows (prod hr wa)⟩, ⟨S8x512, tailRows (prod hr wb)⟩] concatenates_S8x512_S8x512_S8x1024_d1 : FVec F S8x1024 .f32)
    shapeCasts_S8x1024_S1x8x1024

theorem rows_inb (r : Fin 8) : ∀ a : Fin 2, (![128 * r.val, 0] : Fin 2 → ℕ) a + S128x2048.size a ≤ S1024x2048.size a := by
  intro a
  have := r.isLt
  match a with
  | ⟨0, _⟩ => show 128 * r.val + 128 ≤ 1024; omega
  | ⟨1, _⟩ => show 0 + 2048 ≤ 2048; omega

/-- The tile's chunk `r` of rows. -/
def rowsOf (H : Vec F S1024x2048 .bf16) (r : Fin 8) : Vec F S128x2048 .bf16 :=
  View.ld (Val := Elt F) (show Vec F S1024x2048 .bf16 from H) (Rect.unit (s := S1024x2048) ![128 * r.val, 0] S128x2048.size (rows_inb r))

/-- The left half of the rows before a tile. -/
def haloA (p : Vec F S8x1024 .f32) : Vec F S8x512 .f32 :=
  View.ld (Val := Elt F) (show Vec F S8x1024 .f32 from p) (Rect.unit (s := S8x1024) ![0, 0] S8x512.size inb_S8x1024_S8x512_0_0)

/-- The right half of the rows before a tile. -/
def haloB (p : Vec F S8x1024 .f32) : Vec F S8x512 .f32 :=
  View.ld (Val := Elt F) (show Vec F S8x1024 .f32 from p) (Rect.unit (s := S8x1024) ![0, 512] S8x512.size inb_S8x1024_S8x512_0_512)

/-- The stores of the first column half, the last one first. -/
def piecesA (X : Fin 8 → FVec F S128x512 .bf16) (L : List (View.Piece (Elt F) S1024x1024 .bf16)) : List (View.Piece (Elt F) S1024x1024 .bf16) :=
  ⟨Rect.unit ![896, 0] S128x512.size inb_S1024x1024_S128x512_896_0, X 7⟩ :: ⟨Rect.unit ![768, 0] S128x512.size inb_S1024x1024_S128x512_768_0, X 6⟩
    :: ⟨Rect.unit ![640, 0] S128x512.size inb_S1024x1024_S128x512_640_0, X 5⟩ :: ⟨Rect.unit ![512, 0] S128x512.size inb_S1024x1024_S128x512_512_0, X 4⟩
    :: ⟨Rect.unit ![384, 0] S128x512.size inb_S1024x1024_S128x512_384_0, X 3⟩ :: ⟨Rect.unit ![256, 0] S128x512.size inb_S1024x1024_S128x512_256_0, X 2⟩
    :: ⟨Rect.unit ![128, 0] S128x512.size inb_S1024x1024_S128x512_128_0, X 1⟩ :: ⟨Rect.unit ![0, 0] S128x512.size inb_S1024x1024_S128x512_0_0, X 0⟩ :: L

/-- The stores of the second column half, the last one first. -/
def piecesB (X : Fin 8 → FVec F S128x512 .bf16) (L : List (View.Piece (Elt F) S1024x1024 .bf16)) : List (View.Piece (Elt F) S1024x1024 .bf16) :=
  ⟨Rect.unit ![896, 512] S128x512.size inb_S1024x1024_S128x512_896_512, X 7⟩ :: ⟨Rect.unit ![768, 512] S128x512.size inb_S1024x1024_S128x512_768_512, X 6⟩
    :: ⟨Rect.unit ![640, 512] S128x512.size inb_S1024x1024_S128x512_640_512, X 5⟩ :: ⟨Rect.unit ![512, 512] S128x512.size inb_S1024x1024_S128x512_512_512, X 4⟩
    :: ⟨Rect.unit ![384, 512] S128x512.size inb_S1024x1024_S128x512_384_512, X 3⟩ :: ⟨Rect.unit ![256, 512] S128x512.size inb_S1024x1024_S128x512_256_512, X 2⟩
    :: ⟨Rect.unit ![128, 512] S128x512.size inb_S1024x1024_S128x512_128_512, X 1⟩ :: ⟨Rect.unit ![0, 512] S128x512.size inb_S1024x1024_S128x512_0_512, X 0⟩ :: L

/-- The convolution's weights for one column half, as the body reads them. -/
def coef (x : Vec F S1x1x8x1024 .f32) : FVec F S8x1024 .f32 := shapeCast S8x1024 x shapeCasts_S1x1x8x1024_S8x1024

/-- A load of a buffer reads a window of its values. -/
theorem readAt_ld {s : Shape} {e : EltTy} (a : Memref sig .tc .vmem s e) (h : a.IsWhole) (x : s.Idx → Elt F e) (r : Rect s) :
    a.view.readAt (Elt F) r.toLoadRect (h.unread x) = View.ld (Val := Elt F) x r :=
  (View.readAt_eq_ld a.view _ r).trans (by rw [h.read_unread])

section

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x11x8x1024 .f32) (harg10 : arg10.IsWhole) (arg11 : Memref sig .tc .vmem S1024x1024 .bf16) (harg11 : arg11.IsWhole) (arg12 : Memref sig .tc .vmem S1024x2048 .bf16) (harg12 : arg12.IsWhole) (arg13 : Memref sig .tc .vmem S8x1024 .f32) (harg13 : arg13.IsWhole) (arg14 : Memref sig .tc .vmem S11x8x1024 .f32) (harg14 : arg14.IsWhole)
    (x0 : Vec F S1024x2048 .f32) (x1 x2 x3 : Vec F S1x1x2048 .f32) (x4 x5 x6 x7 : Vec F S1x2048x512 .bf16) (x8 : Vec F S1x11x8x1024 .f32)
    (xk : Vec F S11x8x1024 .f32) (H : Vec F S1024x2048 .bf16) (halo : Vec F S8x1024 .f32)

/-- The weights of the first column half. -/
def coefA (i : grid0.Coords) (x8 : Vec F S1x11x8x1024 .f32) : FVec F S8x1024 .f32 :=
  coef (View.ld (Val := Elt F) (show Vec F S1x11x8x1024 .f32 from x8) (Rect.unit (s := S1x11x8x1024) (k0_off2 i) S1x1x8x1024.size (k0_off2_inb i)))

/-- The weights of the second column half. -/
def coefB (i : grid0.Coords) (h4 : k0_cond4 i = 1#1) (x8 : Vec F S1x11x8x1024 .f32) : FVec F S8x1024 .f32 :=
  coef (View.ld (Val := Elt F) (show Vec F S1x11x8x1024 .f32 from x8) (Rect.unit (s := S1x11x8x1024) (k0_off5 i) S1x1x8x1024.size (k0_off5_inb i h4)))

theorem runLast_out (h4 : ¬ k0_cond4 i = 1#1) :
    (runLast c i arg2 harg2 arg3 harg3 arg4 harg4 arg5 harg5 arg6 harg6 arg7 harg7 arg8 harg8 arg9 harg9 arg10 harg10 arg11 harg11 arg12 harg12 arg13 harg13 arg14 harg14 h4 x0 x1 x2 x3 x4 x5 x6 x7 x8 xk H halo).1
      = piecesA (tile (rowsOf H) x4 x5 (coefA i x8) (haloA halo) (haloB halo)) [] := by
  refine Eq.trans (b := piecesA (tile
    (fun r => arg12.view.readAt (Elt F) (Rect.unit (s := S1024x2048) ![128 * r.val, 0] S128x2048.size (rows_inb r)).toLoadRect (harg12.unread H))
    (arg6.view.readAt (Elt F) (Rect.unit (s := S1x2048x512) ![0, 0, 0] S1x2048x512.size inb_S1x2048x512_S1x2048x512_0_0_0).toLoadRect (harg6.unread x4))
    (arg7.view.readAt (Elt F) (Rect.unit (s := S1x2048x512) ![0, 0, 0] S1x2048x512.size inb_S1x2048x512_S1x2048x512_0_0_0).toLoadRect (harg7.unread x5))
    (coef (arg10.view.readAt (Elt F) (Rect.unit (s := S1x11x8x1024) (k0_off2 i) S1x1x8x1024.size (k0_off2_inb i)).toLoadRect (harg10.unread x8)))
    (arg13.view.readAt (Elt F) (Rect.unit (s := S8x1024) ![0, 0] S8x512.size inb_S8x1024_S8x512_0_0).toLoadRect (harg13.unread halo))
    (arg13.view.readAt (Elt F) (Rect.unit (s := S8x1024) ![0, 512] S8x512.size inb_S8x1024_S8x512_0_512).toLoadRect (harg13.unread halo))) []) rfl ?_
  simp only [readAt_unread _ harg6, readAt_unread _ harg7, readAt_ld _ harg12, readAt_ld _ harg10, readAt_ld _ harg13]
  rfl

theorem runLast_carry (h4 : ¬ k0_cond4 i = 1#1) :
    (runLast c i arg2 harg2 arg3 harg3 arg4 harg4 arg5 harg5 arg6 harg6 arg7 harg7 arg8 harg8 arg9 harg9 arg10 harg10 arg11 harg11 arg12 harg12 arg13 harg13 arg14 harg14 h4 x0 x1 x2 x3 x4 x5 x6 x7 x8 xk H halo).2.1
      = [⟨Rect.unit (s := S11x8x1024) (k0_off3 i) S1x8x1024.size (k0_off3_inb i), handed (rowsOf H 7) x4 x5⟩] := by
  refine Eq.trans (b := [⟨Rect.unit (s := S11x8x1024) (k0_off3 i) S1x8x1024.size (k0_off3_inb i), handed
    (arg12.view.readAt (Elt F) (Rect.unit (s := S1024x2048) ![896, 0] S128x2048.size (rows_inb 7)).toLoadRect (harg12.unread H))
    (arg6.view.readAt (Elt F) (Rect.unit (s := S1x2048x512) ![0, 0, 0] S1x2048x512.size inb_S1x2048x512_S1x2048x512_0_0_0).toLoadRect (harg6.unread x4))
    (arg7.view.readAt (Elt F) (Rect.unit (s := S1x2048x512) ![0, 0, 0] S1x2048x512.size inb_S1x2048x512_S1x2048x512_0_0_0).toLoadRect (harg7.unread x5))⟩]) rfl ?_
  simp only [readAt_unread _ harg6, readAt_unread _ harg7, readAt_ld _ harg12]
  rfl

end

end Cert.UpKernelIdeal.Up

end
-- ==== Proof.UpTileFull.lean ====
/- What the run with both column halves leaves: the two halves of the tile and the two rows handed to the next tile. -/
module

public import proofs.«01_k».proof.Proof.UpTile

@[expose] public section

set_option maxRecDepth 16384

noncomputable section

namespace Cert.UpKernelIdeal.Up

open Cert.UpKernelIdeal.Gen
open Idealize.ShloMosaic Idealize.ShloMosaic.TcCoe Idealize.ShloMosaic.Tactic

variable {F : FTy → Type} [FloatOps F]

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x11x8x1024 .f32) (harg10 : arg10.IsWhole) (arg11 : Memref sig .tc .vmem S1024x1024 .bf16) (harg11 : arg11.IsWhole) (arg12 : Memref sig .tc .vmem S1024x2048 .bf16) (harg12 : arg12.IsWhole) (arg13 : Memref sig .tc .vmem S8x1024 .f32) (harg13 : arg13.IsWhole) (arg14 : Memref sig .tc .vmem S11x8x1024 .f32) (harg14 : arg14.IsWhole)
    (x0 : Vec F S1024x2048 .f32) (x1 x2 x3 : Vec F S1x1x2048 .f32) (x4 x5 x6 x7 : Vec F S1x2048x512 .bf16) (x8 : Vec F S1x11x8x1024 .f32)
    (xk : Vec F S11x8x1024 .f32) (H : Vec F S1024x2048 .bf16) (halo : Vec F S8x1024 .f32)

/-- The rows before the tile in the second column half: zeros at the start of a sequence, else what the tile before handed over. -/
def halo2 (i : grid0.Coords) (h4 : k0_cond4 i = 1#1) (xk : Vec F S11x8x1024 .f32) : Vec F S8x1024 .f32 :=
  if h : k0_cond6 i = 1#1 then
    k0_pay3 (View.ld (Val := Elt F) (show Vec F S11x8x1024 .f32 from xk) (Rect.unit (s := S11x8x1024) (k0_off4 i) S1x8x1024.size (k0_off4_inb i h4 h)))
  else k0_pay2

theorem cond6_or : ∀ i : grid0.Coords, k0_cond6 i = 1#1 ∨ runFull.sl.v684 i = 1#1 := by decide +kernel

/-- The buffer of preceding rows, when the second half is computed. -/
theorem halo2_buffer (h4 : k0_cond4 i = 1#1) :
    (if hc : k0_cond6 i = 1#1 then
      arg13.view.writes (Elt F) (if hc : runFull.sl.v684 i = 1#1 then
          arg13.view.writes (Elt F) (harg13.unread halo) [⟨Rect.unit ![0, 0] S8x1024.size inb_S8x1024_S8x1024_0_0, k0_pay2⟩]
        else harg13.unread halo)
        [⟨Rect.unit ![0, 0] S8x1024.size inb_S8x1024_S8x1024_0_0, k0_pay3 (runFull.sl.v1333 i arg14 harg14 h4 xk hc)⟩]
    else if hc : runFull.sl.v684 i = 1#1 then
        arg13.view.writes (Elt F) (harg13.unread halo) [⟨Rect.unit ![0, 0] S8x1024.size inb_S8x1024_S8x1024_0_0, k0_pay2⟩]
      else harg13.unread halo) = harg13.unread (halo2 i h4 xk) := by
  unfold halo2
  by_cases h : k0_cond6 i = 1#1
  · rw [dif_pos h, dif_pos h]
    have e : runFull.sl.v1333 i arg14 harg14 h4 xk h
        = View.ld (Val := Elt F) (show Vec F S11x8x1024 .f32 from xk) (Rect.unit (s := S11x8x1024) (k0_off4 i) S1x8x1024.size (k0_off4_inb i h4 h)) :=
      readAt_ld arg14 harg14 xk _
    rw [e]
    exact writes_full arg13 harg13 _ inb_S8x1024_S8x1024_0_0 _
  · rw [dif_neg h, dif_neg h, dif_pos ((cond6_or i).resolve_left h)]
    exact writes_full arg13 harg13 _ inb_S8x1024_S8x1024_0_0 _

theorem runFull_out (h4 : k0_cond4 i = 1#1) :
    (runFull c i arg2 harg2 arg3 harg3 arg4 harg4 arg5 harg5 arg6 harg6 arg7 harg7 arg8 harg8 arg9 harg9 arg10 harg10 arg11 harg11 arg12 harg12 arg13 harg13 arg14 harg14 h4 x0 x1 x2 x3 x4 x5 x6 x7 x8 xk H halo).1
      = piecesB (tile (rowsOf H) x6 x7 (coefB i h4 x8) (haloA (halo2 i h4 xk)) (haloB (halo2 i h4 xk)))
          (piecesA (tile (rowsOf H) x4 x5 (coefA i x8) (haloA halo) (haloB halo)) []) := by
  refine Eq.trans (b := piecesB (tile
    (fun r => arg12.view.readAt (Elt F) (Rect.unit (s := S1024x2048) ![128 * r.val, 0] S128x2048.size (rows_inb r)).toLoadRect (harg12.unread H))
    (arg8.view.readAt (Elt F) (Rect.unit (s := S1x2048x512) ![0, 0, 0] S1x2048x512.size inb_S1x2048x512_S1x2048x512_0_0_0).toLoadRect (harg8.unread x6))
    (arg9.view.readAt (Elt F) (Rect.unit (s := S1x2048x512) ![0, 0, 0] S1x2048x512.size inb_S1x2048x512_S1x2048x512_0_0_0).toLoadRect (harg9.unread x7))
    (coef (arg10.view.readAt (Elt F) (Rect.unit (s := S1x11x8x1024) (k0_off5 i) S1x1x8x1024.size (k0_off5_inb i h4)).toLoadRect (harg10.unread x8)))
    (runFull.sl.v701 i arg13 harg13 arg14 harg14 h4 xk halo) (runFull.sl.v702 i arg13 harg13 arg14 harg14 h4 xk halo))
    (piecesA (tile
    (fun r => arg12.view.readAt (Elt F) (Rect.unit (s := S1024x2048) ![128 * r.val, 0] S128x2048.size (rows_inb r)).toLoadRect (harg12.unread H))
    (arg6.view.readAt (Elt F) (Rect.unit (s := S1x2048x512) ![0, 0, 0] S1x2048x512.size inb_S1x2048x512_S1x2048x512_0_0_0).toLoadRect (harg6.unread x4))
    (arg7.view.readAt (Elt F) (Rect.unit (s := S1x2048x512) ![0, 0, 0] S1x2048x512.size inb_S1x2048x512_S1x2048x512_0_0_0).toLoadRect (harg7.unread x5))
    (coef (arg10.view.readAt (Elt F) (Rect.unit (s := S1x11x8x1024) (k0_off2 i) S1x1x8x1024.size (k0_off2_inb i)).toLoadRect (harg10.unread x8)))
    (arg13.view.readAt (Elt F) (Rect.unit (s := S8x1024) ![0, 0] S8x512.size inb_S8x1024_S8x512_0_0).toLoadRect (harg13.unread halo))
    (arg13.view.readAt (Elt F) (Rect.unit (s := S8x1024) ![0, 512] S8x512.size inb_S8x1024_S8x512_0_512).toLoadRect (harg13.unread halo))) [])) rfl ?_
  have e1 : runFull.sl.v701 i arg13 harg13 arg14 harg14 h4 xk halo = haloA (halo2 i h4 xk) :=
    (congrArg (fun f => arg13.view.readAt (Elt F) _ f) (halo2_buffer i arg13 harg13 arg14 harg14 xk halo h4)).trans (readAt_ld _ harg13 _ _)
  have e2 : runFull.sl.v702 i arg13 harg13 arg14 harg14 h4 xk halo = haloB (halo2 i h4 xk) :=
    (congrArg (fun f => arg13.view.readAt (Elt F) _ f) (halo2_buffer i arg13 harg13 arg14 harg14 xk halo h4)).trans (readAt_ld _ harg13 _ _)
  rw [e1, e2]
  simp only [readAt_unread _ harg6, readAt_unread _ harg7, readAt_unread _ harg8, readAt_unread _ harg9, readAt_ld _ harg12, readAt_ld _ harg10, readAt_ld _ harg13]
  rfl

theorem runFull_carry (h4 : k0_cond4 i = 1#1) :
    (runFull c i arg2 harg2 arg3 harg3 arg4 harg4 arg5 harg5 arg6 harg6 arg7 harg7 arg8 harg8 arg9 harg9 arg10 harg10 arg11 harg11 arg12 harg12 arg13 harg13 arg14 harg14 h4 x0 x1 x2 x3 x4 x5 x6 x7 x8 xk H halo).2.1
      = [⟨Rect.unit (s := S11x8x1024) (k0_off6 i) S1x8x1024.size (k0_off6_inb i h4), handed (rowsOf H 7) x6 x7⟩,
         ⟨Rect.unit (s := S11x8x1024) (k0_off3 i) S1x8x1024.size (k0_off3_inb i), handed (rowsOf H 7) x4 x5⟩] := by
  refine Eq.trans (b := [⟨Rect.unit (s := S11x8x1024) (k0_off6 i) S1x8x1024.size (k0_off6_inb i h4), handed
    (arg12.view.readAt (Elt F) (Rect.unit (s := S1024x2048) ![896, 0] S128x2048.size (rows_inb 7)).toLoadRect (harg12.unread H))
    (arg8.view.readAt (Elt F) (Rect.unit (s := S1x2048x512) ![0, 0, 0] S1x2048x512.size inb_S1x2048x512_S1x2048x512_0_0_0).toLoadRect (harg8.unread x6))
    (arg9.view.readAt (Elt F) (Rect.unit (s := S1x2048x512) ![0, 0, 0] S1x2048x512.size inb_S1x2048x512_S1x2048x512_0_0_0).toLoadRect (harg9.unread x7))⟩,
    ⟨Rect.unit (s := S11x8x1024) (k0_off3 i) S1x8x1024.size (k0_off3_inb i), handed
    (arg12.view.readAt (Elt F) (Rect.unit (s := S1024x2048) ![896, 0] S128x2048.size (rows_inb 7)).toLoadRect (harg12.unread H))
    (arg6.view.readAt (Elt F) (Rect.unit (s := S1x2048x512) ![0, 0, 0] S1x2048x512.size inb_S1x2048x512_S1x2048x512_0_0_0).toLoadRect (harg6.unread x4))
    (arg7.view.readAt (Elt F) (Rect.unit (s := S1x2048x512) ![0, 0, 0] S1x2048x512.size inb_S1x2048x512_S1x2048x512_0_0_0).toLoadRect (harg7.unread x5))⟩]) rfl ?_
  simp only [readAt_unread _ harg6, readAt_unread _ harg7, readAt_unread _ harg8, readAt_unread _ harg9, readAt_ld _ harg12]
  rfl

end Cert.UpKernelIdeal.Up

end
-- ==== Proof.UpBody.lean ====
/- The up-projection kernel's body at a grid point, both cases in one statement: what the result's buffer holds on the columns the
   array has, and what the carried rows hold. -/
module

public import proofs.«01_k».proof.Proof.UpTileFull
public import Idealize.ShloMosaic.Lib.Pipeline.ValueKit
public import Idealize.ShloMosaic.Lib.Pipeline.ReadBack

@[expose] public section

set_option maxRecDepth 16384

noncomputable section

namespace Cert.UpKernelIdeal.Up

open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of a tile, each given by its chunks of rows. -/
def join (X Y : Fin 8 → FVec F S128x512 .bf16) : Vec F S1024x1024 .bf16 := fun y =>
  have h0 : (y 0).val < 1024 := (y 0).isLt
  have h1 : (y 1).val < 1024 := (y 1).isLt
  if h : (y 1).val < 512 then X ⟨(y 0).val / 128, by omega⟩ (ix2 ⟨(y 0).val % 128, by omega⟩ ⟨(y 1).val, h⟩)
  else Y ⟨(y 0).val / 128, by omega⟩ (ix2 ⟨(y 0).val % 128, by omega⟩ ⟨(y 1).val - 512, by omega⟩)

theorem join_left (X Y : Fin 8 → FVec F S128x512 .bf16) (r : Fin 8) (o : Fin 2 → ℕ) (ho : o = ![128 * r.val, 0])
    (inb : ∀ a, o a + S128x512.size a ≤ S1024x1024.size a) (x : (Rect.unit (s := S1024x1024) o S128x512.size inb).shape.Idx) :
    X r x = join X Y ((Rect.unit (s := S1024x1024) o S128x512.size inb).emb x) := by
  subst ho
  have h0 : (x 0).val < 128 := (x 0).isLt
  have h1 : (x 1).val < 512 := (x 1).isLt
  have e0 : ((Rect.unit (s := S1024x1024) ![128 * r.val, 0] S128x512.size inb).emb x 0).val = 128 * r.val + (x 0).val := Rect.idx_unit_val _ _ inb x 0
  have e1 : ((Rect.unit (s := S1024x1024) ![128 * r.val, 0] S128x512.size inb).emb x 1).val = (x 1).val :=
    (Rect.idx_unit_val _ _ inb x 1).trans (Nat.zero_add _)
  unfold join
  rw [dif_pos (by rw [e1]; exact h1)]
  have er : r = ⟨((Rect.unit (s := S1024x1024) ![128 * r.val, 0] S128x512.size inb).emb x 0).val / 128, by rw [e0]; have := r.isLt; omega⟩ :=
    Fin.ext (by show r.val = _ / 128; rw [e0]; omega)
  refine (congrArg (X · x) er).trans (congrArg (X _) (funext fun a => Fin.ext ?_))
  match a with
  | ⟨0, _⟩ => show (x 0).val = _ % 128; rw [e0]; omega
  | ⟨1, _⟩ => exact e1.symm

theorem join_right (X Y : Fin 8 → FVec F S128x512 .bf16) (r : Fin 8) (o : Fin 2 → ℕ) (ho : o = ![128 * r.val, 512])
    (inb : ∀ a, o a + S128x512.size a ≤ S1024x1024.size a) (x : (Rect.unit (s := S1024x1024) o S128x512.size inb).shape.Idx) :
    Y r x = join X Y ((Rect.unit (s := S1024x1024) o S128x512.size inb).emb x) := by
  subst ho
  have h0 : (x 0).val < 128 := (x 0).isLt
  have h1 : (x 1).val < 512 := (x 1).isLt
  have e0 : ((Rect.unit (s := S1024x1024) ![128 * r.val, 512] S128x512.size inb).emb x 0).val = 128 * r.val + (x 0).val := Rect.idx_unit_val _ _ inb x 0
  have e1 : ((Rect.unit (s := S1024x1024) ![128 * r.val, 512] S128x512.size inb).emb x 1).val = 512 + (x 1).val := Rect.idx_unit_val _ _ inb x 1
  unfold join
  rw [dif_neg (by rw [e1]; omega)]
  have er : r = ⟨((Rect.unit (s := S1024x1024) ![128 * r.val, 512] S128x512.size inb).emb x 0).val / 128, by rw [e0]; have := r.isLt; omega⟩ :=
    Fin.ext (by show r.val = _ / 128; rw [e0]; omega)
  refine (congrArg (Y · x) er).trans (congrArg (Y _) (funext fun a => Fin.ext ?_))
  match a with
  | ⟨0, _⟩ => show (x 0).val = _ % 128; rw [e0]; omega
  | ⟨1, _⟩ => show (x 1).val = _ - 512; rw [e1]; omega

/-- The first half's stores are the joined tile's left part. -/
theorem piecesA_join (X Y : Fin 8 → FVec F S128x512 .bf16) (L : List (View.Piece (Elt F) S1024x1024 .bf16))
    (hL : ∀ p ∈ L, ∀ x : p.1.shape.Idx, p.2 x = join X Y (p.1.emb x)) :
    ∀ p ∈ piecesA X L, ∀ x : p.1.shape.Idx, p.2 x = join X Y (p.1.emb x) := by
  unfold piecesA
  simp only [List.forall_mem_cons]
  exact ⟨join_left X Y 7 _ rfl _, join_left X Y 6 _ rfl _, join_left X Y 5 _ rfl _, join_left X Y 4 _ rfl _, join_left X Y 3 _ rfl _,
    join_left X Y 2 _ rfl _, join_left X Y 1 _ rfl _, join_left X Y 0 _ rfl _, hL⟩

/-- The second half's stores are the joined tile's right part. -/
theorem piecesB_join (X Y : Fin 8 → FVec F S128x512 .bf16) (L : List (View.Piece (Elt F) S1024x1024 .bf16))
    (hL : ∀ p ∈ L, ∀ x : p.1.shape.Idx, p.2 x = join X Y (p.1.emb x)) :
    ∀ p ∈ piecesB Y L, ∀ x : p.1.shape.Idx, p.2 x = join X Y (p.1.emb x) := by
  unfold piecesB
  simp only [List.forall_mem_cons]
  exact ⟨join_right X Y 7 _ rfl _, join_right X Y 6 _ rfl _, join_right X Y 5 _ rfl _, join_right X Y 4 _ rfl _, join_right X Y 3 _ rfl _,
    join_right X Y 2 _ rfl _, join_right X Y 1 _ rfl _, join_right X Y 0 _ rfl _, hL⟩

/-- The first half's stores reach every index of the left part. -/
theorem piecesA_cover (X : Fin 8 → FVec F S128x512 .bf16) (L : List (View.Piece (Elt F) S1024x1024 .bf16)) (y : S1024x1024.Idx) (h : (y 1).val < 512) :
    ∃ p ∈ piecesA X L, y ∈ p.1.set := by
  have h0 : (y 0).val < 1024 := (y 0).isLt
  have key : ∀ (o : ℕ) (inb : ∀ a, (![o, 0] : Fin 2 → ℕ) a + S128x512.size a ≤ S1024x1024.size a), o ≤ (y 0).val → (y 0).val < o + 128 →
      y ∈ (Rect.unit (s := S1024x1024) ![o, 0] S128x512.size inb).set := fun o inb h1 h2 => Rect.mem_set_unit.mpr fun a => by
    match a with
    | ⟨0, _⟩ => exact ⟨h1, h2⟩
    | ⟨1, _⟩ => exact ⟨Nat.zero_le _, by show (y 1).val < 0 + 512; omega⟩
  unfold piecesA
  rcases (by omega : 896 ≤ (y 0).val ∨ (768 ≤ (y 0).val ∧ (y 0).val < 896) ∨ (640 ≤ (y 0).val ∧ (y 0).val < 768) ∨ (512 ≤ (y 0).val ∧ (y 0).val < 640)
    ∨ (384 ≤ (y 0).val ∧ (y 0).val < 512) ∨ (256 ≤ (y 0).val ∧ (y 0).val < 384) ∨ (128 ≤ (y 0).val ∧ (y 0).val < 256) ∨ (y 0).val < 128)
    with g | g | g | g | g | g | g | g
  · exact ⟨_, .head _, key 896 inb_S1024x1024_S128x512_896_0 g (by omega)⟩
  · exact ⟨_, .tail _ (.head _), key 768 inb_S1024x1024_S128x512_768_0 g.1 (by omega)⟩
  · exact ⟨_, .tail _ (.tail _ (.head _)), key 640 inb_S1024x1024_S128x512_640_0 g.1 (by omega)⟩
  · exact ⟨_, .tail _ (.tail _ (.tail _ (.head _))), key 512 inb_S1024x1024_S128x512_512_0 g.1 (by omega)⟩
  · exact ⟨_, .tail _ (.tail _ (.tail _ (.tail _ (.head _)))), key 384 inb_S1024x1024_S128x512_384_0 g.1 (by omega)⟩
  · exact ⟨_, .tail _ (.tail _ (.tail _ (.tail _ (.tail _ (.head _))))), key 256 inb_S1024x1024_S128x512_256_0 g.1 (by omega)⟩
  · exact ⟨_, .tail _ (.tail _ (.tail _ (.tail _ (.tail _ (.tail _ (.head _)))))), key 128 inb_S1024x1024_S128x512_128_0 g.1 (by omega)⟩
  · exact ⟨_, .tail _ (.tail _ (.tail _ (.tail _ (.tail _ (.tail _ (.tail _ (.head _))))))), key 0 inb_S1024x1024_S128x512_0_0 (Nat.zero_le _) (by omega)⟩

/-- The carried rows after a tile: row `2 j` is the first half's, row `2 j + 1` the second half's, the others as before. -/
def carried (j : ℕ) (a b : FVec F S1x8x1024 .f32) (k : Vec F S11x8x1024 .f32) : Vec F S11x8x1024 .f32 := fun y =>
  if (y 0).val = 2 * j then a (ix3 0 ⟨(y 1).val, (y 1).isLt⟩ ⟨(y 2).val, (y 2).isLt⟩)
  else if (y 0).val = 2 * j + 1 then b (ix3 0 ⟨(y 1).val, (y 1).isLt⟩ ⟨(y 2).val, (y 2).isLt⟩) else k y

/-- A store of one carried row. -/
theorem read_row (v : View sig .tc .vmem S11x8x1024 .f32) (f : v.ty.Contents (Elt F)) (o : Fin 3 → ℕ) (n : ℕ) (ho : o = ![n, 0, 0])
    (inb : ∀ a, o a + S1x8x1024.size a ≤ S11x8x1024.size a) (w : FVec F S1x8x1024 .f32) (L : List (View.Piece (Elt F) S11x8x1024 .f32)) (y : S11x8x1024.Idx) :
    v.read (Elt F) (v.writes (Elt F) f (⟨Rect.unit (s := S11x8x1024) o S1x8x1024.size inb, w⟩ :: L)) y
      = if (y 0).val = n then w (ix3 0 ⟨(y 1).val, (y 1).isLt⟩ ⟨(y 2).val, (y 2).isLt⟩) else v.read (Elt F) (v.writes (Elt F) f L) y := by
  by_cases h : (y 0).val = n
  · rw [if_pos h]
    refine View.read_writes_cons_unit_of_mem v f inb w L y (ix3 0 ⟨(y 1).val, (y 1).isLt⟩ ⟨(y 2).val, (y 2).isLt⟩) ho fun a => ?_
    match a with
    | ⟨0, _⟩ => exact h
    | ⟨1, _⟩ => exact (Nat.zero_add _).symm
    | ⟨2, _⟩ => exact (Nat.zero_add _).symm
  · rw [if_neg h]
    refine View.read_writes_cons_unit_of_not_mem v f inb w L y ho 0 ?_
    show (y 0).val < n ∨ n + 1 ≤ (y 0).val
    omega

theorem cond4_iff : ∀ i : grid0.Coords, k0_cond4 i = 1#1 ↔ (i 1).val < 5 := by decide +kernel

/-- The second half's chunks of the result, on the columns the array has. -/
def second (i : grid0.Coords) (x6 x7 : Vec F S1x2048x512 .bf16) (x8 : Vec F S1x11x8x1024 .f32) (xk : Vec F S11x8x1024 .f32) (H : Vec F S1024x2048 .bf16) :
    Fin 8 → FVec F S128x512 .bf16 :=
  if h4 : k0_cond4 i = 1#1 then tile (rowsOf H) x6 x7 (coefB i h4 x8) (haloA (halo2 i h4 xk)) (haloB (halo2 i h4 xk))
  else fun _ => truncf .bf16 (constant S128x512 .f32 0x00000000#32) bitsLt_bf16_f32

/-- The result's tile. -/
def out (i : grid0.Coords) (x4 x5 x6 x7 : Vec F S1x2048x512 .bf16) (x8 : Vec F S1x11x8x1024 .f32) (xk : Vec F S11x8x1024 .f32)
    (H : Vec F S1024x2048 .bf16) (halo : Vec F S8x1024 .f32) : Vec F S1024x1024 .bf16 :=
  join (tile (rowsOf H) x4 x5 (coefA i x8) (haloA halo) (haloB halo)) (second i x6 x7 x8 xk H)

/-- What the body leaves in the result's buffer. -/
def Left (i : grid0.Coords) (y9 o : Vec F S1024x1024 .bf16) : Prop := ∀ y : S1024x1024.Idx, (i 1).val < 5 ∨ (y 1).val < 512 → y9 y = o y

set_option maxHeartbeats 1600000 in
/-- The body: it leaves the result's tile, the projected tile's rows, and the carried rows. -/
theorem body (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x11x8x1024 .f32) (harg10 : arg10.IsWhole) (arg11 : Memref sig .tc .vmem S1024x1024 .bf16) (harg11 : arg11.IsWhole) (arg12 : Memref sig .tc .vmem S1024x2048 .bf16) (harg12 : arg12.IsWhole) (arg13 : Memref sig .tc .vmem S8x1024 .f32) (harg13 : arg13.IsWhole) (arg14 : Memref sig .tc .vmem S11x8x1024 .f32) (harg14 : arg14.IsWhole)
    (x0 : Vec F S1024x2048 .f32) (x1 x2 x3 : Vec F S1x1x2048 .f32) (x4 x5 x6 x7 : Vec F S1x2048x512 .bf16) (x8 : Vec F S1x11x8x1024 .f32)
    (xk : Vec F S11x8x1024 .f32) (H : Vec F S1024x2048 .bf16) (halo : Vec F S8x1024 .f32)
    (xh : Vec F S1024x2048 .bf16) (xc : Vec F S8x1024 .f32) (x9 : Vec F S1024x1024 .bf16)
    (hH : FirstCol i → H = k0_pay75 x0 x1 x2 x3) (hH' : ¬ FirstCol i → H = xh)
    (hz : SeqStart i → halo = k0_pay76)
    (hk : ∀ h : k0_cond3 i = 1#1, halo = k0_pay77 (View.ld (Val := Elt F) (show Vec F S11x8x1024 .f32 from xk) (Rect.unit (s := S11x8x1024) (k0_off1 i) S1x8x1024.size (k0_off1_inb i h))))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
          ∗ owns (c : Thread nD τ) arg12 fullShare xh ∗ owns (c : Thread nD τ) arg13 fullShare xc ∗ owns (c : Thread nD τ) arg14 fullShare xk
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ y9, ⌜Left i y9 (out i x4 x5 x6 x7 x8 xk H halo)⌝ ∗ owns (c : Thread nD τ) arg11 fullShare y9)
              ∗ owns (c : Thread nD τ) arg12 fullShare H ∗ (∃ d, owns (c : Thread nD τ) arg13 fullShare d)
              ∗ owns (c : Thread nD τ) arg14 fullShare (carried (i 1).val (handed (rowsOf H 7) x4 x5) (handed (rowsOf H 7) x6 x7) xk)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14) K := by
  by_cases h4 : k0_cond4 i = 1#1
  · iintro ⟨H0, H1, H2, H3, H4, H5, H6, H7, H8, H9, H12, H13, H14, Hk⟩
    iapply ((runFull c i arg2 harg2 arg3 harg3 arg4 harg4 arg5 harg5 arg6 harg6 arg7 harg7 arg8 harg8 arg9 harg9 arg10 harg10 arg11 harg11 arg12 harg12 arg13 harg13 arg14 harg14 h4 x0 x1 x2 x3 x4 x5 x6 x7 x8 xk H halo).2.2 xh xc x9 hH hH' hz hk E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    isplitl [H14]; · iexact H14
    iintro ⟨H0, H1, H2, H3, H4, H5, H6, H7, H8, ⟨%f9, H9⟩, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap
      · unfold owns; iexists _; isplitr; swap; · iexact H9
        ipureintro; rfl
      ipureintro; intro y _
      rw [runFull_out]
      refine View.read_writes_apply_of_pieces _ _ _ _ (fun p hp x => ?_) y ?_
      · have e : second i x6 x7 x8 xk H = tile (rowsOf H) x6 x7 (coefB i h4 x8) (haloA (halo2 i h4 xk)) (haloB (halo2 i h4 xk)) := dif_pos h4
        unfold out; rw [e]
        exact piecesB_join _ _ _ (piecesA_join _ _ _ fun _ hp => absurd hp List.not_mem_nil) p hp x
      · exact View.cover_of_tiledL (s := S1024x1024) _ S128x512.size (by sl_kernel_rfl) y
    isplitl [H12]; · iexact H12
    isplitl [H13]; · iexact H13
    unfold owns; iexists _; isplitr; swap; · iexact H14
    ipureintro; funext y
    rw [runFull_carry, read_row _ _ _ _ (k0_off6_eq i), read_row _ _ _ _ (k0_off3_eq i)]
    unfold carried
    have e : arg14.view.read (Elt F) (arg14.view.writes (Elt F) (harg14.unread xk) []) y = xk y := congrFun (harg14.read_unread xk) y
    rw [e]
    split_ifs with h1 h2 <;> first | rfl | omega
  · iintro ⟨H0, H1, H2, H3, H4, H5, H6, H7, H8, H9, H12, H13, H14, Hk⟩
    iapply ((runLast c i arg2 harg2 arg3 harg3 arg4 harg4 arg5 harg5 arg6 harg6 arg7 harg7 arg8 harg8 arg9 harg9 arg10 harg10 arg11 harg11 arg12 harg12 arg13 harg13 arg14 harg14 h4 x0 x1 x2 x3 x4 x5 x6 x7 x8 xk H halo).2.2 xh xc x9 hH hH' hz hk E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    isplitl [H14]; · iexact H14
    iintro ⟨H0, H1, H2, H3, H4, H5, H6, H7, H8, ⟨%f9, H9⟩, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap
      · unfold owns; iexists _; isplitr; swap; · iexact H9
        ipureintro; rfl
      ipureintro; intro y hy
      rw [runLast_out]
      have hy' : (y 1).val < 512 := hy.resolve_left fun h => h4 ((cond4_iff i).mpr h)
      exact View.read_writes_apply_of_pieces _ _ _ _ (piecesA_join _ _ _ fun _ hp => absurd hp List.not_mem_nil) y (piecesA_cover _ _ y hy')
    isplitl [H12]; · iexact H12
    isplitl [H13]; · iexact H13
    unfold owns; iexists _; isplitr; swap; · iexact H14
    ipureintro; funext y
    rw [runLast_carry, read_row _ _ _ _ (k0_off3_eq i)]
    unfold carried
    have e : arg14.view.read (Elt F) (arg14.view.writes (Elt F) (harg14.unread xk) []) y = xk y := congrFun (harg14.read_unread xk) y
    have h5 : ¬ (i 1).val < 5 := fun h => h4 ((cond4_iff i).mpr h)
    have h11 : (y 0).val < 11 := (y 0).isLt
    rw [e]
    split_ifs with h1 h2 <;> first | rfl | omega

end Cert.UpKernelIdeal.Up

end
-- ==== Proof.UpFrame.lean ====
/- The up-projection kernel's run, over any values: what the buffers carried from point to point hold (the projected tile's rows, and per
   column half the rows handed to the next tile), the body's obligation at every point, and the whole run. -/
module

public import proofs.«01_k».proof.Proof.UpBody
public import Idealize.ShloMosaic.Lib.Claim

@[expose] public section

set_option maxRecDepth 16384

noncomputable section

namespace Cert.UpKernelIdeal.Up

open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coords_tile : ∀ t : Fin cfg0.N, (grid0.coords t 0).val = t.val / 6 := by decide +kernel
theorem coords_col : ∀ t : Fin cfg0.N, (grid0.coords t 1).val = t.val % 6 := by decide +kernel
theorem firstCol_iff : ∀ i : grid0.Coords, FirstCol i ↔ (i 1).val = 0 := by decide +kernel
theorem cond3_iff : ∀ i : grid0.Coords, k0_cond3 i = 1#1 ↔ (i 0).val % 2 = 1 := by decide +kernel
theorem cond6_iff : ∀ i : grid0.Coords, k0_cond6 i = 1#1 ↔ (i 0).val % 2 = 1 := by decide +kernel

theorem lt_N (t : Fin cfg0.N) : t.val < 192 := Nat.lt_of_lt_of_eq t.isLt N_0

/-- The first point of a point's row tile. -/
def start (t : Fin cfg0.N) : Fin cfg0.N := ⟨6 * (t.val / 6), by have := t.isLt; omega⟩

/-- The same column block's point in the row tile before. -/
def prev (t : Fin cfg0.N) : Fin cfg0.N := ⟨t.val - 6, by have := t.isLt; omega⟩

/-- The row tile's normalised rows. -/
def rowsAt (c : Dev nD) (t : Fin cfg0.N) : Vec F S1024x2048 .bf16 :=
  k0_pay75 (iblk m c 0 (start t)) (iblk m c 1 (start t)) (iblk m c 2 (start t)) (iblk m c 3 (start t))

theorem start_congr (t u : Fin cfg0.N) (h : t.val / 6 = u.val / 6) : start t = start u := Fin.ext (by show 6 * _ = 6 * _; rw [h])

theorem start_self (t : Fin cfg0.N) (h : t.val % 6 = 0) : start t = t := Fin.ext (by show 6 * (t.val / 6) = t.val; omega)

/-- The rows the first column half hands over at a point. -/
def handA (c : Dev nD) (t : Fin cfg0.N) : FVec F S1x8x1024 .f32 := handed (rowsOf (rowsAt m c t) 7) (iblk m c 4 t) (iblk m c 5 t)

/-- The rows the second column half hands over at a point. -/
def handB (c : Dev nD) (t : Fin cfg0.N) : FVec F S1x8x1024 .f32 := handed (rowsOf (rowsAt m c t) 7) (iblk m c 6 t) (iblk m c 7 t)

/-- The rows before the tile, in the first column half. -/
def haloAt1 (c : Dev nD) (t : Fin cfg0.N) : Vec F S8x1024 .f32 :=
  if t.val / 6 % 2 = 1 then k0_pay77 (handA m c (prev t)) else k0_pay76

/-- The rows before the tile, in the second column half. -/
def haloAt2 (c : Dev nD) (t : Fin cfg0.N) : Vec F S8x1024 .f32 :=
  if t.val / 6 % 2 = 1 then k0_pay3 (handB m c (prev t)) else k0_pay2

/-- The result's chunks in the first column half. -/
def tileAt1 (c : Dev nD) (t : Fin cfg0.N) : Fin 8 → FVec F S128x512 .bf16 :=
  tile (rowsOf (rowsAt m c t)) (iblk m c 4 t) (iblk m c 5 t) (coefA (grid0.coords t) (iblk m c 8 t)) (haloA (haloAt1 m c t)) (haloB (haloAt1 m c t))

/-- The result's chunks in the second column half, where the array has it. -/
def tileAt2 (c : Dev nD) (t : Fin cfg0.N) : Fin 8 → FVec F S128x512 .bf16 :=
  if h4 : k0_cond4 (grid0.coords t) = 1#1 then
    tile (rowsOf (rowsAt m c t)) (iblk m c 6 t) (iblk m c 7 t) (coefB (grid0.coords t) h4 (iblk m c 8 t)) (haloA (haloAt2 m c t)) (haloB (haloAt2 m c t))
  else fun _ => truncf .bf16 (constant S128x512 .f32 0x00000000#32) bitsLt_bf16_f32

/-- The result's tile at a point. -/
def outAt (c : Dev nD) (t : Fin cfg0.N) : Vec F S1024x1024 .bf16 := join (tileAt1 m c t) (tileAt2 m c t)

/-- Before point `n`: inside a row tile the rows' buffer holds the tile's rows, and the carried rows are those that the last six points handed over. -/
structure Inv (c : Dev nD) (n : ℕ) (hb : Vec F S1024x2048 .bf16) (cb : Vec F S11x8x1024 .f32) : Prop where
  rows : ∀ t : Fin cfg0.N, t.val / 6 = n / 6 → n % 6 ≠ 0 → hb = rowsAt m c t
  left : ∀ t : Fin cfg0.N, t.val < n → n ≤ t.val + 6 → ∀ y : S11x8x1024.Idx, (y 0).val = 2 * (t.val % 6) →
    cb y = handA m c t (ix3 0 ⟨(y 1).val, (y 1).isLt⟩ ⟨(y 2).val, (y 2).isLt⟩)
  right : ∀ t : Fin cfg0.N, t.val < n → n ≤ t.val + 6 → ∀ y : S11x8x1024.Idx, (y 0).val = 2 * (t.val % 6) + 1 →
    cb y = handB m c t (ix3 0 ⟨(y 1).val, (y 1).isLt⟩ ⟨(y 2).val, (y 2).isLt⟩)

theorem Inv.zero (c : Dev nD) (hb : Vec F S1024x2048 .bf16) (cb : Vec F S11x8x1024 .f32) : Inv m c 0 hb cb :=
  ⟨fun _ _ h => absurd rfl h, fun _ h => absurd h (Nat.not_lt_zero _), fun _ h => absurd h (Nat.not_lt_zero _)⟩

/-- A point keeps the invariant. -/
theorem Inv.step {c : Dev nD} (t : Fin cfg0.N) {hb : Vec F S1024x2048 .bf16} {cb : Vec F S11x8x1024 .f32} (h : Inv m c t.val hb cb) :
    Inv m c (t.val + 1) (rowsAt m c t) (carried (t.val % 6) (handA m c t) (handB m c t) cb) := by
  refine ⟨fun u hu hn => ?_, fun u h1 h2 y hy => ?_, fun u h1 h2 y hy => ?_⟩
  · unfold rowsAt
    rw [start_congr t u (by omega)]
  · unfold carried
    by_cases e : u.val = t.val
    · obtain rfl : u = t := Fin.ext e
      rw [if_pos hy]
    · rw [if_neg (by omega), if_neg (by omega)]
      exact h.left u (by omega) (by omega) y hy
  · unfold carried
    by_cases e : u.val = t.val
    · obtain rfl : u = t := Fin.ext e
      rw [if_neg (by omega), if_pos hy]
    · rw [if_neg (by omega), if_neg (by omega)]
      exact h.right u (by omega) (by omega) y hy

/-- A carried row read through its window. -/
theorem ld_row (cb : Vec F S11x8x1024 .f32) (o : Fin 3 → ℕ) (n : ℕ) (ho : o = ![n, 0, 0]) (inb : ∀ a, o a + S1x8x1024.size a ≤ S11x8x1024.size a)
    (w : FVec F S1x8x1024 .f32)
    (h : ∀ y : S11x8x1024.Idx, (y 0).val = n → cb y = w (ix3 0 ⟨(y 1).val, (y 1).isLt⟩ ⟨(y 2).val, (y 2).isLt⟩)) :
    View.ld (Val := Elt F) (show Vec F S11x8x1024 .f32 from cb) (Rect.unit (s := S11x8x1024) o S1x8x1024.size inb) = w := by
  subst ho
  funext x
  have hn : n < 11 := by have := inb 0; change n + 1 ≤ 11 at this; omega
  have h0 : (x 0).val < 1 := (x 0).isLt
  have e := View.ld_unit_apply_of (Val := Elt F) (e := .f32) (S := S11x8x1024) cb ![n, 0, 0] S1x8x1024.size inb x
    (ix3 ⟨n, hn⟩ ⟨(x 1).val, (x 1).isLt⟩ ⟨(x 2).val, (x 2).isLt⟩) (fun a => by
      match a with
      | ⟨0, _⟩ => show n = n + (x 0).val; omega
      | ⟨1, _⟩ => exact (Nat.zero_add _).symm
      | ⟨2, _⟩ => exact (Nat.zero_add _).symm)
  refine e.trans ((h _ rfl).trans (congrArg w (funext fun a => Fin.ext ?_)))
  match a with
  | ⟨0, _⟩ => show 0 = (x 0).val; omega
  | ⟨1, _⟩ => rfl
  | ⟨2, _⟩ => rfl

/-- The invariant gives the rows before the tile, first half. -/
theorem Inv.halo1 {c : Dev nD} (t : Fin cfg0.N) {hb : Vec F S1024x2048 .bf16} {cb : Vec F S11x8x1024 .f32} (h : Inv m c t.val hb cb)
    (h3 : k0_cond3 (grid0.coords t) = 1#1) :
    haloAt1 m c t = k0_pay77 (View.ld (Val := Elt F) (show Vec F S11x8x1024 .f32 from cb)
      (Rect.unit (s := S11x8x1024) (k0_off1 (grid0.coords t)) S1x8x1024.size (k0_off1_inb (grid0.coords t) h3))) := by
  have hp := (cond3_iff _).mp h3
  rw [coords_tile] at hp
  unfold haloAt1
  rw [if_pos hp]
  refine congrArg k0_pay77 (ld_row cb _ _ (k0_off1_eq _) _ _ fun y hy => ?_).symm
  rw [coords_col] at hy
  have e : (prev t).val = t.val - 6 := rfl
  exact h.left (prev t) (by omega) (by omega) y (by omega)

/-- The invariant gives the rows before the tile, second half. -/
theorem Inv.halo2 {c : Dev nD} (t : Fin cfg0.N) {hb : Vec F S1024x2048 .bf16} {cb : Vec F S11x8x1024 .f32} (h : Inv m c t.val hb cb)
    (h4 : k0_cond4 (grid0.coords t) = 1#1) : Up.halo2 (grid0.coords t) h4 cb = haloAt2 m c t := by
  unfold Up.halo2 haloAt2
  by_cases h6 : k0_cond6 (grid0.coords t) = 1#1
  · have hp := (cond6_iff _).mp h6
    rw [coords_tile] at hp
    rw [dif_pos h6, if_pos hp]
    refine congrArg k0_pay3 (ld_row cb _ _ (k0_off4_eq _ ) _ _ fun y hy => ?_)
    rw [coords_col] at hy
    have e : (prev t).val = t.val - 6 := rfl
    exact h.right (prev t) (by omega) (by omega) y (by omega)
  · have hp := (not_congr (cond6_iff _)).mp h6
    rw [coords_tile] at hp
    rw [dif_neg h6, if_neg hp]

/-- The invariant gives the second half's chunks. -/
theorem Inv.second {c : Dev nD} (t : Fin cfg0.N) {hb : Vec F S1024x2048 .bf16} {cb : Vec F S11x8x1024 .f32} (h : Inv m c t.val hb cb) :
    Up.second (grid0.coords t) (iblk m c 6 t) (iblk m c 7 t) (iblk m c 8 t) cb (rowsAt m c t) = tileAt2 m c t := by
  unfold Up.second tileAt2
  by_cases h4 : k0_cond4 (grid0.coords t) = 1#1
  · rw [dif_pos h4, dif_pos h4, h.halo2 m t h4]
  · rw [dif_neg h4, dif_neg h4]

/-! ## The pipeline's proof data -/

abbrev sc0 : Memref sig .tc .vmem S1024x2048 .bf16 := Memref.whole cc0_scratch0
abbrev sc1 : Memref sig .tc .vmem S8x1024 .f32 := Memref.whole cc0_scratch1
abbrev sc2 : Memref sig .tc .vmem S11x8x1024 .f32 := Memref.whole cc0_scratch2

/-- What is held of the scratch buffers before point `n`. -/
def Held (c : Dev nD) (n : ℕ) : sProp 𝕄 :=
  iprop(∃ hb cb, ⌜Inv m c n hb cb⌝ ∗ owns (c : Thread nD τ) sc0 fullShare hb ∗ (∃ d, owns (c : Thread nD τ) sc1 fullShare d)
    ∗ owns (c : Thread nD τ) sc2 fullShare cb ∗ (∃ r, prngReg c r))

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d))
          ∗ (∃ r, prngReg c r)) := by
  unfold Pipeline.ΦA; rw [scopedRest0_eq]; simp only [sc0, sc1, sc2, owns_whole]; try rfl

/-- The proof data: every input's buffer keeps its block, the result's buffer holds the tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Held m c t.val
  q w := Pipeline.shareOf spec0 w
  owed _ := 0

theorem A_eq (c : Dev nD) (w : Fin cfg0.W) : (dats m 0 c).A w = V m c (Pipeline.arrRef spec0 w) := by
  dsimp only [dats]

abbrev ms0_0 (t : Fin cfg0.N) : Memref sig .tc .vmem S1024x2048 .f32 := win0_0.stage (cfg0.slots t 0)
abbrev ms0_1 (t : Fin cfg0.N) : Memref sig .tc .vmem S1x1x2048 .f32 := win0_1.stage (cfg0.slots t 1)
abbrev ms0_2 (t : Fin cfg0.N) : Memref sig .tc .vmem S1x1x2048 .f32 := win0_2.stage (cfg0.slots t 2)
abbrev ms0_3 (t : Fin cfg0.N) : Memref sig .tc .vmem S1x1x2048 .f32 := win0_3.stage (cfg0.slots t 3)
abbrev ms0_4 (t : Fin cfg0.N) : Memref sig .tc .vmem S1x2048x512 .bf16 := win0_4.stage (cfg0.slots t 4)
abbrev ms0_5 (t : Fin cfg0.N) : Memref sig .tc .vmem S1x2048x512 .bf16 := win0_5.stage (cfg0.slots t 5)
abbrev ms0_6 (t : Fin cfg0.N) : Memref sig .tc .vmem S1x2048x512 .bf16 := win0_6.stage (cfg0.slots t 6)
abbrev ms0_7 (t : Fin cfg0.N) : Memref sig .tc .vmem S1x2048x512 .bf16 := win0_7.stage (cfg0.slots t 7)
abbrev ms0_8 (t : Fin cfg0.N) : Memref sig .tc .vmem S1x11x8x1024 .f32 := win0_8.stage (cfg0.slots t 8)
abbrev ms0_9 (t : Fin cfg0.N) : Memref sig .tc .vmem S1024x1024 .bf16 := win0_9.stage (cfg0.slots t 9)

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem after0_9 (c : Dev nD) (t : Fin cfg0.N) : (dats m 0 c).after 9 t = outAt m c t := by dsimp only [dats]

/-- The columns the array has of a tile. -/
theorem cut_col : ∀ (t : Fin cfg0.N) (n : ℕ), n < (cfg0.win 9).xsize (grid0.coords t) 1 → (grid0.coords t 1).val < 5 ∨ n < 512 := by
  have h : ∀ t : Fin cfg0.N, (grid0.coords t 1).val < 5 ∨ (cfg0.win 9).xsize (grid0.coords t) 1 = 512 := by decide +kernel
  intro t n hn
  rcases h t with h | h
  · exact .inl h
  · exact .inr (h ▸ hn)

/-- The tile as far as the array has it. -/
theorem cut_eq (t : Fin cfg0.N) (y9 o : Vec F S1024x1024 .bf16) (h : Left (grid0.coords t) y9 o) :
    (cfg0.win 9).cut (grid0.coords t) y9 = (cfg0.win 9).cut (grid0.coords t) o := by
  funext j
  refine h _ ?_
  have hj : (j 1).val < (cfg0.win 9).xsize (grid0.coords t) 1 := (j 1).isLt
  exact cut_col t (j 1).val hj

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare ((cfg0.win 9).fill (cfg0.grid.coords t) d ((cfg0.win 9).cut (cfg0.grid.coords t) ((dats m 0 c).after 9 t)))))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Held m c (t.val + 1) from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Held m c t.val from rfl]
  unfold Held
  iintro ⟨⟨%hb, %cb, %hI, HS0, ⟨%xc, HS1⟩, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e4 : handed (rowsOf (rowsAt m c t) 7) (iblk m c 4 t) (iblk m c 5 t) = handA m c t := rfl
  have e6 : handed (rowsOf (rowsAt m c t) 7) (iblk m c 6 t) (iblk m c 7 t) = handB m c t := rfl
  have eo : out (grid0.coords t) (iblk m c 4 t) (iblk m c 5 t) (iblk m c 6 t) (iblk m c 7 t) (iblk m c 8 t) cb (rowsAt m c t) (haloAt1 m c t) = outAt m c t := by
    unfold out outAt tileAt1
    rw [hI.second m t]
  have hrow1 : FirstCol (grid0.coords t) → rowsAt m c t = k0_pay75 (iblk m c 0 t) (iblk m c 1 t) (iblk m c 2 t) (iblk m c 3 t) := fun h => by
    have h' := (firstCol_iff _).mp h
    rw [coords_col] at h'
    unfold rowsAt; rw [start_self t h']
  have hrow2 : ¬ FirstCol (grid0.coords t) → rowsAt m c t = hb := fun h => by
    have h' := (not_congr (firstCol_iff _)).mp h
    rw [coords_col] at h'
    exact (hI.rows t rfl h').symm
  have hz : SeqStart (grid0.coords t) → haloAt1 m c t = k0_pay76 := fun h => by
    have h3 : ¬ k0_cond3 (grid0.coords t) = 1#1 := (seqStart_or (grid0.coords t)).elim (fun g => g.2) (fun g => absurd h g.1)
    have h' := (not_congr (cond3_iff _)).mp h3
    rw [coords_tile] at h'
    unfold haloAt1; rw [if_neg h']
  iapply (body c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)
    cb (rowsAt m c t) (haloAt1 m c t) hb xc _ hrow1 hrow2 hz (fun h => hI.halo1 m t h) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  rw [e4, e6, eo, coords_col]
  iintro ⟨H0, H1, H2, H3, H4, H5, H6, H7, H8, ⟨%y9, %hy9, H9⟩, HS0, HS1, HS2⟩
  isplitl [HS0 HS1 HS2 Hg]
  · iexists _; iexists _; isplitr
    swap
    · isplitl [HS0]; · iexact HS0
      isplitl [HS1]; · iexact HS1
      isplitl [HS2]; · iexact HS2
      iexact Hg
    ipureintro; exact hI.step m t
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists y9
  rw [(cfg0.win 9).fill_congr_cut (cfg0.grid.coords t) (cut_eq t y9 _ hy9)]
  iexact H9

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [show (dats m 0 c).Φ 0 = Held m c 0 from rfl, PhiA0_eq]
  unfold Held
  iintro ⟨⟨⟨%d0, H0⟩, H1, ⟨%d2, H2⟩⟩, Hg⟩
  iexists d0; iexists d2
  isplitr; · ipureintro; exact Inv.zero m c d0 d2
  isplitl [H0]; · iexact H0
  isplitl [H1]; · iexact H1
  isplitl [H2]; · iexact H2
  iexact Hg

theorem Phi_out (c : Dev nD) : (dats m 0 c).Φ (Fin.last cfg0.N) ⊢ (Pipeline.ΦA spec0 c : sProp 𝕄) := by
  rw [show (dats m 0 c).Φ (Fin.last cfg0.N) = Held m c (Fin.last cfg0.N).val from rfl, PhiA0_eq]
  unfold Held
  iintro ⟨%hb, %cb, -, H0, H1, H2, Hg⟩
  isplitl [H0 H1 H2]
  · isplitl [H0]; · iexists hb; iexact H0
    isplitl [H1]; · iexact H1
    iexists cb; iexact H2
  iexact Hg

set_option backward.isDefEq.respectTransparency.types false in
/-- The whole run. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- Every argument keeps its contents, and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.UpKernelIdeal.Up

end
-- ==== Proof.UpChunk.lean ====
/- The up-projection's chunk of 128 rows at a position: the product as a sum, the shifted rows, the convolution and the gate. -/
module

public import proofs.«01_k».proof.Proof.UpTile
public import Idealize.ShloMosaic.Lib.Pointwise
public import Idealize.ShloMosaic.Lib.Pipeline.ValueKit

@[expose] public section

set_option maxRecDepth 16384

noncomputable section

namespace Cert.UpKernelIdeal.Up

open Cert.UpKernelIdeal Cert.UpKernelIdeal.Gen
open Idealize.ShloMosaic Idealize.ShloMosaic.TcCoe Idealize.SL.Sem

theorem prod_at (hr : FVec Ideal S128x2048 .bf16) (w : FVec Ideal S1x2048x512 .bf16) (q : Fin 128) (n : Fin 512) :
    prod (F := Ideal) hr w (ix2 q n) = ∑ k : Fin 2048, hr (ix2 q k) * w (ix3 0 k n) := by
  pointwise [prod]

theorem tailRows_at (u : FVec Ideal S128x512 .f32) (e : Fin 8) (n : Fin 512) :
    tailRows (F := Ideal) u (ix2 e n) = u (ix2 ⟨120 + e, by omega⟩ n) := by
  pointwise [tailRows]

theorem lt_two (e : Fin 128) : IntOp.cmpi .slt (BitVec.ofNat 32 e) 2#32 = if (e : ℕ) < 2 then 1#1 else 0#1 := by revert e; decide
theorem lt_one (e : Fin 128) : IntOp.cmpi .slt (BitVec.ofNat 32 e) 1#32 = if (e : ℕ) < 1 then 1#1 else 0#1 := by revert e; decide

/-- The rows moved down by two, where `f` lists the eight rows before the chunk and then the chunk's rows. -/
theorem shifted_two (u : FVec Ideal S128x512 .f32) (p : FVec Ideal S8x512 .f32) (n : Fin 512) (f : ℕ → EReal)
    (hu : ∀ q : Fin 128, u (ix2 q n) = f (8 + q)) (hp : ∀ e : Fin 8, p (ix2 e n) = f e) (q : Fin 128) :
    shifted (F := Ideal) 2#32 u p (ix2 q n) = f (6 + q) := by
  have hq := q.isLt
  pointwise [shifted]
  rw [lt_two]
  by_cases h : (q : ℕ) < 8
  · rw [dif_pos h]
    by_cases k : (q : ℕ) < 2
    · rw [if_pos k]
      exact (hp _).trans (congrArg f (by show ((q : ℕ) + 8 - 2) % 8 = 6 + q; omega))
    · rw [if_neg k]
      exact (hu _).trans (congrArg f (by show 8 + ((q : ℕ) + 128 - 2) % 128 = 6 + q; omega))
  · rw [dif_neg h]
    exact (hu _).trans (congrArg f (by show 8 + (8 + ((q : ℕ) - 8) + 128 - 2) % 128 = 6 + q; omega))

/-- The rows moved down by one. -/
theorem shifted_one (u : FVec Ideal S128x512 .f32) (p : FVec Ideal S8x512 .f32) (n : Fin 512) (f : ℕ → EReal)
    (hu : ∀ q : Fin 128, u (ix2 q n) = f (8 + q)) (hp : ∀ e : Fin 8, p (ix2 e n) = f e) (q : Fin 128) :
    shifted (F := Ideal) 1#32 u p (ix2 q n) = f (7 + q) := by
  have hq := q.isLt
  pointwise [shifted]
  rw [lt_one]
  by_cases h : (q : ℕ) < 8
  · rw [dif_pos h]
    by_cases k : (q : ℕ) < 1
    · rw [if_pos k]
      exact (hp _).trans (congrArg f (by show ((q : ℕ) + 8 - 1) % 8 = 7 + q; omega))
    · rw [if_neg k]
      exact (hu _).trans (congrArg f (by show 8 + ((q : ℕ) + 128 - 1) % 128 = 7 + q; omega))
  · rw [dif_neg h]
    exact (hu _).trans (congrArg f (by show 8 + (8 + ((q : ℕ) - 8) + 128 - 1) % 128 = 7 + q; omega))

/-- The convolution at a position: bias, and three rows weighted. -/
def convolved (w : Fin 3 → EReal) (b : EReal) (f : ℕ → EReal) (q : ℕ) : EReal :=
  b + ((w 0 * f (6 + q) + w 1 * f (7 + q)) + w 2 * f (8 + q))

theorem conv_at (c0 c1 c2 c3 : FVec Ideal S1x512 .f32) (u : FVec Ideal S128x512 .f32) (p : FVec Ideal S8x512 .f32) (n : Fin 512) (f : ℕ → EReal)
    (hu : ∀ q : Fin 128, u (ix2 q n) = f (8 + q)) (hp : ∀ e : Fin 8, p (ix2 e n) = f e) (q : Fin 128) :
    conv (F := Ideal) c0 c1 c2 c3 u p (ix2 q n) = c3 (ix2 0 n) + ((c0 (ix2 0 n) * f (6 + q) + c1 (ix2 0 n) * f (7 + q)) + c2 (ix2 0 n) * f (8 + q)) := by
  pointwise [conv]
  rw [shifted_two u p n f hu hp, shifted_one u p n f hu hp, hu]

theorem convA_at (cp : FVec Ideal S8x1024 .f32) (u : FVec Ideal S128x512 .f32) (p : FVec Ideal S8x512 .f32) (n : Fin 512) (f : ℕ → EReal)
    (w : Fin 3 → EReal) (b : EReal) (h0 : cp (ix2 0 ⟨n, by omega⟩) = w 0) (h1 : cp (ix2 1 ⟨n, by omega⟩) = w 1) (h2 : cp (ix2 2 ⟨n, by omega⟩) = w 2) (h3 : cp (ix2 3 ⟨n, by omega⟩) = b)
    (hu : ∀ q : Fin 128, u (ix2 q n) = f (8 + q)) (hp : ∀ e : Fin 8, p (ix2 e n) = f e) (q : Fin 128) :
    convA (F := Ideal) cp u p (ix2 q n) = convolved w b f q := by
  unfold convA
  rw [conv_at _ _ _ _ u p n f hu hp, convolved, ← h0, ← h1, ← h2, ← h3]
  pointwise []

theorem convB_at (cp : FVec Ideal S8x1024 .f32) (u : FVec Ideal S128x512 .f32) (p : FVec Ideal S8x512 .f32) (n : Fin 512) (f : ℕ → EReal)
    (w : Fin 3 → EReal) (b : EReal) (h0 : cp (ix2 0 ⟨512 + n, by omega⟩) = w 0) (h1 : cp (ix2 1 ⟨512 + n, by omega⟩) = w 1) (h2 : cp (ix2 2 ⟨512 + n, by omega⟩) = w 2) (h3 : cp (ix2 3 ⟨512 + n, by omega⟩) = b)
    (hu : ∀ q : Fin 128, u (ix2 q n) = f (8 + q)) (hp : ∀ e : Fin 8, p (ix2 e n) = f e) (q : Fin 128) :
    convB (F := Ideal) cp u p (ix2 q n) = convolved w b f q := by
  unfold convB
  rw [conv_at _ _ _ _ u p n f hu hp, convolved, ← h0, ← h1, ← h2, ← h3]
  pointwise []

/-- The gate at a position. -/
def gated (a b : EReal) : EReal := a * Ideal.logistic a * b

theorem gate_at (a b : FVec Ideal S128x512 .f32) (q : Fin 128) (n : Fin 512) : gate (F := Ideal) a b (ix2 q n) = gated (a (ix2 q n)) (b (ix2 q n)) := by
  pointwise [gate, gated]

/-- The eight rows before a chunk, where `f` lists the eight rows before the tile and then the tile's rows. -/
theorem before_at (u : Fin 8 → FVec Ideal S128x512 .f32) (p : FVec Ideal S8x512 .f32) (n : Fin 512) (f : ℕ → EReal)
    (hu : ∀ (k : Fin 8) (q : Fin 128), u k (ix2 q n) = f (8 + 128 * k + q)) (hp : ∀ e : Fin 8, p (ix2 e n) = f e) (r e : Fin 8) :
    before (F := Ideal) u p r (ix2 e n) = f (128 * r + e) := by
  match r with
  | ⟨0, _⟩ => exact (hp e).trans (congrArg f (by show (e : ℕ) = 128 * 0 + e; omega))
  | ⟨k + 1, h⟩ =>
    show tailRows (u ⟨k, _⟩) (ix2 e n) = _
    rw [tailRows_at, hu]
    exact congrArg f (by show 8 + 128 * k + (120 + (e : ℕ)) = 128 * (k + 1) + e; omega)

/-- The result's chunk at a position. -/
theorem tile_at (hr : Fin 8 → FVec Ideal S128x2048 .bf16) (wa wb : FVec Ideal S1x2048x512 .bf16) (cp : FVec Ideal S8x1024 .f32)
    (pa pb : FVec Ideal S8x512 .f32) (n : Fin 512) (f g : ℕ → EReal) (w v : Fin 3 → EReal) (b d : EReal)
    (h0 : cp (ix2 0 ⟨n, by omega⟩) = w 0) (h1 : cp (ix2 1 ⟨n, by omega⟩) = w 1) (h2 : cp (ix2 2 ⟨n, by omega⟩) = w 2) (h3 : cp (ix2 3 ⟨n, by omega⟩) = b)
    (k0 : cp (ix2 0 ⟨512 + n, by omega⟩) = v 0) (k1 : cp (ix2 1 ⟨512 + n, by omega⟩) = v 1) (k2 : cp (ix2 2 ⟨512 + n, by omega⟩) = v 2) (k3 : cp (ix2 3 ⟨512 + n, by omega⟩) = d)
    (hf : ∀ (r : Fin 8) (q : Fin 128), prod (F := Ideal) (hr r) wa (ix2 q n) = f (8 + 128 * r + q))
    (hg : ∀ (r : Fin 8) (q : Fin 128), prod (F := Ideal) (hr r) wb (ix2 q n) = g (8 + 128 * r + q))
    (hpa : ∀ e : Fin 8, pa (ix2 e n) = f e) (hpb : ∀ e : Fin 8, pb (ix2 e n) = g e) (r : Fin 8) (q : Fin 128) :
    tile (F := Ideal) hr wa wb cp pa pb r (ix2 q n) = gated (convolved w b f (128 * r + q)) (convolved v d g (128 * r + q)) := by
  unfold tile
  rw [gate_at, convA_at cp _ _ n (fun i => f (128 * r + i)) w b h0 h1 h2 h3
      (fun q => (hf r q).trans (congrArg f (by omega))) (fun e => before_at _ _ n f hf hpa r e),
    convB_at cp _ _ n (fun i => g (128 * r + i)) v d k0 k1 k2 k3
      (fun q => (hg r q).trans (congrArg g (by omega))) (fun e => before_at _ _ n g hg hpb r e)]
  have e : ∀ c : ℕ, 128 * (r : ℕ) + (c + q) = c + (128 * r + q) := fun c => by omega
  unfold convolved
  simp only [e]

/-- The rows handed on, at a position. -/
theorem handed_at (hr : FVec Ideal S128x2048 .bf16) (wa wb : FVec Ideal S1x2048x512 .bf16) (e : Fin 8) (n : Fin 512) :
    handed (F := Ideal) hr wa wb (ix3 0 e ⟨n, by omega⟩) = prod hr wa (ix2 ⟨120 + e, by omega⟩ n)
    ∧ handed (F := Ideal) hr wa wb (ix3 0 e ⟨512 + n, by omega⟩) = prod hr wb (ix2 ⟨120 + e, by omega⟩ n) := by
  constructor
  · pointwise [handed]
    rw [tailRows_at]
  · pointwise [handed]
    rw [tailRows_at]

end Cert.UpKernelIdeal.Up

end
-- ==== Proof.UpReads.lean ====
/- What the up-projection's blocks hold at a grid point, in terms of the call's arguments. -/
module

public import proofs.«01_k».proof.Proof.UpChunk
public import proofs.«01_k».proof.Proof.UpFrame
public import proofs.«01_k».proof.Proof.UpRef

@[expose] public section

set_option maxRecDepth 16384

noncomputable section

namespace Cert.UpKernelIdeal.Up

open Cert.UpKernelIdeal Cert.UpKernelIdeal.Gen
open Idealize.ShloMosaic Idealize.ShloMosaic.TcCoe Idealize.SL.Sem
open Cert.UpReferenceIdeal.Up (normed rows projected column column_row column_zero)

variable (m : (ℓ : Loc nD τ sig) → Buf (Elt Ideal) ℓ)

/-- Where each window's block sits at grid point `t`, for all points at once. -/
theorem idx : ∀ t : Fin cfg0.N, win0_0.index t = ![t.val / 6, 0] ∧ win0_1.index t = ![0, 0, 0] ∧ win0_2.index t = ![t.val / 12, 0, 0]
    ∧ win0_3.index t = ![t.val / 12, 0, 0] ∧ win0_4.index t = ![0, 0, min (2 * (t.val % 6)) 10] ∧ win0_5.index t = ![0, 0, 11 + min (2 * (t.val % 6)) 10]
    ∧ win0_6.index t = ![0, 0, min (2 * (t.val % 6) + 1) 10] ∧ win0_7.index t = ![0, 0, 11 + min (2 * (t.val % 6) + 1) 10]
    ∧ win0_8.index t = ![0, 0, 0, 0] ∧ win0_9.index t = ![t.val / 6, t.val % 6] :=
  (by decide +kernel : ∀ t : Fin grid0.N, _)

abbrev A0 (c : Dev nD) : FVec Ideal S16x2048x2048 .f32 := m ((c : Thread nD τ).loc main_arg0)
abbrev A1 (c : Dev nD) : FVec Ideal S4x2048 .f32 := m ((c : Thread nD τ).loc main_arg1)
abbrev A2 (c : Dev nD) : FVec Ideal S16x1x2048 .f32 := m ((c : Thread nD τ).loc main_arg2)
abbrev A3 (c : Dev nD) : FVec Ideal S16x1x2048 .f32 := m ((c : Thread nD τ).loc main_arg3)
abbrev A4 (c : Dev nD) : FVec Ideal S4x2048x11264 .f32 := m ((c : Thread nD τ).loc main_arg4)
abbrev A5 (c : Dev nD) : FVec Ideal S4x3x11264 .f32 := m ((c : Thread nD τ).loc main_arg5)
abbrev A6 (c : Dev nD) : FVec Ideal S4x11264 .f32 := m ((c : Thread nD τ).loc main_arg6)

/-- The convolution's weights and bias in blocks of 512 columns, the two halves side by side, eight rows of which four are used. -/
def packed (CW : FVec Ideal S4x3x11264 .f32) (CB : FVec Ideal S4x11264 .f32) : FVec Ideal S4x11x8x1024 .f32 :=
  shapeCast _ (transpose S4x11x8x2x512 [0, 3, 1, 2, 4] (shapeCast S4x8x2x11x512 (concatenate S4x8x11264 1
    [⟨S4x3x11264, CW⟩, ⟨S4x1x11264, broadcastInDim S4x1x11264 ![0, 2] bcast_S4x11264_S4x1x11264_0_2 CB⟩,
     ⟨S4x4x11264, broadcastInDim S4x4x11264 ![] bcast_S_S4x4x11264 (constant S_ .f32 0x00000000#32)⟩]
    concatenates_S4x3x11264_S4x1x11264_S4x4x11264_S4x8x11264_d1) shapeCasts_S4x8x11264_S4x8x2x11x512) transposes_S4x8x2x11x512_S4x11x8x2x512_0_3_1_2_4)
    shapeCasts_S4x11x8x2x512_S4x11x8x1024

theorem packed_row (CW : FVec Ideal S4x3x11264 .f32) (CB : FVec Ideal S4x11264 .f32) (k : Fin 11) (e : Fin 3) (l : Fin 1024) (n : Fin 11264)
    (hn : (n : ℕ) = 5632 * (l / 512) + 512 * k + l % 512) : packed CW CB (ix4 0 k ⟨e, by omega⟩ l) = CW (ix3 0 e n) := by
  have he := e.isLt
  pointwise [packed]
  congr 1
  blk_ext []

theorem packed_bias (CW : FVec Ideal S4x3x11264 .f32) (CB : FVec Ideal S4x11264 .f32) (k : Fin 11) (l : Fin 1024) (n : Fin 11264)
    (hn : (n : ℕ) = 5632 * (l / 512) + 512 * k + l % 512) : packed CW CB (ix4 0 k 3 l) = CB (ix2 0 n) := by
  pointwise [packed]
  congr 1
  blk_ext []

theorem V_packed (c : Dev nD) : V m c main_v8 = packed (A5 m c) (A6 m c) := by
  simp only [V, hostOps0]
  after_results
  rfl

theorem in0 (c : Dev nD) (t : Fin cfg0.N) (b : Fin 16) (s : Fin 2048) (r : Fin 1024) (h : 1024 * (t.val / 6) + r = 2048 * b + s) (k : Fin 2048) :
    iblk m c 0 t (ix2 r k) = A0 m c (ix3 b s k) := by
  have ht := lt_N t
  blk_point [iblk, V, idx t]

theorem in1 (c : Dev nD) (t : Fin cfg0.N) (k : Fin 2048) : iblk m c 1 t (ix3 0 0 k) = A1 m c (ix2 0 k) := by
  have ht := lt_N t
  blk_point [iblk, V, idx t]

theorem in2 (c : Dev nD) (t : Fin cfg0.N) (b : Fin 16) (h : t.val / 12 = b) (k : Fin 2048) : iblk m c 2 t (ix3 0 0 k) = A2 m c (ix3 b 0 k) := by
  have ht := lt_N t
  blk_point [iblk, V, idx t]

theorem in3 (c : Dev nD) (t : Fin cfg0.N) (b : Fin 16) (h : t.val / 12 = b) (k : Fin 2048) : iblk m c 3 t (ix3 0 0 k) = A3 m c (ix3 b 0 k) := by
  have ht := lt_N t
  blk_point [iblk, V, idx t]

theorem in4 (c : Dev nD) (t : Fin cfg0.N) (n : Fin 512) (l : Fin 11264) (h : (l : ℕ) = 512 * (2 * (t.val % 6)) + n) (k : Fin 2048) :
    iblk m c 4 t (ix3 0 k n) = A4 m c (ix3 0 k l) := by
  have ht := lt_N t
  blk_point [iblk, V, idx t]

theorem in5 (c : Dev nD) (t : Fin cfg0.N) (n : Fin 512) (l : Fin 11264) (h : (l : ℕ) = 5632 + (512 * (2 * (t.val % 6)) + n)) (k : Fin 2048) :
    iblk m c 5 t (ix3 0 k n) = A4 m c (ix3 0 k l) := by
  have ht := lt_N t
  blk_point [iblk, V, idx t]

theorem in6 (c : Dev nD) (t : Fin cfg0.N) (n : Fin 512) (l : Fin 11264) (h5 : t.val % 6 < 5) (h : (l : ℕ) = 512 * (2 * (t.val % 6) + 1) + n) (k : Fin 2048) :
    iblk m c 6 t (ix3 0 k n) = A4 m c (ix3 0 k l) := by
  have ht := lt_N t
  blk_point [iblk, V, idx t]

theorem in7 (c : Dev nD) (t : Fin cfg0.N) (n : Fin 512) (l : Fin 11264) (h5 : t.val % 6 < 5) (h : (l : ℕ) = 5632 + (512 * (2 * (t.val % 6) + 1) + n)) (k : Fin 2048) :
    iblk m c 7 t (ix3 0 k n) = A4 m c (ix3 0 k l) := by
  have ht := lt_N t
  blk_point [iblk, V, idx t]

theorem in8 (c : Dev nD) (t : Fin cfg0.N) (k : Fin 11) (e : Fin 8) (l : Fin 1024) : iblk m c 8 t (ix4 0 k e l) = packed (A5 m c) (A6 m c) (ix4 0 k e l) := by
  have e : iblk m c 8 t (ix4 0 k e l) = V m c main_v8 (ix4 0 k e l) := by
    blk_point [iblk, idx t]
  rw [e, V_packed]

theorem pay75_at (x0 : FVec Ideal S1024x2048 .f32) (x1 x2 x3 : FVec Ideal S1x1x2048 .f32) (r : Fin 1024) (l : Fin 2048) :
    k0_pay75 (F := Ideal) x0 x1 x2 x3 (ix2 r l) = normed (fun k => x0 (ix2 r k)) (x1 (ix3 0 0 l)) (x2 (ix3 0 0 l)) (x3 (ix3 0 0 l)) l := by
  pointwise [k0_pay75, normed]

theorem pay76_at (e : Fin 8) (n : Fin 1024) : k0_pay76 (F := Ideal) (ix2 e n) = (0 : EReal) := by
  pointwise [k0_pay76]

theorem pay2_at (e : Fin 8) (n : Fin 1024) : k0_pay2 (F := Ideal) (ix2 e n) = (0 : EReal) := by
  pointwise [k0_pay2]

theorem pay77_at (x : FVec Ideal S1x8x1024 .f32) (e : Fin 8) (n : Fin 1024) : k0_pay77 (F := Ideal) x (ix2 e n) = x (ix3 0 e n) := by
  pointwise [k0_pay77]

theorem pay3_at (x : FVec Ideal S1x8x1024 .f32) (e : Fin 8) (n : Fin 1024) : k0_pay3 (F := Ideal) x (ix2 e n) = x (ix3 0 e n) := by
  pointwise [k0_pay3]

theorem normed_eq {x x' : Fin 2048 → EReal} {g g' a a' b b' : EReal} (hx : ∀ k, x k = x' k) (hg : g = g') (ha : a = a') (hb : b = b') (l : Fin 2048) :
    normed x g a b l = normed x' g' a' b' l := by
  rw [funext hx, hg, ha, hb]

/-- The tile's rows are the reference's. -/
theorem rowsAt_at (c : Dev nD) (t : Fin cfg0.N) (b : Fin 16) (s : Fin 2048) (r : Fin 1024) (h : 1024 * (t.val / 6) + r = 2048 * b + s) (l : Fin 2048) :
    rowsAt m c t (ix2 r l) = rows (A0 m c) (A1 m c) (A2 m c) (A3 m c) (ix3 b s l) := by
  have e : (start t).val = 6 * (t.val / 6) := rfl
  have ht := lt_N t
  have hs := s.isLt
  have hr := r.isLt
  rw [Cert.UpReferenceIdeal.Up.rows_at]
  exact (pay75_at _ _ _ _ r l).trans (normed_eq (fun k => in0 m c (start t) b s r (by rw [e]; omega) k) (in1 m c _ l)
    (in2 m c _ b (by rw [e]; omega) l) (in3 m c _ b (by rw [e]; omega) l) l)

theorem rowsOf_at (H : FVec Ideal S1024x2048 .bf16) (r : Fin 8) (q : Fin 128) (k : Fin 2048) :
    rowsOf (F := Ideal) H r (ix2 q k) = H (ix2 ⟨128 * r + q, by omega⟩ k) := by
  pointwise [rowsOf]

theorem haloA_at (p : FVec Ideal S8x1024 .f32) (e : Fin 8) (n : Fin 512) : haloA (F := Ideal) p (ix2 e n) = p (ix2 e ⟨n, by omega⟩) := by
  pointwise [haloA]

theorem haloB_at (p : FVec Ideal S8x1024 .f32) (e : Fin 8) (n : Fin 512) : haloB (F := Ideal) p (ix2 e n) = p (ix2 e ⟨512 + n, by omega⟩) := by
  pointwise [haloB]

/-- A row of the convolution's weights, read at its column block. -/
theorem coef_at (x8 : FVec Ideal S1x11x8x1024 .f32) (o : Fin 4 → ℕ) (inb : ∀ a, o a + S1x1x8x1024.size a ≤ S1x11x8x1024.size a) (k : Fin 11)
    (ho : o = ![0, k.val, 0, 0]) (e : Fin 8) (l : Fin 1024) :
    coef (F := Ideal) (View.ld (Val := Elt Ideal) (show Vec Ideal S1x11x8x1024 .f32 from x8) (Rect.unit (s := S1x11x8x1024) o S1x1x8x1024.size inb)) (ix2 e l)
    = x8 (ix4 0 k e l) := by
  subst ho
  pointwise [coef]

end Cert.UpKernelIdeal.Up

end
-- ==== Proof.UpValue.lean ====
/- The up-projection: the result array after the run is the reference's term of the arguments. -/
module

public import proofs.«01_k».proof.Proof.UpReads

@[expose] public section

set_option maxRecDepth 16384

noncomputable section

namespace Cert.UpKernelIdeal.Up

open Cert.UpKernelIdeal Cert.UpKernelIdeal.Gen
open Idealize.ShloMosaic Idealize.ShloMosaic.TcCoe Idealize.SL.Sem
open Idealize.ShloMosaic.Pipeline (Dat)
open Cert.UpReferenceIdeal.Up (normed rows projected column column_row column_zero)

variable (m : (ℓ : Loc nD τ sig) → Buf (Elt Ideal) ℓ)

/-- The reference's projected rows. -/
abbrev U (c : Dev nD) : FVec Ideal Cert.UpReferenceIdeal.S16x2048x11264 .f32 := projected (rows (A0 m c) (A1 m c) (A2 m c) (A3 m c)) (A4 m c)

theorem sum_eq {x x' w w' : Fin 2048 → EReal} (hx : ∀ k, x k = x' k) (hw : ∀ k, w k = w' k) : ∑ k, x k * w k = ∑ k, x' k * w' k := by
  rw [funext hx, funext hw]

/-- A chunk's product is the reference's, given where its columns come from. -/
theorem prod_in (c : Dev nD) (t : Fin cfg0.N) (b : Fin 16) (s : Fin 2048) (r : Fin 8) (q : Fin 128) (h : 1024 * (t.val / 6) + (128 * r + q) = 2048 * b + s)
    (w : FVec Ideal S1x2048x512 .bf16) (n : Fin 512) (l : Fin 11264) (hw : ∀ k : Fin 2048, w (ix3 0 k n) = A4 m c (ix3 0 k l)) :
    prod (F := Ideal) (rowsOf (rowsAt m c t) r) w (ix2 q n) = U m c (ix3 b s l) := by
  refine (prod_at _ w q n).trans ((sum_eq (fun k => ?_) hw).trans (Cert.UpReferenceIdeal.Up.projected_at _ _ b s l).symm)
  exact (rowsOf_at _ r q k).trans (rowsAt_at m c t b s _ h k)

/-- The sequence a point's row tile belongs to. -/
def seqOf (t : Fin cfg0.N) : Fin 16 := ⟨t.val / 12, by have := lt_N t; omega⟩

/-- A column of the projected rows from eight rows before the tile on. -/
def fromTile (c : Dev nD) (t : Fin cfg0.N) (l : Fin 11264) (z : ℕ) : EReal := column (U m c) (seqOf t) l (1024 * (t.val / 6 % 2) + z)

theorem prod_from (c : Dev nD) (t : Fin cfg0.N) (w : FVec Ideal S1x2048x512 .bf16) (n : Fin 512) (l : Fin 11264)
    (hw : ∀ k : Fin 2048, w (ix3 0 k n) = A4 m c (ix3 0 k l)) (r : Fin 8) (q : Fin 128) :
    prod (F := Ideal) (rowsOf (rowsAt m c t) r) w (ix2 q n) = fromTile m c t l (8 + 128 * r + q) := by
  have hr := r.isLt
  have hq := q.isLt
  refine (prod_in m c t (seqOf t) ⟨1024 * (t.val / 6 % 2) + (128 * r + q), by omega⟩ r q ?_ w n l hw).trans (column_row _ _ _ _ _ ?_).symm
  · show 1024 * (t.val / 6) + (128 * (r : ℕ) + q) = 2048 * (t.val / 12) + (1024 * (t.val / 6 % 2) + (128 * r + q)); omega
  · show 1024 * (t.val / 6 % 2) + (8 + 128 * (r : ℕ) + q) = 8 + (1024 * (t.val / 6 % 2) + (128 * r + q)); omega

/-- The last rows of the row tile before are the ones before this tile. -/
theorem prod_prev (c : Dev nD) (t : Fin cfg0.N) (hp : t.val / 6 % 2 = 1) (w : FVec Ideal S1x2048x512 .bf16) (n : Fin 512) (l : Fin 11264)
    (hw : ∀ k : Fin 2048, w (ix3 0 k n) = A4 m c (ix3 0 k l)) (e : Fin 8) :
    prod (F := Ideal) (rowsOf (rowsAt m c (prev t)) 7) w (ix2 ⟨120 + e, by omega⟩ n) = fromTile m c t l e := by
  have he := e.isLt
  have hv : (prev t).val = t.val - 6 := rfl
  refine (prod_in m c (prev t) (seqOf t) ⟨1016 + e, by omega⟩ 7 ⟨120 + e, by omega⟩ ?_ w n l hw).trans (column_row _ _ _ _ _ ?_).symm
  · show 1024 * ((t.val - 6) / 6) + (128 * 7 + (120 + (e : ℕ))) = 2048 * (t.val / 12) + (1016 + e); omega
  · show 1024 * (t.val / 6 % 2) + (e : ℕ) = 8 + (1016 + e); omega

theorem from_zero (c : Dev nD) (t : Fin cfg0.N) (hp : ¬ t.val / 6 % 2 = 1) (l : Fin 11264) (e : Fin 8) : fromTile m c t l e = 0 := by
  have he := e.isLt
  exact column_zero _ _ _ _ (by omega)

theorem prev_col (t : Fin cfg0.N) (hp : t.val / 6 % 2 = 1) : (prev t).val % 6 = t.val % 6 := by
  have hv : (prev t).val = t.val - 6 := rfl
  omega

theorem halo1_at (c : Dev nD) (t : Fin cfg0.N) (n : Fin 512) (l k : Fin 11264) (hl : (l : ℕ) = 512 * (2 * (t.val % 6)) + n)
    (hk : (k : ℕ) = 5632 + (512 * (2 * (t.val % 6)) + n)) (e : Fin 8) :
    haloA (F := Ideal) (haloAt1 m c t) (ix2 e n) = fromTile m c t l e ∧ haloB (F := Ideal) (haloAt1 m c t) (ix2 e n) = fromTile m c t k e := by
  rw [haloA_at, haloB_at, haloAt1]
  by_cases hp : t.val / 6 % 2 = 1
  · have hv := prev_col t hp
    rw [if_pos hp, pay77_at, pay77_at]
    exact ⟨(handed_at _ _ _ e n).1.trans (prod_prev m c t hp _ n l (in4 m c (prev t) n l (by rw [hv]; exact hl)) e),
      (handed_at _ _ _ e n).2.trans (prod_prev m c t hp _ n k (in5 m c (prev t) n k (by rw [hv]; exact hk)) e)⟩
  · rw [if_neg hp, pay76_at, pay76_at, from_zero m c t hp, from_zero m c t hp]
    exact ⟨rfl, rfl⟩

theorem halo2_at (c : Dev nD) (t : Fin cfg0.N) (h5 : t.val % 6 < 5) (n : Fin 512) (l k : Fin 11264) (hl : (l : ℕ) = 512 * (2 * (t.val % 6) + 1) + n)
    (hk : (k : ℕ) = 5632 + (512 * (2 * (t.val % 6) + 1) + n)) (e : Fin 8) :
    haloA (F := Ideal) (haloAt2 m c t) (ix2 e n) = fromTile m c t l e ∧ haloB (F := Ideal) (haloAt2 m c t) (ix2 e n) = fromTile m c t k e := by
  rw [haloA_at, haloB_at, haloAt2]
  by_cases hp : t.val / 6 % 2 = 1
  · have hv := prev_col t hp
    rw [if_pos hp, pay3_at, pay3_at]
    exact ⟨(handed_at _ _ _ e n).1.trans (prod_prev m c t hp _ n l (in6 m c (prev t) n l (by rw [hv]; exact h5) (by rw [hv]; exact hl)) e),
      (handed_at _ _ _ e n).2.trans (prod_prev m c t hp _ n k (in7 m c (prev t) n k (by rw [hv]; exact h5) (by rw [hv]; exact hk)) e)⟩
  · rw [if_neg hp, pay2_at, pay2_at, from_zero m c t hp, from_zero m c t hp]
    exact ⟨rfl, rfl⟩

/-- The convolution's weights a column half reads, in the arguments' columns. -/
theorem weights_at (c : Dev nD) (t : Fin cfg0.N) (o : Fin 4 → ℕ) (inb : ∀ a, o a + S1x1x8x1024.size a ≤ S1x11x8x1024.size a) (j : Fin 11)
    (ho : o = ![0, j.val, 0, 0]) (l : Fin 1024) (n : Fin 11264) (hn : (n : ℕ) = 5632 * (l / 512) + 512 * j + l % 512) :
    (∀ e : Fin 3, coef (F := Ideal) (View.ld (Val := Elt Ideal) (show Vec Ideal S1x11x8x1024 .f32 from iblk m c 8 t) (Rect.unit (s := S1x11x8x1024) o S1x1x8x1024.size inb))
      (ix2 ⟨e, by omega⟩ l) = A5 m c (ix3 0 e n))
    ∧ coef (F := Ideal) (View.ld (Val := Elt Ideal) (show Vec Ideal S1x11x8x1024 .f32 from iblk m c 8 t) (Rect.unit (s := S1x11x8x1024) o S1x1x8x1024.size inb))
      (ix2 3 l) = A6 m c (ix2 0 n) :=
  ⟨fun e => (coef_at _ o inb j ho _ l).trans ((in8 m c t j _ l).trans (packed_row _ _ j e l n hn)),
   (coef_at _ o inb j ho _ l).trans ((in8 m c t j _ l).trans (packed_bias _ _ j l n hn))⟩

/-- The reference's convolved column from the tile's first row on. -/
def tapped (c : Dev nD) (t : Fin cfg0.N) (n : Fin 11264) (q : ℕ) : EReal :=
  convolved (fun e => A5 m c (ix3 0 e n)) (A6 m c (ix2 0 n)) (fromTile m c t n) q

theorem tileAt1_at (c : Dev nD) (t : Fin cfg0.N) (n : Fin 512) (l k : Fin 11264) (hl : (l : ℕ) = 512 * (2 * (t.val % 6)) + n)
    (hk : (k : ℕ) = 5632 + (512 * (2 * (t.val % 6)) + n)) (r : Fin 8) (q : Fin 128) :
    tileAt1 m c t r (ix2 q n) = gated (tapped m c t l (128 * r + q)) (tapped m c t k (128 * r + q)) := by
  have hn := n.isLt
  have ho : k0_off2 (grid0.coords t) = ![0, 2 * (t.val % 6), 0, 0] := by rw [k0_off2_eq, coords_col]
  have w := weights_at m c t _ (k0_off2_inb (grid0.coords t)) ⟨2 * (t.val % 6), by omega⟩ ho ⟨n, by omega⟩ l
    (by show (l : ℕ) = 5632 * ((n : ℕ) / 512) + 512 * (2 * (t.val % 6)) + (n : ℕ) % 512; omega)
  have v := weights_at m c t _ (k0_off2_inb (grid0.coords t)) ⟨2 * (t.val % 6), by omega⟩ ho ⟨512 + n, by omega⟩ k
    (by show (k : ℕ) = 5632 * ((512 + (n : ℕ)) / 512) + 512 * (2 * (t.val % 6)) + (512 + (n : ℕ)) % 512; omega)
  exact tile_at _ _ _ _ _ _ n (fromTile m c t l) (fromTile m c t k) (fun e => A5 m c (ix3 0 e l)) (fun e => A5 m c (ix3 0 e k)) _ _ (w.1 0) (w.1 1) (w.1 2) w.2 (v.1 0) (v.1 1) (v.1 2) v.2
    (prod_from m c t _ n l (in4 m c t n l hl)) (prod_from m c t _ n k (in5 m c t n k hk))
    (fun e => (halo1_at m c t n l k hl hk e).1) (fun e => (halo1_at m c t n l k hl hk e).2) r q

theorem tileAt2_at (c : Dev nD) (t : Fin cfg0.N) (h5 : t.val % 6 < 5) (n : Fin 512) (l k : Fin 11264) (hl : (l : ℕ) = 512 * (2 * (t.val % 6) + 1) + n)
    (hk : (k : ℕ) = 5632 + (512 * (2 * (t.val % 6) + 1) + n)) (r : Fin 8) (q : Fin 128) :
    tileAt2 m c t r (ix2 q n) = gated (tapped m c t l (128 * r + q)) (tapped m c t k (128 * r + q)) := by
  have hn := n.isLt
  have h4 : k0_cond4 (grid0.coords t) = 1#1 := (cond4_iff _).mpr (by rw [coords_col]; exact h5)
  have ho : k0_off5 (grid0.coords t) = ![0, 2 * (t.val % 6) + 1, 0, 0] := by rw [k0_off5_eq, coords_col]
  have w := weights_at m c t _ (k0_off5_inb (grid0.coords t) h4) ⟨2 * (t.val % 6) + 1, by omega⟩ ho ⟨n, by omega⟩ l
    (by show (l : ℕ) = 5632 * ((n : ℕ) / 512) + 512 * (2 * (t.val % 6) + 1) + (n : ℕ) % 512; omega)
  have v := weights_at m c t _ (k0_off5_inb (grid0.coords t) h4) ⟨2 * (t.val % 6) + 1, by omega⟩ ho ⟨512 + n, by omega⟩ k
    (by show (k : ℕ) = 5632 * ((512 + (n : ℕ)) / 512) + 512 * (2 * (t.val % 6) + 1) + (512 + (n : ℕ)) % 512; omega)
  unfold tileAt2
  rw [dif_pos h4]
  exact tile_at _ _ _ _ _ _ n (fromTile m c t l) (fromTile m c t k) (fun e => A5 m c (ix3 0 e l)) (fun e => A5 m c (ix3 0 e k)) _ _ (w.1 0) (w.1 1) (w.1 2) w.2 (v.1 0) (v.1 1) (v.1 2) v.2
    (prod_from m c t _ n l (in6 m c t n l h5 hl)) (prod_from m c t _ n k (in7 m c t n k h5 hk))
    (fun e => (halo2_at m c t h5 n l k hl hk e).1) (fun e => (halo2_at m c t h5 n l k hl hk e).2) r q

/-- What point `t` leaves at a position the array has. -/
theorem outAt_at (c : Dev nD) (t : Fin cfg0.N) (r l : Fin 1024) (hc : t.val % 6 < 5 ∨ (l : ℕ) < 512) (n k : Fin 11264)
    (hn : (n : ℕ) = 1024 * (t.val % 6) + l) (hk : (k : ℕ) = 5632 + n) :
    outAt m c t (ix2 r l) = gated (tapped m c t n r) (tapped m c t k r) := by
  have hr := r.isLt
  have hl := l.isLt
  have er : 128 * ((r : ℕ) / 128) + (r : ℕ) % 128 = r := Nat.div_add_mod _ _
  unfold outAt join
  by_cases h : (l : ℕ) < 512
  · refine (dif_pos h).trans ((tileAt1_at m c t _ n k ?_ ?_ _ _).trans ?_)
    · show (n : ℕ) = 512 * (2 * (t.val % 6)) + (l : ℕ); omega
    · show (k : ℕ) = 5632 + (512 * (2 * (t.val % 6)) + (l : ℕ)); omega
    · show gated (tapped m c t n (128 * ((r : ℕ) / 128) + (r : ℕ) % 128)) (tapped m c t k (128 * ((r : ℕ) / 128) + (r : ℕ) % 128)) = _
      rw [er]
  · refine (dif_neg h).trans ((tileAt2_at m c t (by omega) _ n k ?_ ?_ _ _).trans ?_)
    · show (n : ℕ) = 512 * (2 * (t.val % 6) + 1) + ((l : ℕ) - 512); omega
    · show (k : ℕ) = 5632 + (512 * (2 * (t.val % 6) + 1) + ((l : ℕ) - 512)); omega
    · show gated (tapped m c t n (128 * ((r : ℕ) / 128) + (r : ℕ) % 128)) (tapped m c t k (128 * ((r : ℕ) / 128) + (r : ℕ) % 128)) = _
      rw [er]

/-- The reference's convolved rows, at a row of the tile. -/
theorem tapped_eq (c : Dev nD) (t : Fin cfg0.N) (r : Fin 1024) (s : Fin 2048) (hs : (s : ℕ) = 1024 * (t.val / 6 % 2) + r) (n : Fin 11264) :
    tapped m c t n r = Cert.UpReferenceIdeal.Up.convolved (U m c) (A5 m c) (A6 m c) (ix3 (seqOf t) s n) := by
  have e : ∀ z : ℕ, 1024 * (t.val / 6 % 2) + (z + (r : ℕ)) = z + s := fun z => by omega
  rw [Cert.UpReferenceIdeal.Up.convolved_at, tapped, convolved]
  unfold fromTile
  rw [e, e, e]

/-- The reference at a position of the result's array. -/
theorem REF_at (c : Dev nD) (t : Fin cfg0.N) (r : Fin 1024) (R : Fin 32768) (hR : (R : ℕ) = 1024 * (t.val / 6) + r) (n : Fin 5632) :
    Cert.UpReferenceIdeal.Up.REF (A0 m c) (A1 m c) (A2 m c) (A3 m c) (A4 m c) (A5 m c) (A6 m c) (ix2 R n)
    = gated (tapped m c t ⟨n, by omega⟩ r) (tapped m c t ⟨5632 + n, by omega⟩ r) := by
  have ht := lt_N t
  have hr := r.isLt
  have hs : 1024 * (t.val / 6 % 2) + (r : ℕ) < 2048 := by omega
  rw [tapped_eq m c t r ⟨_, hs⟩ rfl, tapped_eq m c t r ⟨_, hs⟩ rfl]
  refine Cert.UpReferenceIdeal.Up.joined_at _ (seqOf t) ⟨_, hs⟩ R ?_ n
  show (R : ℕ) = 2048 * (t.val / 12) + (1024 * (t.val / 6 % 2) + (r : ℕ)); omega

theorem rows_moved : ∀ t : Fin cfg0.N, (cfg0.win 9).xsize (grid0.coords t) 0 = 1024 := by decide +kernel
theorem cols_moved : ∀ t : Fin cfg0.N, (cfg0.win 9).xsize (grid0.coords t) 1 ≤ 1024 := by decide +kernel

/-- The result array after the run. -/
theorem final (c : Dev nD) : (dats m 0 c).arrAt 9 (cfgs 0).N
    = Cert.UpReferenceIdeal.Up.REF (A0 m c) (A1 m c) (A2 m c) (A3 m c) (A4 m c) (A5 m c) (A6 m c) := by
  refine (dats m 0 c).arrAt_eq_of_covers 9 _ (by decide +kernel) fun t _ y => ?_
  have hc := cut_col t (y 1).val (y 1).isLt
  blk_simp
  rw [after0_9]
  have h0 : (y 0).val < 1024 := Nat.lt_of_lt_of_eq (y 0).isLt (rows_moved t)
  have h1 : (y 1).val < 1024 := Nat.lt_of_lt_of_le (y 1).isLt (cols_moved t)
  rw [coords_col] at hc
  have ht := lt_N t
  have ex : (cfg0.win 9).xinj (cfg0.grid.coords t) y = ix2 (⟨(y 0).val, h0⟩ : Fin 1024) (⟨(y 1).val, h1⟩ : Fin 1024) := by
    funext a; fin_cases a <;> rfl
  have ee : (win0_9.blk t).view.emb y = ix2 (⟨1024 * (t.val / 6) + (y 0).val, by omega⟩ : Fin 32768) (⟨1024 * (t.val % 6) + (y 1).val, by omega⟩ : Fin 5632) := by
    blk_ext [idx t]
  rw [ex, ee]
  exact (outAt_at m c t ⟨(y 0).val, h0⟩ ⟨(y 1).val, h1⟩ hc ⟨1024 * (t.val % 6) + (y 1).val, by omega⟩ ⟨5632 + (1024 * (t.val % 6) + (y 1).val), by omega⟩ rfl rfl).trans
    (REF_at m c t ⟨(y 0).val, h0⟩ _ rfl ⟨1024 * (t.val % 6) + (y 1).val, by omega⟩).symm

end Cert.UpKernelIdeal.Up

end
-- ==== Proof.UpClaims.lean ====
/-
  The up projection's claims, from the two programs' runs and the equation between their results.
-/
module

public import proofs.«01_k».proof.Defs
public import proofs.«01_k».proof.Proof.Gen.UpKernel.Frame
public import proofs.«01_k».proof.Proof.UpFrame
public import proofs.«01_k».proof.Proof.UpValue
public import proofs.«01_k».proof.Proof.Gen.UpReferenceIdeal.Run
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem up_frame_ideal : Cert.quiescent_UpKernelIdeal := fun m ρ _ => Cert.UpKernelIdeal.Up.frame_any m ρ

/-- The printed kernel's body is the idealized kernel's: no operation was rewritten. -/
theorem up_body_same : Cert.UpKernel.cc0_ffn_up (F := Bits) = Cert.UpKernelIdeal.cc0_ffn_up (F := Bits) := rfl

theorem up_bodies_same : Cert.UpKernel.defs₀ (F := Bits) = Cert.UpKernelIdeal.defs₀ (F := Bits) := by
  unfold Cert.UpKernel.defs₀ Cert.UpKernelIdeal.defs₀
  rw [up_body_same]
  refine congrArg Defs.onTc (funext fun l => funext fun x => ?_)
  match l, x with
  | 0, (t, s) => rfl

theorem up_defs_same : Cert.UpKernel.defs (F := Bits) = Cert.UpKernelIdeal.defs (F := Bits) :=
  congrArg (Pipeline.defs Cert.UpKernelIdeal.pcfgs) up_bodies_same

theorem up_main_same : Cert.UpKernel.main (F := Bits) = Cert.UpKernelIdeal.main (F := Bits) := rfl

theorem up_frame : Cert.quiescent_UpKernel := fun m ρ _ => by
  have h := Cert.UpKernelIdeal.Up.frame_any (F := Bits) m ρ
  rw [← up_defs_same, ← up_main_same] at h
  exact h

theorem up_frame_reference : Cert.quiescent_UpReferenceIdeal :=
  fun m ρ _ => (θ_run _ _ _).mono (fun r h => ⟨fun c => (h c).2, sem_eq_zero_of_no_sems rfl r.2⟩)
    (Cert.UpReferenceIdeal.Value.run m ρ)

theorem up_preserves : Cert.preserves_UpKernel_UpKernelIdeal := trivial

theorem up_algebraic : Cert.algebraic_UpKernelIdeal_UpReferenceIdeal := by
  pair_intro
  · run_from Cert.UpKernelIdeal.Up.run_main m g
  · run_from Cert.UpReferenceIdeal.Up.run m' g'
    exact (Cert.UpKernelIdeal.Up.final m c).symm

end Cert.Proof

end
-- ==== Proof.DownValue.lean ====
/-
  The output projection: what the call's result array holds after the run, as the reference's own term
  of the argument arrays.  Every grid point writes a block of 512 rows whole, so one lemma about one
  block position (`point`) and the fact that the blocks tile the array give the array (`final`).
-/
module

public import proofs.«01_k».proof.Proof.Gen.DownKernelIdeal.Value
public import proofs.«01_k».proof.Proof.Gen.DownReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownKernelIdeal.Value

open Cert.DownKernelIdeal Cert.DownKernelIdeal.Gen

variable (m : (ℓ : Loc nD τ sig) → Buf (Elt Ideal) ℓ)

/-- The reference's result as a term of its four arguments. -/
abbrev REF (A : FVec Ideal S32768x5632 .bf16) (W : FVec Ideal S4x5632x2048 .f32)
    (X : FVec Ideal S16x2048x2048 .f32) (G : FVec Ideal S16x1x2048 .f32) : FVec Ideal S32768x2048 .f32 :=
  shapeCast _ (addf X (mulf
    (broadcastInDim Cert.DownReferenceIdeal.S16x2048x2048 ![0, 1, 2] Cert.DownReferenceIdeal.Gen.bcast_S16x1x2048_S16x2048x2048_0_1_2
      (addf (broadcastInDim Cert.DownReferenceIdeal.S16x1x2048 ![] Cert.DownReferenceIdeal.Gen.bcast_S_S16x1x2048 (constant Cert.DownReferenceIdeal.S_ .f32 0x3F800000#32)) G))
    (Host.dotGeneral Cert.DownReferenceIdeal.dot_S16x2048x5632_S5632x2048_S16x2048x2048_2_0_01_1_n_n none
      (shapeCast _ (extf .f32 A Cert.DownReferenceIdeal.Gen.bitsLt_bf16_f32) Cert.DownReferenceIdeal.Gen.shapeCasts_S32768x5632_S16x2048x5632)
      (shapeCast _ (extractStridedSlice Cert.DownReferenceIdeal.S1x5632x2048 ![0, 0, 0] W Cert.DownReferenceIdeal.Gen.slices_S4x5632x2048_S1x5632x2048_0_0_0)
        Cert.DownReferenceIdeal.Gen.shapeCasts_S1x5632x2048_S5632x2048))))
    Cert.DownReferenceIdeal.Gen.shapeCasts_S16x2048x2048_S32768x2048

/-- Where each window's block sits at grid point `t`, for all points at once. -/
theorem idx : ∀ t : Fin cfg0.N, win0_0.index t = ![t.val, 0] ∧ win0_1.index t = ![0, 0, 0] ∧ win0_2.index t = ![t.val, 0]
    ∧ win0_3.index t = ![t.val / 4, 0, 0] ∧ win0_4.index t = ![t.val, 0] :=
  (by decide +kernel : ∀ t : Fin grid0.N, _)

/-- The payload at a position of its block. -/
theorem pay_at (x0 : FVec Ideal S512x5632 .bf16) (x1 : FVec Ideal S1x5632x2048 .bf16) (x2 : FVec Ideal S512x2048 .f32)
    (x3 : FVec Ideal S1x1x2048 .f32) (r : Fin 512) (l : Fin 2048) :
    k0_pay1 x0 x1 x2 x3 (ix2 r l)
    = x2 (ix2 r l) + ((1 : EReal) + x3 (ix3 0 0 l)) * ∑ k : Fin 5632, x0 (ix2 r k) * x1 (ix3 0 k l) := by
  pointwise [k0_pay1]

/-- The reference at a position of its array. -/
theorem REF_at (A : FVec Ideal S32768x5632 .bf16) (W : FVec Ideal S4x5632x2048 .f32)
    (X : FVec Ideal S16x2048x2048 .f32) (G : FVec Ideal S16x1x2048 .f32) (R : Fin 32768) (l : Fin 2048) :
    REF A W X G (ix2 R l)
    = X (ix3 ⟨R.val / 2048, by omega⟩ ⟨R.val % 2048, by omega⟩ l)
      + ((1 : EReal) + G (ix3 ⟨R.val / 2048, by omega⟩ 0 l)) * ∑ k : Fin 5632, A (ix2 R k) * W (ix3 0 k l) := by
  pointwise [REF]

/-- What point `t` stores at block position `(r, l)` is the reference at the array position where it sits. -/
theorem point (c : Dev nD) (t : Fin cfg0.N) (r : Fin 512) (l : Fin 2048) :
    k0_pay1 (iblk m c 0 t) (iblk m c 1 t) (iblk m c 2 t) (iblk m c 3 t) (ix2 r l)
    = REF (m ((c : Thread nD τ).loc main_arg0)) (m ((c : Thread nD τ).loc main_arg1))
        (m ((c : Thread nD τ).loc main_arg2)) (m ((c : Thread nD τ).loc main_arg3)) (((cfg0.win 4).blk t).view.emb (ix2 r l)) := by
  have ht : t.val < 64 := t.isLt
  have e : ((cfg0.win 4).blk t).view.emb (ix2 r l) = ix2 (⟨t.val * 512 + r.val, by omega⟩ : Fin 32768) l := by
    blk_ext [idx t]
  rw [e, pay_at, REF_at]
  blk_point [iblk, V, idx t]

/-- The result array after the run. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  exact point m c t _ _

end Cert.DownKernelIdeal.Value

end
-- ==== Proof.DownClaims.lean ====
/-
  The output projection: its claims, from the two programs' runs and the equation between their results.
-/
module

public import proofs.«01_k».proof.Defs
public import proofs.«01_k».proof.Proof.Gen.DownKernel.Frame
public import proofs.«01_k».proof.Proof.DownValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem down_frame : Cert.quiescent_DownKernel := fun m ρ _ => Cert.DownKernel.Gen.frame m ρ

theorem down_frame_ideal : Cert.quiescent_DownKernelIdeal := fun m ρ _ => Cert.DownKernelIdeal.Gen.frame m ρ

theorem down_frame_reference : Cert.quiescent_DownReferenceIdeal :=
  fun m ρ _ => (θ_run _ _ _).mono (fun r h => ⟨fun c => (h c).2, sem_eq_zero_of_no_sems rfl r.2⟩)
    (Cert.DownReferenceIdeal.Value.run m ρ)

theorem down_preserves : Cert.preserves_DownKernel_DownKernelIdeal := trivial

theorem down_algebraic : Cert.algebraic_DownKernelIdeal_DownReferenceIdeal := by
  pair_intro
  · run_from Cert.DownKernelIdeal.Gen.run_main m g
  · run_from Cert.DownReferenceIdeal.Value.run m' g'
    exact (Cert.DownKernelIdeal.Value.final m c).symm

end Cert.Proof

end
-- ==== Proof.MixBlock.lean ====
/-
  The mixing call, one block: the two products of the call's rows with the output weights of the two branches, one strip of
  128 columns of the gated sum, and half of a block of the result.
-/
module

public import proofs.«01_k».proof.Proof.Gen.MixKernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MixKernelIdeal.Value

open Cert.MixKernelIdeal Cert.MixKernelIdeal.Gen

/-- The rows of the first branch times its weights. -/
def prodA (a : FVec Ideal S256x1024 .bf16) (w : FVec Ideal S1x1024x2048 .bf16) : FVec Ideal S256x2048 .f32 :=
  matmul dot_S256x1024_S1024x2048_S256x2048_1_0_0_1_n_n none a
    (shapeCast S1024x2048 w shapeCasts_S1x1024x2048_S1024x2048) (constant S256x2048 .f32 0x00000000#32)

/-- The eight heads of the second branch side by side. -/
def heads (v0 v1 v2 v3 v4 v5 v6 v7 : FVec Ideal S1x256x128 .bf16) : FVec Ideal S256x1024 .bf16 :=
  concatenate S256x1024 1 [⟨S256x128, shapeCast S256x128 v0 shapeCasts_S1x256x128_S256x128⟩, ⟨S256x128, shapeCast S256x128 v1 shapeCasts_S1x256x128_S256x128⟩,
    ⟨S256x128, shapeCast S256x128 v2 shapeCasts_S1x256x128_S256x128⟩, ⟨S256x128, shapeCast S256x128 v3 shapeCasts_S1x256x128_S256x128⟩,
    ⟨S256x128, shapeCast S256x128 v4 shapeCasts_S1x256x128_S256x128⟩, ⟨S256x128, shapeCast S256x128 v5 shapeCasts_S1x256x128_S256x128⟩,
    ⟨S256x128, shapeCast S256x128 v6 shapeCasts_S1x256x128_S256x128⟩, ⟨S256x128, shapeCast S256x128 v7 shapeCasts_S1x256x128_S256x128⟩]
    concatenates_S256x128_S256x128_S256x128_S256x128_S256x128_S256x128_S256x128_S256x128_S256x1024_d1

/-- One strip of the gated sum: columns `o` to `o + 127` of the two products under the two gates' strips. -/
def chunk (o : ℕ) (hs : S256x2048.Slices ![0, o] S256x128) (a b : FVec Ideal S256x2048 .f32)
    (ga gb : FVec Ideal S1x256x128 .bf16) : FVec Ideal S256x128 .bf16 :=
  truncf .bf16 (addf
    (mulf (extf .f32 (shapeCast S256x128 ga shapeCasts_S1x256x128_S256x128) bitsLt_bf16_f32) (extractStridedSlice S256x128 ![0, o] a hs))
    (mulf (extf .f32 (shapeCast S256x128 gb shapeCasts_S1x256x128_S256x128) bitsLt_bf16_f32) (extractStridedSlice S256x128 ![0, o] b hs)))
    bitsLt_bf16_f32

/-- Half a block of the result, from its rows of the gated sum. -/
def outHalf (g : FVec Ideal S256x2048 .bf16) (w : FVec Ideal S1x2048x2048 .bf16) (x : FVec Ideal S256x2048 .f32)
    (gt : FVec Ideal S1x1x2048 .f32) : FVec Ideal S256x2048 .f32 :=
  addf x (mulf (broadcastTo S256x2048 (addf (broadcast S1x2048 (Scalar.ofBits .f32 0x3F800000#32))
      (shapeCast S1x2048 gt shapeCasts_S1x1x2048_S1x2048)) broadcasts_S1x2048_S256x2048)
    (matmul dot_S256x2048_S2048x2048_S256x2048_1_0_0_1_n_n none g
      (shapeCast S2048x2048 w shapeCasts_S1x2048x2048_S2048x2048) (constant S256x2048 .f32 0x00000000#32)))

theorem prodA_at (a : FVec Ideal S256x1024 .bf16) (w : FVec Ideal S1x1024x2048 .bf16) (r : Fin 256) (l : Fin 2048) :
    prodA a w (ix2 r l) = ∑ k : Fin 1024, a (ix2 r k) * w (ix3 0 k l) := by
  pointwise [prodA]

theorem heads_at {v0 v1 v2 v3 v4 v5 v6 v7 : FVec Ideal S1x256x128 .bf16} {V : Fin 8 → Fin 256 → Fin 128 → EReal}
    (h0 : ∀ r d, v0 (ix3 0 r d) = V 0 r d) (h1 : ∀ r d, v1 (ix3 0 r d) = V 1 r d) (h2 : ∀ r d, v2 (ix3 0 r d) = V 2 r d)
    (h3 : ∀ r d, v3 (ix3 0 r d) = V 3 r d) (h4 : ∀ r d, v4 (ix3 0 r d) = V 4 r d) (h5 : ∀ r d, v5 (ix3 0 r d) = V 5 r d)
    (h6 : ∀ r d, v6 (ix3 0 r d) = V 6 r d) (h7 : ∀ r d, v7 (ix3 0 r d) = V 7 r d) (r : Fin 256) (k : Fin 1024) :
    heads v0 v1 v2 v3 v4 v5 v6 v7 (ix2 r k) = V ⟨k / 128, by omega⟩ r ⟨k % 128, by omega⟩ := by
  have hk := k.isLt
  pointwise [heads]
  split_ifs
  all_goals first | rw [h0] | rw [h1] | rw [h2] | rw [h3] | rw [h4] | rw [h5] | rw [h6] | rw [h7]
  all_goals
    congr 1
    · congr 1
      refine Fin.ext ?_
      show _ = (k : ℕ) / 128
      simp
      omega
    · refine Fin.ext ?_
      show _ = (k : ℕ) % 128
      simp
      omega

theorem chunk_at (o : ℕ) (hs : S256x2048.Slices ![0, o] S256x128) (a b : FVec Ideal S256x2048 .f32)
    (ga gb : FVec Ideal S1x256x128 .bf16) (r : Fin 256) (j : Fin 128) (l : Fin 2048) (hl : (l : ℕ) = o + j) :
    chunk o hs a b ga gb (ix2 r j) = ga (ix3 0 r j) * a (ix2 r l) + gb (ix3 0 r j) * b (ix2 r l) := by
  pointwise [chunk]
  have e : ∀ h, (⟨o + j, h⟩ : Fin 2048) = l := fun _ => Fin.ext hl.symm
  simp only [e]

theorem outHalf_at (g : FVec Ideal S256x2048 .bf16) (w : FVec Ideal S1x2048x2048 .bf16) (x : FVec Ideal S256x2048 .f32)
    (gt : FVec Ideal S1x1x2048 .f32) (y : S256x2048.Idx) :
    outHalf g w x gt y = x y + ((1 : EReal) + gt (ix3 0 0 (y 1))) * ∑ k : Fin 2048, g (ix2 (y 0) k) * w (ix3 0 k (y 1)) := by
  idx_vars y
  pointwise [outHalf]

theorem fold_prodA (a : FVec Ideal S256x1024 .bf16) (w : FVec Ideal S1x1024x2048 .bf16) :
    matmul dot_S256x1024_S1024x2048_S256x2048_1_0_0_1_n_n none a
      (shapeCast S1024x2048 w shapeCasts_S1x1024x2048_S1024x2048) (constant S256x2048 .f32 0x00000000#32) = prodA a w := rfl

theorem fold_heads (v0 v1 v2 v3 v4 v5 v6 v7 : FVec Ideal S1x256x128 .bf16) :
    concatenate S256x1024 1 [⟨S256x128, shapeCast S256x128 v0 shapeCasts_S1x256x128_S256x128⟩, ⟨S256x128, shapeCast S256x128 v1 shapeCasts_S1x256x128_S256x128⟩,
      ⟨S256x128, shapeCast S256x128 v2 shapeCasts_S1x256x128_S256x128⟩, ⟨S256x128, shapeCast S256x128 v3 shapeCasts_S1x256x128_S256x128⟩,
      ⟨S256x128, shapeCast S256x128 v4 shapeCasts_S1x256x128_S256x128⟩, ⟨S256x128, shapeCast S256x128 v5 shapeCasts_S1x256x128_S256x128⟩,
      ⟨S256x128, shapeCast S256x128 v6 shapeCasts_S1x256x128_S256x128⟩, ⟨S256x128, shapeCast S256x128 v7 shapeCasts_S1x256x128_S256x128⟩]
      concatenates_S256x128_S256x128_S256x128_S256x128_S256x128_S256x128_S256x128_S256x128_S256x1024_d1
    = heads v0 v1 v2 v3 v4 v5 v6 v7 := rfl

theorem fold_chunk (o : ℕ) (hs : S256x2048.Slices ![0, o] S256x128) (a b : FVec Ideal S256x2048 .f32)
    (ga gb : FVec Ideal S1x256x128 .bf16) :
    truncf .bf16 (addf
      (mulf (extf .f32 (shapeCast S256x128 ga shapeCasts_S1x256x128_S256x128) bitsLt_bf16_f32) (extractStridedSlice S256x128 ![0, o] a hs))
      (mulf (extf .f32 (shapeCast S256x128 gb shapeCasts_S1x256x128_S256x128) bitsLt_bf16_f32) (extractStridedSlice S256x128 ![0, o] b hs)))
      bitsLt_bf16_f32 = chunk o hs a b ga gb := rfl

theorem fold_outHalf (g : FVec Ideal S256x2048 .bf16) (w : FVec Ideal S1x2048x2048 .bf16) (x : FVec Ideal S256x2048 .f32)
    (gt : FVec Ideal S1x1x2048 .f32) :
    addf x (mulf (broadcastTo S256x2048 (addf (broadcast S1x2048 (Scalar.ofBits .f32 0x3F800000#32))
        (shapeCast S1x2048 gt shapeCasts_S1x1x2048_S1x2048)) broadcasts_S1x2048_S256x2048)
      (matmul dot_S256x2048_S2048x2048_S256x2048_1_0_0_1_n_n none g
        (shapeCast S2048x2048 w shapeCasts_S1x2048x2048_S2048x2048) (constant S256x2048 .f32 0x00000000#32)))
    = outHalf g w x gt := rfl

/-- A window of 256 rows of the first branch from row `p`, times its weights. -/
def halfA (p : ℕ) (h : ∀ a, (![p, 0] : Fin 2 → ℕ) a + (![256, 1024] : Fin 2 → ℕ) a ≤ S512x1024.size a)
    (x : FVec Ideal S512x1024 .bf16) (w : FVec Ideal S1x1024x2048 .bf16) : FVec Ideal S256x2048 .f32 :=
  prodA (View.ld (Val := Elt Ideal) (show Vec Ideal S512x1024 .bf16 from x) (Rect.unit ![p, 0] ![256, 1024] h)) w

/-- Rows `p` to `p + 255` of slice `g` lie in a stack of `n` slices. -/
abbrev Fits (n g p : ℕ) : Prop :=
  ∀ a, (![g, p, 0] : Fin 3 → ℕ) a + (![1, 256, 128] : Fin 3 → ℕ) a ≤ (⟨3, ![n, 512, 128]⟩ : Shape).size a

/-- A window of 256 rows from row `p` of one slice of a stack of gates or heads. -/
abbrev slice {n : ℕ} (g p : ℕ) (h : Fits n g p)
    (x : FVec Ideal ⟨3, ![n, 512, 128]⟩ .bf16) : FVec Ideal S1x256x128 .bf16 :=
  View.ld (Val := Elt Ideal) (show Vec Ideal ⟨3, ![n, 512, 128]⟩ .bf16 from x) (Rect.unit ![g, p, 0] ![1, 256, 128] h)

/-- The same rows of the second branch's heads side by side, times its weights. -/
def halfB (p : ℕ) (h0 : Fits 8 0 p) (h1 : Fits 8 1 p) (h2 : Fits 8 2 p) (h3 : Fits 8 3 p)
    (h4 : Fits 8 4 p) (h5 : Fits 8 5 p) (h6 : Fits 8 6 p) (h7 : Fits 8 7 p) (x : FVec Ideal S8x512x128 .bf16) (w : FVec Ideal S1x1024x2048 .bf16) :
    FVec Ideal S256x2048 .f32 :=
  prodA (heads (slice (n := 8) 0 p h0 x) (slice (n := 8) 1 p h1 x) (slice (n := 8) 2 p h2 x) (slice (n := 8) 3 p h3 x)
    (slice (n := 8) 4 p h4 x) (slice (n := 8) 5 p h5 x) (slice (n := 8) 6 p h6 x) (slice (n := 8) 7 p h7 x)) w

/-- A strip of the gated sum, its gates read from their stacks. -/
def strip (g p o : ℕ) (hs : S256x2048.Slices ![0, o] S256x128) (h : Fits 16 g p) (a b : FVec Ideal S256x2048 .f32) (x y : FVec Ideal S16x512x128 .bf16) : FVec Ideal S256x128 .bf16 :=
  chunk o hs a b (slice (n := 16) g p h x) (slice (n := 16) g p h y)

theorem fold_halfA (p : ℕ) (h) (x : FVec Ideal S512x1024 .bf16) (w : FVec Ideal S1x1024x2048 .bf16) :
    prodA (View.ld (Val := Elt Ideal) (show Vec Ideal S512x1024 .bf16 from x) (Rect.unit ![p, 0] ![256, 1024] h)) w = halfA p h x w := rfl

theorem fold_halfB (p : ℕ) (h0 : Fits 8 0 p) (h1 : Fits 8 1 p) (h2 : Fits 8 2 p) (h3 : Fits 8 3 p)
    (h4 : Fits 8 4 p) (h5 : Fits 8 5 p) (h6 : Fits 8 6 p) (h7 : Fits 8 7 p) (x : FVec Ideal S8x512x128 .bf16) (w : FVec Ideal S1x1024x2048 .bf16) :
    prodA (heads (slice (n := 8) 0 p h0 x) (slice (n := 8) 1 p h1 x) (slice (n := 8) 2 p h2 x) (slice (n := 8) 3 p h3 x)
      (slice (n := 8) 4 p h4 x) (slice (n := 8) 5 p h5 x) (slice (n := 8) 6 p h6 x) (slice (n := 8) 7 p h7 x)) w
    = halfB p h0 h1 h2 h3 h4 h5 h6 h7 x w := rfl

theorem fold_strip (g p o : ℕ) (hs : S256x2048.Slices ![0, o] S256x128) (h : Fits 16 g p) (a b : FVec Ideal S256x2048 .f32) (x y : FVec Ideal S16x512x128 .bf16) :
    chunk o hs a b (slice (n := 16) g p h x) (slice (n := 16) g p h y) = strip g p o hs h a b x y := rfl

theorem ld_at (p : ℕ) (h) (x : FVec Ideal S512x1024 .bf16) (R : Fin 512) (r : Fin 256) (hR : (R : ℕ) = p + r) (k : Fin 1024) :
    View.ld (Val := Elt Ideal) (show Vec Ideal S512x1024 .bf16 from x) (Rect.unit ![p, 0] ![256, 1024] h) (ix2 r k) = x (ix2 R k) :=
  View.ld_unit_apply_of (Val := Elt Ideal) (show Vec Ideal S512x1024 .bf16 from x) _ _ _ _ (ix2 R k) fun a => by
    fin_cases a
    · exact hR
    · exact (Nat.zero_add _).symm

theorem slice_at {n : ℕ} (g p : ℕ) (h) (x : FVec Ideal ⟨3, ![n, 512, 128]⟩ .bf16) (G : Fin n) (hG : (G : ℕ) = g) (R : Fin 512) (r : Fin 256)
    (hR : (R : ℕ) = p + r) (d : Fin 128) : slice g p h x (ix3 0 r d) = x (ix3 G R d) :=
  View.ld_unit_apply_of (Val := Elt Ideal) (show Vec Ideal ⟨3, ![n, 512, 128]⟩ .bf16 from x) _ _ _ _ (ix3 G R d) fun a => by
    fin_cases a
    · exact hG
    · exact hR
    · exact (Nat.zero_add _).symm

theorem halfA_at (p : ℕ) (h) (x : FVec Ideal S512x1024 .bf16) (w : FVec Ideal S1x1024x2048 .bf16) (R : Fin 512) (r : Fin 256)
    (hR : (R : ℕ) = p + r) (l : Fin 2048) : halfA p h x w (ix2 r l) = ∑ k : Fin 1024, x (ix2 R k) * w (ix3 0 k l) := by
  rw [halfA, prodA_at]
  exact Finset.sum_congr rfl fun k _ => by rw [ld_at p h x R r hR]

theorem halfB_at (p : ℕ) (h0 : Fits 8 0 p) (h1 : Fits 8 1 p) (h2 : Fits 8 2 p) (h3 : Fits 8 3 p)
    (h4 : Fits 8 4 p) (h5 : Fits 8 5 p) (h6 : Fits 8 6 p) (h7 : Fits 8 7 p) (x : FVec Ideal S8x512x128 .bf16) (w : FVec Ideal S1x1024x2048 .bf16)
    (hp : p + 256 ≤ 512) (R : Fin 512) (r : Fin 256) (hR : (R : ℕ) = p + r) (l : Fin 2048) :
    halfB p h0 h1 h2 h3 h4 h5 h6 h7 x w (ix2 r l)
    = ∑ k : Fin 1024, x (ix3 ⟨k / 128, by omega⟩ R ⟨k % 128, by omega⟩) * w (ix3 0 k l) := by
  have e : ∀ (G : Fin 8) (g : ℕ) (hG : (G : ℕ) = g) (h : Fits 8 g p) (r : Fin 256) (d : Fin 128),
      slice g p h x (ix3 0 r d) = x (ix3 G ⟨p + r, by omega⟩ d) := fun G g hG h r d => slice_at g p h x G hG _ r rfl d
  rw [halfB, prodA_at]
  refine Finset.sum_congr rfl fun k _ => ?_
  rw [heads_at (V := fun G r d => x (ix3 G ⟨p + r, by omega⟩ d)) (e 0 0 rfl h0) (e 1 1 rfl h1) (e 2 2 rfl h2) (e 3 3 rfl h3)
    (e 4 4 rfl h4) (e 5 5 rfl h5) (e 6 6 rfl h6) (e 7 7 rfl h7)]
  have hr : ∀ h, (⟨p + r, h⟩ : Fin 512) = R := fun _ => Fin.ext hR.symm
  simp only [hr]

end Cert.MixKernelIdeal.Value

end
-- ==== Proof.MixTiles.lean ====
/-
  The mixing call, one block: every strip of the gated sum is `merged` at its rows and columns, so the block of the result
  is the residual plus the gated product of `merged` with the output weights.
-/
module

public import proofs.«01_k».proof.Proof.MixBlock

@[expose] public section

set_option maxRecDepth 16384

noncomputable section

open Idealize.ShloMosaic Idealize.ShloMosaic.TcCoe Idealize.SL.Sem

namespace Cert.MixKernelIdeal.Value

open Cert.MixKernelIdeal Cert.MixKernelIdeal.Gen

section
variable (x0 : FVec Ideal S512x1024 .bf16) (x1 : FVec Ideal S8x512x128 .bf16) (x2 x3 : FVec Ideal S1x1024x2048 .bf16)
  (x4 x5 : FVec Ideal S16x512x128 .bf16)

/-- The gated sum of the two branches at a row and a column of the block. -/
def merged (R : Fin 512) (l : Fin 2048) : EReal :=
  x4 (ix3 ⟨l / 128, by omega⟩ R ⟨l % 128, by omega⟩) * (∑ k : Fin 1024, x0 (ix2 R k) * x2 (ix3 0 k l))
    + x5 (ix3 ⟨l / 128, by omega⟩ R ⟨l % 128, by omega⟩)
      * ∑ k : Fin 1024, x1 (ix3 ⟨k / 128, by omega⟩ R ⟨k % 128, by omega⟩) * x3 (ix3 0 k l)

/-- A strip whose columns start at `o = 128 g` and whose rows start at `p` is `merged` there. -/
theorem strip_at (g p o : ℕ) (hs : S256x2048.Slices ![0, o] S256x128) (h : Fits 16 g p) (hA) (h0 : Fits 8 0 p) (h1 : Fits 8 1 p)
    (h2 : Fits 8 2 p) (h3 : Fits 8 3 p) (h4 : Fits 8 4 p) (h5 : Fits 8 5 p) (h6 : Fits 8 6 p) (h7 : Fits 8 7 p)
    (z : S256x128.Idx) (R : Fin 512) (l : Fin 2048) (hR : (R : ℕ) = p + z 0) (hl : (l : ℕ) = o + z 1) (ho : o = 128 * g)
    (hp : p + 256 ≤ 512) :
    strip g p o hs h (halfA p hA x0 x2) (halfB p h0 h1 h2 h3 h4 h5 h6 h7 x1 x3) x4 x5 z = merged x0 x1 x2 x3 x4 x5 R l := by
  have hz0 : (z 0 : ℕ) < 256 := (z 0).isLt
  have hz1 : (z 1 : ℕ) < 128 := (z 1).isLt
  have e : z = ix2 (⟨z 0, hz0⟩ : Fin 256) (⟨z 1, hz1⟩ : Fin 128) := by
    funext a; fin_cases a <;> rfl
  have hg : ((⟨l / 128, by omega⟩ : Fin 16) : ℕ) = g := by show (l : ℕ) / 128 = g; omega
  have hd : (⟨z 1, hz1⟩ : Fin 128) = ⟨l % 128, by omega⟩ := Fin.ext (by show (z 1 : ℕ) = (l : ℕ) % 128; omega)
  rw [e, strip, chunk_at o hs _ _ _ _ ⟨z 0, hz0⟩ ⟨z 1, hz1⟩ l hl, halfA_at p hA x0 x2 R ⟨z 0, hz0⟩ hR,
    halfB_at p _ _ _ _ _ _ _ _ x1 x3 hp R ⟨z 0, hz0⟩ hR,
    slice_at g p h x4 _ hg R ⟨z 0, hz0⟩ hR, slice_at g p h x5 _ hg R ⟨z 0, hz0⟩ hR, hd, merged]

/-- Half a block of the result at a position, given its rows of the gated sum. -/
theorem half_at (p : ℕ) (h : ∀ a, (![p, 0] : Fin 2 → ℕ) a + (![256, 2048] : Fin 2 → ℕ) a ≤ S512x2048.size a)
    (x6 : FVec Ideal S1x2048x2048 .bf16) (x7 : FVec Ideal S512x2048 .f32) (x8 : FVec Ideal S1x1x2048 .f32)
    (g : FVec Ideal S256x2048 .bf16) (M : Fin 512 → Fin 2048 → EReal) (y : S512x2048.Idx) (x : S256x2048.Idx)
    (h0 : (y 0 : ℕ) = p + x 0) (h1 : (y 1 : ℕ) = x 1) (hg : ∀ k, g (ix2 (x 0) k) = M (y 0) k) :
    outHalf g x6 (View.ld (Val := Elt Ideal) (show Vec Ideal S512x2048 .f32 from x7) (Rect.unit ![p, 0] ![256, 2048] h)) x8 x
    = x7 y + ((1 : EReal) + x8 (ix3 0 0 (y 1))) * ∑ k : Fin 2048, M (y 0) k * x6 (ix3 0 k (y 1)) := by
  have e : View.ld (Val := Elt Ideal) (show Vec Ideal S512x2048 .f32 from x7) (Rect.unit ![p, 0] ![256, 2048] h) x = x7 y :=
    View.ld_unit_apply_of (Val := Elt Ideal) (show Vec Ideal S512x2048 .f32 from x7) _ _ _ _ y fun a => by
      fin_cases a
      · exact h0
      · exact h1.trans (Nat.zero_add _).symm
  have e1 : x 1 = y 1 := Fin.ext h1.symm
  rw [outHalf_at, e, e1]
  simp only [hg]

/-- A row and a column of a window of the gated sum, in the whole block. -/
theorem row_idx (p : ℕ) (h : ∀ a, (![p, 0] : Fin 2 → ℕ) a + (![256, 2048] : Fin 2 → ℕ) a ≤ S512x2048.size a)
    (y : S512x2048.Idx) (x : S256x2048.Idx) (h0 : (y 0 : ℕ) = p + x 0) (k : Fin 2048) :
    (Rect.unit (s := S512x2048) ![p, 0] ![256, 2048] h).toLoadRect.idx (ix2 (x 0) k) = ix2 (y 0) k := by
  funext a
  refine Fin.ext ((Rect.idx_unit_val (s := S512x2048) _ _ h (ix2 (x 0) k) a).trans ?_)
  fin_cases a
  · exact h0.symm
  · exact Nat.zero_add _

end

variable (m : (ℓ : Loc nD τ sig) → Buf (Elt Ideal) ℓ)

theorem block_at (c : Dev nD) (t : Fin cfg0.N) (y : S512x2048.Idx) : outsAt0 m c t y
    = (show FVec Ideal S512x2048 .f32 from iblk m c 7 t) y + ((1 : EReal) + (show FVec Ideal S1x1x2048 .f32 from iblk m c 8 t) (ix3 0 0 (y 1)))
      * ∑ k : Fin 2048, merged (iblk m c 0 t) (iblk m c 1 t) (iblk m c 2 t) (iblk m c 3 t) (iblk m c 4 t) (iblk m c 5 t) (y 0) k
        * (show FVec Ideal S1x2048x2048 .bf16 from iblk m c 6 t) (ix3 0 k (y 1)) := by
  generalize hv : (_ : EReal) + _ = v
  unfold outsAt0
  frame_open
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, shapeCast_self,
    fold_prodA, fold_heads, fold_chunk, fold_outHalf, fold_halfA, fold_halfB, fold_strip]
  canon_tiles x h
  · refine (half_at 256 _ _ _ _ _ _ y x h0 h1 fun k => ?_).trans hv
    rw [View.readCov_eq_canon']
    beta_reduce
    rw [row_idx 256 _ y x h0 k]
    canon_tiles z e
    all_goals exact strip_at _ _ _ _ _ _ _ _ _ _ _ _ _ _ _ _ _ _ _ _ z (y 0) k (e0.trans (by omega)) (e1.trans (by omega)) rfl (by omega)
  · refine (half_at 0 _ _ _ _ _ _ y x (h0.trans (Nat.zero_add _).symm) h1 fun k => ?_).trans hv
    rw [View.readCov_eq_canon']
    beta_reduce
    rw [row_idx 0 _ y x (h0.trans (Nat.zero_add _).symm) k]
    canon_tiles z e
    all_goals exact strip_at _ _ _ _ _ _ _ _ _ _ _ _ _ _ _ _ _ _ _ _ z (y 0) k (e0.trans (by omega)) (e1.trans (by omega)) rfl (by omega)

end Cert.MixKernelIdeal.Value

end
-- ==== Proof.MixValue.lean ====
/-
  The mixing call: what its result array holds after the run, as the reference's own term of the argument arrays.  The blocks
  read the arguments through the host's casts, reshapes and transposes (`gates`, `sides`); a block's position is the
  reference at the array position where it sits (`point`), and the blocks tile the array (`final`).
-/
module

public import proofs.«01_k».proof.Proof.MixTiles
public import proofs.«01_k».proof.Proof.Gen.MixReferenceIdeal.Run

@[expose] public section

set_option maxRecDepth 16384

noncomputable section

open Idealize.ShloMosaic Idealize.ShloMosaic.TcCoe Idealize.SL.Sem
open Idealize.ShloMosaic.Pipeline (Dat)

namespace Cert.MixKernelIdeal.Value

open Cert.MixKernelIdeal Cert.MixKernelIdeal.Gen

variable (m : (ℓ : Loc nD τ sig) → Buf (Elt Ideal) ℓ)

/-- The logistic function of an array. -/
def gate (X : FVec Ideal S16x2048x2048 .f32) : FVec Ideal S16x2048x2048 .f32 :=
  Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf X)))

/-- One branch's array times its layer's weights. -/
def branch (Y : FVec Ideal S16x2048x1024 .f32) (W : FVec Ideal S4x1024x2048 .f32) : FVec Ideal S16x2048x2048 .f32 :=
  Host.dotGeneral Cert.MixReferenceIdeal.dot_S16x2048x1024_S1024x2048_S16x2048x2048_2_0_01_1_n_n none Y
    (shapeCast _ (extractStridedSlice Cert.MixReferenceIdeal.S1x1024x2048 ![0, 0, 0] W
      Cert.MixReferenceIdeal.Gen.slices_S4x1024x2048_S1x1024x2048_0_0_0) Cert.MixReferenceIdeal.Gen.shapeCasts_S1x1024x2048_S1024x2048)

/-- The reference's result as a term of its nine arguments. -/
def REF (YA YB : FVec Ideal S16x2048x1024 .f32) (WA WB : FVec Ideal S4x1024x2048 .f32) (WO : FVec Ideal S4x2048x2048 .f32)
    (GA GB X : FVec Ideal S16x2048x2048 .f32) (GT : FVec Ideal S16x1x2048 .f32) : FVec Ideal S32768x2048 .f32 :=
  shapeCast _ (addf X (mulf
    (broadcastInDim Cert.MixReferenceIdeal.S16x2048x2048 ![0, 1, 2] Cert.MixReferenceIdeal.Gen.bcast_S16x1x2048_S16x2048x2048_0_1_2
      (addf (broadcastInDim Cert.MixReferenceIdeal.S16x1x2048 ![] Cert.MixReferenceIdeal.Gen.bcast_S_S16x1x2048 (constant Cert.MixReferenceIdeal.S_ .f32 0x3F800000#32)) GT))
    (Host.dotGeneral Cert.MixReferenceIdeal.dot_S16x2048x2048_S2048x2048_S16x2048x2048_2_0_01_1_n_n none
      (addf (mulf (gate GA) (branch YA WA)) (mulf (gate GB) (branch YB WB)))
      (shapeCast _ (extractStridedSlice Cert.MixReferenceIdeal.S1x2048x2048 ![0, 0, 0] WO Cert.MixReferenceIdeal.Gen.slices_S4x2048x2048_S1x2048x2048_0_0_0)
        Cert.MixReferenceIdeal.Gen.shapeCasts_S1x2048x2048_S2048x2048))))
    Cert.MixReferenceIdeal.Gen.shapeCasts_S16x2048x2048_S32768x2048

theorem branch_at (Y : FVec Ideal S16x2048x1024 .f32) (W : FVec Ideal S4x1024x2048 .f32) (b : Fin 16) (s : Fin 2048) (l : Fin 2048) :
    branch Y W (ix3 b s l) = ∑ k : Fin 1024, Y (ix3 b s k) * W (ix3 0 k l) := by
  pointwise [branch]

/-- The reference at a position of its array. -/
theorem REF_at (YA YB : FVec Ideal S16x2048x1024 .f32) (WA WB : FVec Ideal S4x1024x2048 .f32) (WO : FVec Ideal S4x2048x2048 .f32)
    (GA GB X : FVec Ideal S16x2048x2048 .f32) (GT : FVec Ideal S16x1x2048 .f32) (b : Fin 16) (s : Fin 2048) (R : Fin 32768)
    (hR : (R : ℕ) = 2048 * b + s) (l : Fin 2048) :
    REF YA YB WA WB WO GA GB X GT (ix2 R l)
    = X (ix3 b s l) + ((1 : EReal) + GT (ix3 b 0 l)) * ∑ k : Fin 2048,
      (gate GA (ix3 b s k) * branch YA WA (ix3 b s k) + gate GB (ix3 b s k) * branch YB WB (ix3 b s k)) * WO (ix3 0 k l) := by
  pointwise [REF]
  have hb : ∀ h, (⟨(R : ℕ) / 2048, h⟩ : Fin 16) = b := fun _ => Fin.ext (by show (R : ℕ) / 2048 = b; omega)
  have hs : ∀ h, (⟨(R : ℕ) % 2048, h⟩ : Fin 2048) = s := fun _ => Fin.ext (by show (R : ℕ) % 2048 = s; omega)
  simp only [hb, hs]

/-- The two gates in strips of 128 columns, one array. -/
def gates (GA GB : FVec Ideal S16x2048x2048 .f32) : FVec Ideal S32x32768x128 .bf16 :=
  truncf .bf16 (concatenate S32x32768x128 0
    [⟨S16x32768x128, transpose S16x32768x128 [1, 0, 2] (shapeCast S32768x16x128 (gate GA) shapeCasts_S16x2048x2048_S32768x16x128) transposes_S32768x16x128_S16x32768x128_1_0_2⟩,
     ⟨S16x32768x128, transpose S16x32768x128 [1, 0, 2] (shapeCast S32768x16x128 (gate GB) shapeCasts_S16x2048x2048_S32768x16x128) transposes_S32768x16x128_S16x32768x128_1_0_2⟩]
    concatenates_S16x32768x128_S16x32768x128_S32x32768x128_d0) bitsLt_bf16_f32

/-- The second branch's array with its heads in front. -/
def sides (Y : FVec Ideal S16x2048x1024 .f32) : FVec Ideal S8x32768x128 .bf16 :=
  truncf .bf16 (transpose S8x32768x128 [1, 0, 2] (shapeCast S32768x8x128 Y shapeCasts_S16x2048x1024_S32768x8x128)
    transposes_S32768x8x128_S8x32768x128_1_0_2) bitsLt_bf16_f32

theorem sides_at (Y : FVec Ideal S16x2048x1024 .f32) (h : Fin 8) (R : Fin 32768) (d : Fin 128) (b : Fin 16) (s : Fin 2048)
    (hR : (R : ℕ) = 2048 * b + s) (k : Fin 1024) (hk : (k : ℕ) = 128 * h + d) : sides Y (ix3 h R d) = Y (ix3 b s k) := by
  pointwise [sides]
  congr 1
  blk_ext []

theorem gates_lo (GA GB : FVec Ideal S16x2048x2048 .f32) (g : Fin 32) (R : Fin 32768) (d : Fin 128) (b : Fin 16) (s : Fin 2048)
    (hR : (R : ℕ) = 2048 * b + s) (l : Fin 2048) (hl : (l : ℕ) = 128 * g + d) : gates GA GB (ix3 g R d) = gate GA (ix3 b s l) := by
  have hl' := l.isLt
  pointwise [gates]
  rw [dif_pos (by omega)]
  congr 1
  blk_ext []

theorem gates_hi (GA GB : FVec Ideal S16x2048x2048 .f32) (g : Fin 32) (R : Fin 32768) (d : Fin 128) (b : Fin 16) (s : Fin 2048)
    (hR : (R : ℕ) = 2048 * b + s) (l : Fin 2048) (hl : (l : ℕ) + 2048 = 128 * g + d) : gates GA GB (ix3 g R d) = gate GB (ix3 b s l) := by
  have hd := d.isLt
  pointwise [gates]
  rw [dif_neg (by omega)]
  congr 1
  blk_ext []

/-- Where each window's block sits at grid point `t`, for all points at once. -/
theorem idx : ∀ t : Fin cfg0.N, win0_0.index t = ![t.val, 0] ∧ win0_1.index t = ![0, t.val, 0] ∧ win0_2.index t = ![0, 0, 0]
    ∧ win0_3.index t = ![0, 0, 0] ∧ win0_4.index t = ![0, t.val, 0] ∧ win0_5.index t = ![1, t.val, 0] ∧ win0_6.index t = ![0, 0, 0]
    ∧ win0_7.index t = ![t.val, 0] ∧ win0_8.index t = ![t.val / 4, 0, 0] ∧ win0_9.index t = ![t.val, 0] :=
  (by decide +kernel : ∀ t : Fin grid0.N, _)

abbrev A0 (c : Dev nD) : FVec Ideal S16x2048x1024 .f32 := m ((c : Thread nD τ).loc main_arg0)
abbrev A1 (c : Dev nD) : FVec Ideal S16x2048x1024 .f32 := m ((c : Thread nD τ).loc main_arg1)
abbrev A2 (c : Dev nD) : FVec Ideal S4x1024x2048 .f32 := m ((c : Thread nD τ).loc main_arg2)
abbrev A3 (c : Dev nD) : FVec Ideal S4x1024x2048 .f32 := m ((c : Thread nD τ).loc main_arg3)
abbrev A4 (c : Dev nD) : FVec Ideal S4x2048x2048 .f32 := m ((c : Thread nD τ).loc main_arg4)
abbrev A5 (c : Dev nD) : FVec Ideal S16x2048x2048 .f32 := m ((c : Thread nD τ).loc main_arg5)
abbrev A6 (c : Dev nD) : FVec Ideal S16x2048x2048 .f32 := m ((c : Thread nD τ).loc main_arg6)
abbrev A7 (c : Dev nD) : FVec Ideal S16x2048x2048 .f32 := m ((c : Thread nD τ).loc main_arg7)
abbrev A8 (c : Dev nD) : FVec Ideal S16x1x2048 .f32 := m ((c : Thread nD τ).loc main_arg8)

theorem V_gates (c : Dev nD) : V m c main_v17 = gates (A5 m c) (A6 m c) := by
  simp only [V, hostOps0]
  after_results
  rfl

theorem V_sides (c : Dev nD) : V m c main_v20 = sides (A1 m c) := by
  simp only [V, hostOps0]
  after_results
  rfl

section
variable (c : Dev nD) (t : Fin cfg0.N) (b : Fin 16) (s : Fin 2048) (r : Fin 512) (h : 512 * (t : ℕ) + r = 2048 * b + s)
include h

theorem in0 (k : Fin 1024) : iblk m c 0 t (ix2 r k) = A0 m c (ix3 b s k) := by
  have ht : t.val < 64 := t.isLt
  blk_point [iblk, V, idx t]

theorem in1 (g : Fin 8) (d : Fin 128) (k : Fin 1024) (hk : (k : ℕ) = 128 * g + d) :
    iblk m c 1 t (ix3 g r d) = A1 m c (ix3 b s k) := by
  have ht : t.val < 64 := t.isLt
  have e : iblk m c 1 t (ix3 g r d) = V m c main_v20 (ix3 g (⟨512 * t.val + r, by omega⟩ : Fin 32768) d) := by
    blk_point [iblk, idx t]
  rw [e, V_sides, sides_at _ _ _ _ b s h k hk]

theorem in4 (g : Fin 16) (d : Fin 128) (l : Fin 2048) (hl : (l : ℕ) = 128 * g + d) :
    iblk m c 4 t (ix3 g r d) = gate (A5 m c) (ix3 b s l) := by
  have ht : t.val < 64 := t.isLt
  have e : iblk m c 4 t (ix3 g r d) = V m c main_v17 (ix3 (⟨g, by omega⟩ : Fin 32) (⟨512 * t.val + r, by omega⟩ : Fin 32768) d) := by
    blk_point [iblk, idx t]
  rw [e, V_gates, gates_lo _ _ _ _ _ b s h l hl]

theorem in5 (g : Fin 16) (d : Fin 128) (l : Fin 2048) (hl : (l : ℕ) = 128 * g + d) :
    iblk m c 5 t (ix3 g r d) = gate (A6 m c) (ix3 b s l) := by
  have ht : t.val < 64 := t.isLt
  have e : iblk m c 5 t (ix3 g r d) = V m c main_v17 (ix3 (⟨g + 16, by omega⟩ : Fin 32) (⟨512 * t.val + r, by omega⟩ : Fin 32768) d) := by
    blk_point [iblk, idx t]
  rw [e, V_gates, gates_hi _ _ _ _ _ b s h l (by show (l : ℕ) + 2048 = 128 * ((g : ℕ) + 16) + d; omega)]

theorem in7 (l : Fin 2048) : iblk m c 7 t (ix2 r l) = A7 m c (ix3 b s l) := by
  have ht : t.val < 64 := t.isLt
  blk_point [iblk, V, idx t]

theorem in8 (l : Fin 2048) : iblk m c 8 t (ix3 0 0 l) = A8 m c (ix3 b 0 l) := by
  have ht : t.val < 64 := t.isLt
  blk_point [iblk, V, idx t]

end

theorem in2 (c : Dev nD) (t : Fin cfg0.N) (k : Fin 1024) (l : Fin 2048) : iblk m c 2 t (ix3 0 k l) = A2 m c (ix3 0 k l) := by
  blk_point [iblk, V, idx t]

theorem in3 (c : Dev nD) (t : Fin cfg0.N) (k : Fin 1024) (l : Fin 2048) : iblk m c 3 t (ix3 0 k l) = A3 m c (ix3 0 k l) := by
  blk_point [iblk, V, idx t]

theorem in6 (c : Dev nD) (t : Fin cfg0.N) (k : Fin 2048) (l : Fin 2048) : iblk m c 6 t (ix3 0 k l) = A4 m c (ix3 0 k l) := by
  blk_point [iblk, V, idx t]

/-- The gated sum of a block in other letters. -/
theorem merged_eq {x0 : FVec Ideal S512x1024 .bf16} {x1 : FVec Ideal S8x512x128 .bf16} {x2 x3 : FVec Ideal S1x1024x2048 .bf16}
    {x4 x5 : FVec Ideal S16x512x128 .bf16} {r : Fin 512} {l : Fin 2048} {ga gb : EReal} {ya yb wa wb : Fin 1024 → EReal}
    (h0 : ∀ k, x0 (ix2 r k) = ya k)
    (h1 : ∀ k : Fin 1024, x1 (ix3 (⟨k / 128, by omega⟩ : Fin 8) r (⟨k % 128, by omega⟩ : Fin 128)) = yb k)
    (h2 : ∀ k, x2 (ix3 0 k l) = wa k) (h3 : ∀ k, x3 (ix3 0 k l) = wb k)
    (h4 : x4 (ix3 (⟨l / 128, by omega⟩ : Fin 16) r (⟨l % 128, by omega⟩ : Fin 128)) = ga)
    (h5 : x5 (ix3 (⟨l / 128, by omega⟩ : Fin 16) r (⟨l % 128, by omega⟩ : Fin 128)) = gb) :
    merged x0 x1 x2 x3 x4 x5 r l = ga * (∑ k, ya k * wa k) + gb * ∑ k, yb k * wb k := by
  rw [merged, h4, h5]
  simp only [h0, h1, h2, h3]

/-- The gated sum of a block is the reference's, at the array position where it sits. -/
theorem merged_in (c : Dev nD) (t : Fin cfg0.N) (b : Fin 16) (s : Fin 2048) (r : Fin 512) (h : 512 * (t : ℕ) + r = 2048 * b + s)
    (l : Fin 2048) :
    merged (iblk m c 0 t) (iblk m c 1 t) (iblk m c 2 t) (iblk m c 3 t) (iblk m c 4 t) (iblk m c 5 t) r l
    = gate (A5 m c) (ix3 b s l) * branch (A0 m c) (A2 m c) (ix3 b s l) + gate (A6 m c) (ix3 b s l) * branch (A1 m c) (A3 m c) (ix3 b s l) := by
  have hl : (l : ℕ) = 128 * (l / 128) + l % 128 := (Nat.div_add_mod _ _).symm
  rw [branch_at, branch_at]
  exact merged_eq (fun k => in0 m c t b s r h k) (fun k => in1 m c t b s r h _ _ k (Nat.div_add_mod _ _).symm)
    (fun k => in2 m c t k l) (fun k => in3 m c t k l) (in4 m c t b s r h _ _ l hl) (in5 m c t b s r h _ _ l hl)

/-- A gated residual in other letters. -/
theorem out_eq {x x' g g' : EReal} {u u' w w' : Fin 2048 → EReal} (hx : x = x') (hg : g = g') (hu : ∀ k, u k = u' k)
    (hw : ∀ k, w k = w' k) :
    x + ((1 : EReal) + g) * ∑ k, u k * w k = x' + ((1 : EReal) + g') * ∑ k, u' k * w' k := by
  rw [hx, hg]
  simp only [hu, hw]

/-- What point `t` stores at block position `(r, l)` is the reference at the array position where it sits. -/
theorem point (c : Dev nD) (t : Fin cfg0.N) (r : Fin 512) (l : Fin 2048) :
    outsAt0 m c t (ix2 r l)
    = REF (A0 m c) (A1 m c) (A2 m c) (A3 m c) (A4 m c) (A5 m c) (A6 m c) (A7 m c) (A8 m c) (((cfg0.win 9).blk t).view.emb (ix2 r l)) := by
  have ht : t.val < 64 := t.isLt
  have e : ((cfg0.win 9).blk t).view.emb (ix2 r l) = ix2 (⟨512 * t.val + r.val, by omega⟩ : Fin 32768) l := by
    blk_ext [idx t]
  have h : 512 * (t : ℕ) + r = 2048 * (⟨(512 * t.val + r) / 2048, by omega⟩ : Fin 16) + (⟨(512 * t.val + r) % 2048, by omega⟩ : Fin 2048) :=
    (Nat.div_add_mod _ _).symm
  rw [e, REF_at _ _ _ _ _ _ _ _ _ _ _ _ h]
  exact (block_at m c t (ix2 r l)).trans (out_eq (in7 m c t _ _ r h l) (in8 m c t _ _ r h l) (fun k => merged_in m c t _ _ r h k)
    (fun k => in6 m c t k l))

/-- The result array after the run. -/
theorem final (c : Dev nD) : (dats m 0 c).arrAt 9 (cfgs 0).N
    = REF (A0 m c) (A1 m c) (A2 m c) (A3 m c) (A4 m c) (A5 m c) (A6 m c) (A7 m c) (A8 m c) := by
  refine (dats m 0 c).arrAt_eq_of_covers 9 _ (by decide +kernel) fun t _ y => ?_
  blk_simp
  rw [after0_9]
  idx_vars y
  exact point m c t _ _

end Cert.MixKernelIdeal.Value

end
-- ==== Proof.MixClaims.lean ====
/-
  The mixing call: its claims, from the two programs' runs and the equation between their results.
-/
module

public import proofs.«01_k».proof.Defs
public import proofs.«01_k».proof.Proof.Gen.MixKernel.Frame
public import proofs.«01_k».proof.Proof.MixValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem mix_frame : Cert.quiescent_MixKernel := fun m ρ _ => Cert.MixKernel.Gen.frame m ρ

theorem mix_frame_ideal : Cert.quiescent_MixKernelIdeal := fun m ρ _ => Cert.MixKernelIdeal.Gen.frame m ρ

theorem mix_frame_reference : Cert.quiescent_MixReferenceIdeal :=
  fun m ρ _ => (θ_run _ _ _).mono (fun r h => ⟨fun c => (h c).2, sem_eq_zero_of_no_sems rfl r.2⟩)
    (Cert.MixReferenceIdeal.Value.run m ρ)

theorem mix_preserves : Cert.preserves_MixKernel_MixKernelIdeal := trivial

theorem mix_algebraic : Cert.algebraic_MixKernelIdeal_MixReferenceIdeal := by
  pair_intro
  · run_from Cert.MixKernelIdeal.Gen.run_main m g
  · run_from Cert.MixReferenceIdeal.Value.run m' g'
    exact (Cert.MixKernelIdeal.Value.final m c).symm

end Cert.Proof

end
-- ==== Proof.NormValue.lean ====
/-
  The final normalisation: what the call's result array holds after the run, as the reference's own term of the
  argument arrays.  Every grid point writes a block of 1024 rows whole.
-/
module

public import proofs.«01_k».proof.Proof.Gen.NormKernelIdeal.Value
public import proofs.«01_k».proof.Proof.Gen.NormReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormKernelIdeal.Value

open Cert.NormKernelIdeal Cert.NormKernelIdeal.Gen

variable (m : (ℓ : Loc nD τ sig) → Buf (Elt Ideal) ℓ)

/-- The reference's result as a term of its two arguments. -/
abbrev REF (X : FVec Ideal S16x2048x2048 .f32) (G : FVec Ideal S2048 .f32) : FVec Ideal S32768x2048 .f32 :=
  shapeCast _ (mulf (mulf X
    (broadcastInDim Cert.NormReferenceIdeal.S16x2048x2048 ![0, 1, 2] Cert.NormReferenceIdeal.Gen.bcast_S16x2048x1_S16x2048x2048_0_1_2
      (Host.rsqrt (addf
        (Host.divf
          (broadcastInDim Cert.NormReferenceIdeal.S16x2048x1 ![0, 1] Cert.NormReferenceIdeal.Gen.bcast_S16x2048_S16x2048x1_0_1
            (Host.reduceAdd (mulf X X) (constant Cert.NormReferenceIdeal.S_ .f32 0x00000000#32)
              Cert.NormReferenceIdeal.Gen.reducesTo_S16x2048x2048_S16x2048_d2 Cert.NormReferenceIdeal.Gen.h_S_))
          (broadcastInDim Cert.NormReferenceIdeal.S16x2048x1 ![] Cert.NormReferenceIdeal.Gen.bcast_S_S16x2048x1 (constant Cert.NormReferenceIdeal.S_ .f32 0x45000000#32)))
        (broadcastInDim Cert.NormReferenceIdeal.S16x2048x1 ![] Cert.NormReferenceIdeal.Gen.bcast_S_S16x2048x1 (constant Cert.NormReferenceIdeal.S_ .f32 0x358637BD#32))))))
    (broadcastInDim Cert.NormReferenceIdeal.S16x2048x2048 ![0, 1, 2] Cert.NormReferenceIdeal.Gen.bcast_S1x1x2048_S16x2048x2048_0_1_2
      (broadcastInDim Cert.NormReferenceIdeal.S1x1x2048 ![2] Cert.NormReferenceIdeal.Gen.bcast_S2048_S1x1x2048_2 G)))
    Cert.NormReferenceIdeal.Gen.shapeCasts_S16x2048x2048_S32768x2048

/-- A row's element, divided by the root of the row's mean square plus a constant, times the weight. -/
def normed (row : Fin 2048 → EReal) (g : EReal) (l : Fin 2048) : EReal :=
  row l * Ideal.rsqrt (Ideal.div (∑ k, row k * row k) (Ideal.ofBits .f32 0x45000000#32) + Ideal.ofBits .f32 0x358637BD#32) * g

/-- The payload at a position of its block. -/
theorem pay_at (x0 : FVec Ideal S1024x2048 .f32) (x1 : FVec Ideal S1x2048 .f32) (r : Fin 1024) (l : Fin 2048) :
    k0_pay1 (F := Ideal) x0 x1 (ix2 r l) = normed (fun k => x0 (ix2 r k)) (x1 (ix2 0 l)) l := by
  pointwise [k0_pay1, normed]

/-- The reference at a position of its array. -/
theorem REF_at (X : FVec Ideal S16x2048x2048 .f32) (G : FVec Ideal S2048 .f32) (R : Fin 32768) (l : Fin 2048) :
    REF X G (ix2 R l)
    = normed (fun k => X (ix3 ⟨R.val / 2048, by omega⟩ ⟨R.val % 2048, by omega⟩ k)) (G (ix1 l)) l := by
  pointwise [REF, normed]

/-- Where each window's block sits at grid point `t`, for all points at once. -/
theorem idx : ∀ t : Fin cfg0.N, win0_0.index t = ![t.val, 0] ∧ win0_1.index t = ![0, 0] ∧ win0_2.index t = ![t.val, 0] :=
  (by decide +kernel : ∀ t : Fin grid0.N, _)

/-- What point `t` stores at block position `(r, l)` is the reference at the array position where it sits. -/
theorem point (c : Dev nD) (t : Fin cfg0.N) (r : Fin 1024) (l : Fin 2048) :
    k0_pay1 (iblk m c 0 t) (iblk m c 1 t) (ix2 r l)
    = REF (m ((c : Thread nD τ).loc main_arg0)) (m ((c : Thread nD τ).loc main_arg1)) (((cfg0.win 2).blk t).view.emb (ix2 r l)) := by
  have ht : t.val < 32 := t.isLt
  have e : ((cfg0.win 2).blk t).view.emb (ix2 r l) = ix2 (⟨t.val * 1024 + r.val, by omega⟩ : Fin 32768) l := by
    blk_ext [idx t]
  rw [e, pay_at, REF_at]
  refine congr (congr (congrArg normed (funext fun k => ?_)) ?_) rfl
  · blk_point [iblk, V, idx t]
  · blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  exact point m c t _ _

end Cert.NormKernelIdeal.Value

end
-- ==== Proof.NormClaims.lean ====
/-
  The final normalisation: its claims, from the two programs' runs and the equation between their results.
-/
module

public import proofs.«01_k».proof.Defs
public import proofs.«01_k».proof.Proof.Gen.NormKernel.Frame
public import proofs.«01_k».proof.Proof.NormValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem norm_frame : Cert.quiescent_NormKernel := fun m ρ _ => Cert.NormKernel.Gen.frame m ρ

theorem norm_frame_ideal : Cert.quiescent_NormKernelIdeal := fun m ρ _ => Cert.NormKernelIdeal.Gen.frame m ρ

theorem norm_frame_reference : Cert.quiescent_NormReferenceIdeal :=
  fun m ρ _ => (θ_run _ _ _).mono (fun r h => ⟨fun c => (h c).2, sem_eq_zero_of_no_sems rfl r.2⟩)
    (Cert.NormReferenceIdeal.Value.run m ρ)

theorem norm_preserves : Cert.preserves_NormKernel_NormKernelIdeal := trivial

theorem norm_algebraic : Cert.algebraic_NormKernelIdeal_NormReferenceIdeal := by
  pair_intro
  · run_from Cert.NormKernelIdeal.Gen.run_main m g
  · run_from Cert.NormReferenceIdeal.Value.run m' g'
    exact (Cert.NormKernelIdeal.Value.final m c).symm

end Cert.Proof

end
-- ==== Proof.ModValue.lean ====
/-
  The modulation: what the call's result array holds after the run, as the reference's own term of the argument arrays.  Every
  grid point writes one layer's block of 1024 columns whole.
-/
module

public import proofs.«01_k».proof.Proof.Gen.ModKernelIdeal.Value
public import proofs.«01_k».proof.Proof.Gen.ModReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModKernelIdeal.Value

open Cert.ModKernelIdeal Cert.ModKernelIdeal.Gen

variable (m : (ℓ : Loc nD τ sig) → Buf (Elt Ideal) ℓ)

/-- The reference's result as a term of its three arguments. -/
abbrev REF (C : FVec Ideal S16x2048 .f32) (W : FVec Ideal S4x2048x12288 .f32) (B : FVec Ideal S4x12288 .f32) : FVec Ideal S4x16x12288 .f32 :=
  addf (transpose Cert.ModReferenceIdeal.S4x16x12288 [0, 2, 1]
      (Host.dotGeneral Cert.ModReferenceIdeal.dot_S4x2048x12288_S16x2048_S4x12288x16_1_1_02_0_n_n none W
        (mulf C (Host.divf (broadcastInDim Cert.ModReferenceIdeal.S16x2048 ![] Cert.ModReferenceIdeal.Gen.bcast_S_S16x2048 (constant Cert.ModReferenceIdeal.S_ .f32 0x3F800000#32))
          (addf (broadcastInDim Cert.ModReferenceIdeal.S16x2048 ![] Cert.ModReferenceIdeal.Gen.bcast_S_S16x2048 (constant Cert.ModReferenceIdeal.S_ .f32 0x3F800000#32))
            (Host.exp (Host.negf C))))))
      Cert.ModReferenceIdeal.Gen.transposes_S4x12288x16_S4x16x12288_0_2_1)
    (broadcastInDim Cert.ModReferenceIdeal.S4x16x12288 ![0, 1, 2] Cert.ModReferenceIdeal.Gen.bcast_S4x1x12288_S4x16x12288_0_1_2
      (broadcastInDim Cert.ModReferenceIdeal.S4x1x12288 ![0, 2] Cert.ModReferenceIdeal.Gen.bcast_S4x12288_S4x1x12288_0_2 B))

/-- Where each window's block sits at grid point `t`, for all points at once. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The payload at a position of its block. -/
theorem pay_at (x0 : FVec Ideal S16x2048 .f32) (x1 : FVec Ideal S1x2048x1024 .f32) (x2 : FVec Ideal S1x1x1024 .f32) (b : Fin 16) (n : Fin 1024) :
    k0_pay1 x0 x1 x2 (ix3 0 b n)
    = (∑ k : Fin 2048, x1 (ix3 0 k n) * (x0 (ix2 b k) * Ideal.logistic (x0 (ix2 b k)))) + x2 (ix3 0 0 n) := by
  have h : k0_pay1 x0 x1 x2 (ix3 0 b n)
      = (∑ k : Fin 2048, (x0 (ix2 b k) * Ideal.logistic (x0 (ix2 b k))) * x1 (ix3 0 k n)) + x2 (ix3 0 0 n) := by
    pointwise [k0_pay1, Ideal.logistic]
  rw [h]
  exact congrArg (· + x2 (ix3 0 0 n)) (Finset.sum_congr rfl fun k _ => mul_comm _ _)

/-- The reference at a position of its array. -/
theorem REF_at (C : FVec Ideal S16x2048 .f32) (W : FVec Ideal S4x2048x12288 .f32) (B : FVec Ideal S4x12288 .f32) (l : Fin 4) (b : Fin 16) (n : Fin 12288) :
    REF C W B (ix3 l b n)
    = (∑ k : Fin 2048, W (ix3 l k n) * (C (ix2 b k) * Ideal.logistic (C (ix2 b k)))) + B (ix2 l n) := by
  pointwise [REF, Ideal.logistic]

/-- What point `t` stores at block position `(b, n)` is the reference at the array position where it sits. -/
theorem point (c : Dev nD) (t : Fin cfg0.N) (b : Fin 16) (n : Fin 1024) :
    k0_pay1 (iblk m c 0 t) (iblk m c 1 t) (iblk m c 2 t) (ix3 0 b n)
    = REF (m ((c : Thread nD τ).loc main_arg0)) (m ((c : Thread nD τ).loc main_arg1))
        (m ((c : Thread nD τ).loc main_arg2)) (((cfg0.win 3).blk t).view.emb (ix3 0 b n)) := by
  have ht : t.val < 48 := t.isLt
  have e : ((cfg0.win 3).blk t).view.emb (ix3 0 b n)
      = ix3 (⟨t.val / 12, by omega⟩ : Fin 4) b (⟨1024 * (t.val % 12) + n.val, by omega⟩ : Fin 12288) := by
    blk_ext [idx t]
  rw [e, pay_at, REF_at]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  obtain rfl : y0 = 0 := Subsingleton.elim _ _
  exact point m c t y1 y2

end Cert.ModKernelIdeal.Value

end
-- ==== Proof.ModClaims.lean ====
/-
  The modulation: its claims, from the two programs' runs and the equation between their results.
-/
module

public import proofs.«01_k».proof.Defs
public import proofs.«01_k».proof.Proof.Gen.ModKernel.Frame
public import proofs.«01_k».proof.Proof.ModValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem mod_frame : Cert.quiescent_ModKernel := fun m ρ _ => Cert.ModKernel.Gen.frame m ρ

theorem mod_frame_ideal : Cert.quiescent_ModKernelIdeal := fun m ρ _ => Cert.ModKernelIdeal.Gen.frame m ρ

theorem mod_frame_reference : Cert.quiescent_ModReferenceIdeal :=
  fun m ρ _ => (θ_run _ _ _).mono (fun r h => ⟨fun c => (h c).2, sem_eq_zero_of_no_sems rfl r.2⟩)
    (Cert.ModReferenceIdeal.Value.run m ρ)

theorem mod_preserves : Cert.preserves_ModKernel_ModKernelIdeal := trivial

theorem mod_algebraic : Cert.algebraic_ModKernelIdeal_ModReferenceIdeal := by
  pair_intro
  · run_from Cert.ModKernelIdeal.Gen.run_main m g
  · run_from Cert.ModReferenceIdeal.Value.run m' g'
    exact (Cert.ModKernelIdeal.Value.final m c).symm

end Cert.Proof

end
-- ==== Proof.lean ====
/-
  The proof of `Cert.Claim` (proofs.«01_k».proof.Defs): the witnesses of the programs' stated facts, then each claim as its
  own module proves it.
-/
module

public import proofs.«01_k».proof.Defs
public import proofs.«01_k».proof.Proof.SbClaims
public import proofs.«01_k».proof.Proof.InClaims
public import proofs.«01_k».proof.Proof.UpClaims
public import proofs.«01_k».proof.Proof.DownClaims
public import proofs.«01_k».proof.Proof.MixClaims
public import proofs.«01_k».proof.Proof.NormClaims
public import proofs.«01_k».proof.Proof.ModClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.InKernel.Gen.facts, Cert.InKernelIdeal.Gen.facts, Cert.InReferenceIdeal.Gen.facts, Cert.UpKernel.Gen.facts, Cert.UpKernelIdeal.Gen.facts, Cert.UpReferenceIdeal.Gen.facts, Cert.DownKernel.Gen.facts, Cert.DownKernelIdeal.Gen.facts, Cert.DownReferenceIdeal.Gen.facts, Cert.MixKernel.Gen.facts, Cert.MixKernelIdeal.Gen.facts, Cert.MixReferenceIdeal.Gen.facts, Cert.NormKernel.Gen.facts, Cert.NormKernelIdeal.Gen.facts, Cert.NormReferenceIdeal.Gen.facts, Cert.ModKernel.Gen.facts, Cert.ModKernelIdeal.Gen.facts, Cert.ModReferenceIdeal.Gen.facts, Cert.Pre_finite.Gen.facts,
    sb_frame, sb_frame_ideal, sb_frame_ideal_finite, sb_frame_reference, sb_frame_reference_finite, in_frame, in_frame_ideal, in_frame_reference, up_frame, up_frame_ideal, up_frame_reference, down_frame, down_frame_ideal, down_frame_reference, mix_frame, mix_frame_ideal, mix_frame_reference, norm_frame, norm_frame_ideal, norm_frame_reference, mod_frame, mod_frame_ideal, mod_frame_reference, sb_preserves, sb_algebraic, in_preserves, in_algebraic, up_preserves, up_algebraic, down_preserves, down_algebraic, mix_preserves, mix_algebraic, norm_preserves, norm_algebraic, mod_preserves, mod_algebraic⟩

end Cert.Proof

end
